-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def preserves_Kernel_KernelIdeal : Prop :=
  IdealRules.named_const.Statement Cert.KernelIdeal.κ "inv96" .f32 0x3C2AAAAB#32 ((1 / 96 : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "inv96" .f32 0x3C2AAAAB#32 ((1 / 96 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v25_0)) (v1 : (c : Dev Cert.Kernel3Ideal.nD) → Buf (Elt Ideal) ((c.tc : Thread Cert.Kernel3Ideal.nD Cert.Kernel3Ideal.τ).loc Cert.Kernel3Ideal.main_v25_1)) (v2 : (c : Dev Cert.Kernel3Ideal.nD) → Buf (Elt Ideal) ((c.tc : Thread Cert.Kernel3Ideal.nD Cert.Kernel3Ideal.τ).loc Cert.Kernel3Ideal.main_v25_2)) (v3 : (c : Dev Cert.Kernel3Ideal.nD) → Buf (Elt Ideal) ((c.tc : Thread Cert.Kernel3Ideal.nD Cert.Kernel3Ideal.τ).loc Cert.Kernel3Ideal.main_v25_3)) (v4 : (c : Dev Cert.Kernel3Ideal.nD) → Buf (Elt Ideal) ((c.tc : Thread Cert.Kernel3Ideal.nD Cert.Kernel3Ideal.τ).loc Cert.Kernel3Ideal.main_v25_4)) (v5 : (c : Dev Cert.Kernel3Ideal.nD) → Buf (Elt Ideal) ((c.tc : Thread Cert.Kernel3Ideal.nD Cert.Kernel3Ideal.τ).loc Cert.Kernel3Ideal.main_v25_5)) (v6 : (c : Dev Cert.Kernel3Ideal.nD) → Buf (Elt Ideal) ((c.tc : Thread Cert.Kernel3Ideal.nD Cert.Kernel3Ideal.τ).loc Cert.Kernel3Ideal.main_v25_6)) (v7 : (c : Dev Cert.Kernel3Ideal.nD) → Buf (Elt Ideal) ((c.tc : Thread Cert.Kernel3Ideal.nD Cert.Kernel3Ideal.τ).loc Cert.Kernel3Ideal.main_v25_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25_0) = v0 c
          ∧ r.2.mem ((c.tc : Thread Cert.Kernel3Ideal.nD Cert.Kernel3Ideal.τ).loc Cert.Kernel3Ideal.main_v25_1) = v1 c
          ∧ r.2.mem ((c.tc : Thread Cert.Kernel3Ideal.nD Cert.Kernel3Ideal.τ).loc Cert.Kernel3Ideal.main_v25_2) = v2 c
          ∧ r.2.mem ((c.tc : Thread Cert.Kernel3Ideal.nD Cert.Kernel3Ideal.τ).loc Cert.Kernel3Ideal.main_v25_3) = v3 c
          ∧ r.2.mem ((c.tc : Thread Cert.Kernel3Ideal.nD Cert.Kernel3Ideal.τ).loc Cert.Kernel3Ideal.main_v25_4) = v4 c
          ∧ r.2.mem ((c.tc : Thread Cert.Kernel3Ideal.nD Cert.Kernel3Ideal.τ).loc Cert.Kernel3Ideal.main_v25_5) = v5 c
          ∧ r.2.mem ((c.tc : Thread Cert.Kernel3Ideal.nD Cert.Kernel3Ideal.τ).loc Cert.Kernel3Ideal.main_v25_6) = v6 c
          ∧ r.2.mem ((c.tc : Thread Cert.Kernel3Ideal.nD Cert.Kernel3Ideal.τ).loc Cert.Kernel3Ideal.main_v25_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v108) = v0 c
          ∧ r.2.mem ((c.tc : Thread Cert.Reference3Ideal.nD Cert.Reference3Ideal.τ).loc Cert.Reference3Ideal.main_v111) = v1 c
          ∧ r.2.mem ((c.tc : Thread Cert.Reference3Ideal.nD Cert.Reference3Ideal.τ).loc Cert.Reference3Ideal.main_v112) = v2 c
          ∧ r.2.mem ((c.tc : Thread Cert.Reference3Ideal.nD Cert.Reference3Ideal.τ).loc Cert.Reference3Ideal.main_v113) = v3 c
          ∧ r.2.mem ((c.tc : Thread Cert.Reference3Ideal.nD Cert.Reference3Ideal.τ).loc Cert.Reference3Ideal.main_v120) = v4 c
          ∧ r.2.mem ((c.tc : Thread Cert.Reference3Ideal.nD Cert.Reference3Ideal.τ).loc Cert.Reference3Ideal.main_v127) = v5 c
          ∧ r.2.mem ((c.tc : Thread Cert.Reference3Ideal.nD Cert.Reference3Ideal.τ).loc Cert.Reference3Ideal.main_v44) = v6 c
          ∧ r.2.mem ((c.tc : Thread Cert.Reference3Ideal.nD Cert.Reference3Ideal.τ).loc Cert.Reference3Ideal.main_v28) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v41) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_inputs.lean ====
abbrev S2x1024x1024 : Shape := ⟨3, ![2, 1024, 1024]⟩
abbrev S512x2048 : Shape := ⟨2, ![512, 2048]⟩
abbrev S2x512x256 : Shape := ⟨3, ![2, 512, 256]⟩
abbrev S2x512x32 : Shape := ⟨3, ![2, 512, 32]⟩
abbrev S256x1024 : Shape := ⟨2, ![256, 1024]⟩
abbrev S96 : Shape := ⟨1, ![96]⟩
abbrev S1024x1024 : Shape := ⟨2, ![1024, 1024]⟩
abbrev S_ : Shape := ⟨0, ![]⟩

class Facts : Prop where
  bitsLt_bf16_f32 : FTy.bits .bf16 < FTy.bits .f32
  bcast_S_S2x1024x1024 : S_.BroadcastsInDim S2x1024x1024 (![] : Fin 0 → Fin S2x1024x1024.rank)
  reducesTo_S2x1024x1024_S_d0_1_2 : S2x1024x1024.ReducesTo [0, 1, 2] S_
  h_S_ : 0 < S_.numel
  bcast_S_S2x512x256 : S_.BroadcastsInDim S2x512x256 (![] : Fin 0 → Fin S2x512x256.rank)
  reducesTo_S2x512x256_S_d0_1_2 : S2x512x256.ReducesTo [0, 1, 2] S_
  bcast_S_S2x512x32 : S_.BroadcastsInDim S2x512x32 (![] : Fin 0 → Fin S2x512x32.rank)
  reducesTo_S2x512x32_S_d0_1_2 : S2x512x32.ReducesTo [0, 1, 2] S_
  bcast_S_S256x1024 : S_.BroadcastsInDim S256x1024 (![] : Fin 0 → Fin S256x1024.rank)
  reducesTo_S256x1024_S_d0_1 : S256x1024.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg5 : FVec F S256x1024 .f32) (main_arg6 : FVec F S96 .f32) (main_v15 : IVec S_ 1) (main_v16 : FVec F S2x512x32 .f32) (main_cst_4 : FVec F S_ .f32) : IVec S_ 1 :=
  let main_v17 : FVec F S2x512x32 .f32 := broadcastInDim S2x512x32 ![] bcast_S_S2x512x32 main_cst_4
  let main_v18 : IVec S2x512x32 1 := cmpf .olt main_v16 main_v17
  let main_c_5 : IVec S_ 1 := constantI S_ 1 1#1
  let main_v19 : IVec S_ 1 := (fun x v => Host.reduce IntOp.andi x v reducesTo_S2x512x32_S_d0_1_2 h_S_) main_v18 main_c_5
  let main_v20 : IVec S_ 1 := andi main_v15 main_v19
  let main_v21 : FVec F S256x1024 .f32 := Host.absf main_arg5
  let main_cst_6 : FVec F S_ .f32 := constant S_ .f32 0x7F800000#32
  let main_v22 : FVec F S256x1024 .f32 := broadcastInDim S256x1024 ![] bcast_S_S256x1024 main_cst_6
  let main_v23 : IVec S256x1024 1 := cmpf .olt main_v21 main_v22
  let main_c_7 : IVec S_ 1 := constantI S_ 1 1#1
  let main_v24 : IVec S_ 1 := (fun x v => Host.reduce IntOp.andi x v reducesTo_S256x1024_S_d0_1 h_S_) main_v23 main_c_7
  let main_v25 : IVec S_ 1 := andi main_v20 main_v24
  let main_v26 : FVec F S96 .f32 := Host.absf main_arg6
  let main_cst_8 : FVec F S_ .f32 := constant S_ .f32 0x7F800000#32
  let main_v27 : FVec F S96 .f32 := broadcastInDim S96 ![] bcast_S_S96 main_cst_8
  let main_v28 : IVec S96 1 := cmpf .olt main_v26 main_v27
  let main_c_9 : IVec S_ 1 := constantI S_ 1 1#1
  let main_v29 : IVec S_ 1 := (fun x v => Host.reduce IntOp.andi x v reducesTo_S96_S_d0 h_S_) main_v28 main_c_9
  let main_v30 : IVec S_ 1 := andi main_v25 main_v29
  main_v30

def fn {F : FTy → Type} [FloatOps F] (main_arg0 : FVec F S2x1024x1024 .bf16) (main_arg1 : FVec F S2x1024x1024 .bf16) (main_arg2 : FVec F S512x2048 .bf16) (main_arg3 : FVec F S2x512x256 .f32) (main_arg4 : FVec F S2x512x32 .f32) (main_arg5 : FVec F S256x1024 .f32) (main_arg6 : FVec F S96 .f32) (main_arg7 : FVec F S2x1024x1024 .bf16) (main_arg8 : FVec F S1024x1024 .bf16) (main_arg9 : FVec F S1024x1024 .bf16) : IVec S_ 1 :=
  let main_v0 : FVec F S2x1024x1024 .f32 := (extf .f32 · bitsLt_bf16_f32) main_arg0
  let main_v1 : FVec F S2x1024x1024 .f32 := Host.absf main_v0
  let main_cst : FVec F S_ .f32 := constant S_ .f32 0x7F800000#32
  let main_v2 : FVec F S2x1024x1024 .f32 := broadcastInDim S2x1024x1024 ![] bcast_S_S2x1024x1024 main_cst
  let main_v3 : IVec S2x1024x1024 1 := cmpf .olt main_v1 main_v2
  let main_c : IVec S_ 1 := constantI S_ 1 1#1
  let main_v4 : IVec S_ 1 := (fun x v => Host.reduce IntOp.andi x v reducesTo_S2x1024x1024_S_d0_1_2 h_S_) main_v3 main_c
  let main_v5 : FVec F S2x1024x1024 .f32 := (extf .f32 · bitsLt_bf16_f32) main_arg1
  let main_v6 : FVec F S2x1024x1024 .f32 := Host.absf main_v5
  let main_cst_0 : FVec F S_ .f32 := constant S_ .f32 0x7F800000#32
  let main_v7 : FVec F S2x1024x1024 .f32 := broadcastInDim S2x1024x1024 ![] bcast_S_S2x1024x1024 main_cst_0
  let main_v8 : IVec S2x1024x1024 1 := cmpf .olt main_v6 main_v7
  let main_c_1 : IVec S_ 1 := constantI S_ 1 1#1
  let main_v9 : IVec S_ 1 := (fun x v => Host.reduce IntOp.andi x v reducesTo_S2x1024x1024_S_d0_1_2 h_S_) main_v8 main_c_1
  let main_v10 : IVec S_ 1 := andi main_v4 main_v9
  let main_v11 : FVec F S2x512x256 .f32 := Host.absf main_arg3
  let main_cst_2 : FVec F S_ .f32 := constant S_ .f32 0x7F800000#32
  let main_v12 : FVec F S2x512x256 .f32 := broadcastInDim S2x512x256 ![] bcast_S_S2x512x256 main_cst_2
  let main_v13 : IVec S2x512x256 1 := cmpf .olt main_v11 main_v12
  let main_c_3 : IVec S_ 1 := constantI S_ 1 1#1
  let main_v14 : IVec S_ 1 := (fun x v => Host.reduce IntOp.andi x v reducesTo_S2x512x256_S_d0_1_2 h_S_) main_v13 main_c_3
  let main_v15 : IVec S_ 1 := andi main_v10 main_v14
  let main_v16 : FVec F S2x512x32 .f32 := Host.absf main_arg4
  let main_cst_4 : FVec F S_ .f32 := constant S_ .f32 0x7F800000#32
  fn_part1 (F := F) main_arg5 main_arg6 main_v15 main_v16 main_cst_4
-- ==== Kernel.lean ====
abbrev S2x1024x1024 : Shape := ⟨3, ![2, 1024, 1024]⟩
abbrev S512x2048 : Shape := ⟨2, ![512, 2048]⟩
abbrev S2x512x256 : Shape := ⟨3, ![2, 512, 256]⟩
abbrev S2x512x32 : Shape := ⟨3, ![2, 512, 32]⟩
abbrev S256x1024 : Shape := ⟨2, ![256, 1024]⟩
abbrev S96 : Shape := ⟨1, ![96]⟩
abbrev S1024x1024 : Shape := ⟨2, ![1024, 1024]⟩
abbrev S256x8x128 : Shape := ⟨3, ![256, 8, 128]⟩
abbrev S256x8x64 : Shape := ⟨3, ![256, 8, 64]⟩
abbrev S_ : Shape := ⟨0, ![]⟩
abbrev S256x512 : Shape := ⟨2, ![256, 512]⟩
abbrev S512x256 : Shape := ⟨2, ![512, 256]⟩
abbrev S128 : Shape := ⟨1, ![128]⟩
abbrev S1x128 : Shape := ⟨2, ![1, 128]⟩
abbrev S2x512x128 : Shape := ⟨3, ![2, 512, 128]⟩
abbrev S2x1024x512 : Shape := ⟨3, ![2, 1024, 512]⟩
abbrev S1x256x1024 : Shape := ⟨3, ![1, 256, 1024]⟩
abbrev S1x1024x1024 : Shape := ⟨3, ![1, 1024, 1024]⟩
abbrev S512x1024 : Shape := ⟨2, ![512, 1024]⟩
abbrev S1x512x256 : Shape := ⟨3, ![1, 512, 256]⟩
abbrev S1x512x128 : Shape := ⟨3, ![1, 512, 128]⟩
abbrev S1x256x512 : Shape := ⟨3, ![1, 256, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S256x128 : Shape := ⟨2, ![256, 128]⟩
abbrev S8x512x256 : Shape := ⟨3, ![8, 512, 256]⟩
abbrev S1024x128 : Shape := ⟨2, ![1024, 128]⟩
abbrev S1024x256 : Shape := ⟨2, ![1024, 256]⟩
abbrev S1x1024x256 : Shape := ⟨3, ![1, 1024, 256]⟩
abbrev S8x1024x256 : Shape := ⟨3, ![8, 1024, 256]⟩
abbrev S8x256 : Shape := ⟨2, ![8, 256]⟩
abbrev S8x1x256 : Shape := ⟨3, ![8, 1, 256]⟩
abbrev S1x1x256 : Shape := ⟨3, ![1, 1, 256]⟩
abbrev S1x256 : Shape := ⟨2, ![1, 256]⟩
abbrev S256x256 : Shape := ⟨2, ![256, 256]⟩
abbrev S1x256x256 : Shape := ⟨3, ![1, 256, 256]⟩
abbrev S256 : Shape := ⟨1, ![256]⟩
abbrev S64x512 : Shape := ⟨2, ![64, 512]⟩
abbrev S64x256 : Shape := ⟨2, ![64, 256]⟩
abbrev S64x1024 : Shape := ⟨2, ![64, 1024]⟩

abbrev nBuf : Space → Nat
  | .hbm => 30
  | .vmem => 25
  | .smem => 0
  | _ => 0

abbrev bufTy : (tb : Table) → Fin (tcTables nBuf tb) → BufTy
  | .hbm, ⟨0, _⟩ => ⟨S2x1024x1024, .bf16⟩
  | .hbm, ⟨1, _⟩ => ⟨S2x1024x1024, .bf16⟩
  | .hbm, ⟨2, _⟩ => ⟨S512x2048, .bf16⟩
  | .hbm, ⟨3, _⟩ => ⟨S2x512x256, .f32⟩
  | .hbm, ⟨4, _⟩ => ⟨S2x512x32, .f32⟩
  | .hbm, ⟨5, _⟩ => ⟨S256x1024, .f32⟩
  | .hbm, ⟨6, _⟩ => ⟨S96, .f32⟩
  | .hbm, ⟨7, _⟩ => ⟨S2x1024x1024, .bf16⟩
  | .hbm, ⟨8, _⟩ => ⟨S1024x1024, .bf16⟩
  | .hbm, ⟨9, _⟩ => ⟨S1024x1024, .bf16⟩
  | .hbm, ⟨10, _⟩ => ⟨S256x8x128, .f32⟩
  | .hbm, ⟨11, _⟩ => ⟨S256x8x64, .f32⟩
  | .hbm, ⟨12, _⟩ => ⟨S_, .i32⟩
  | .hbm, ⟨13, _⟩ => ⟨S_, .f32⟩
  | .hbm, ⟨14, _⟩ => ⟨S256x8x128, .f32⟩
  | .hbm, ⟨15, _⟩ => ⟨S256x1024, .f32⟩
  | .hbm, ⟨16, _⟩ => ⟨S256x8x64, .f32⟩
  | .hbm, ⟨17, _⟩ => ⟨S256x512, .f32⟩
  | .hbm, ⟨18, _⟩ => ⟨S256x1024, .bf16⟩
  | .hbm, ⟨19, _⟩ => ⟨S512x256, .f32⟩
  | .hbm, ⟨20, _⟩ => ⟨S512x256, .bf16⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S_, .i32⟩
  | .hbm, ⟨26, _⟩ => ⟨S_, .f32⟩
  | .hbm, ⟨27, _⟩ => ⟨S2x512x128, .f32⟩
  | .hbm, ⟨28, _⟩ => ⟨S2x1024x512, .bf16⟩
  | .hbm, ⟨29, _⟩ => ⟨S2x1024x512, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .bf16⟩
  | .local _ .vmem, ⟨5, _⟩ => ⟨S512x1024, .bf16⟩
  | .local _ .vmem, ⟨6, _⟩ => ⟨S1x512x256, .f32⟩
  | .local _ .vmem, ⟨7, _⟩ => ⟨S1x512x256, .f32⟩
  | .local _ .vmem, ⟨8, _⟩ => ⟨S1x512x128, .f32⟩
  | .local _ .vmem, ⟨9, _⟩ => ⟨S1x512x128, .f32⟩
  | .local _ .vmem, ⟨10, _⟩ => ⟨S256x1024, .bf16⟩
  | .local _ .vmem, ⟨11, _⟩ => ⟨S512x256, .bf16⟩
  | .local _ .vmem, ⟨12, _⟩ => ⟨S1x128, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x256x512, .bf16⟩
  | .local _ .vmem, ⟨20, _⟩ => ⟨S1x256x512, .bf16⟩
  | .local _ .vmem, ⟨21, _⟩ => ⟨S1x256x512, .bf16⟩
  | .local _ .vmem, ⟨22, _⟩ => ⟨S1x256x512, .bf16⟩
  | .local _ .vmem, ⟨23, _⟩ => ⟨S512x1024, .bf16⟩
  | .local _ .vmem, ⟨24, _⟩ => ⟨S512x512, .bf16⟩
  | _, _ => ⟨S2x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_call2_v0 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "inv96" => some ((1 / 96 : ℝ) : EReal)
  | _ => none
-- ==== ReferenceIdeal.lean ====
abbrev S2x1024x1024 : Shape := ⟨3, ![2, 1024, 1024]⟩
abbrev S512x2048 : Shape := ⟨2, ![512, 2048]⟩
abbrev S2x512x256 : Shape := ⟨3, ![2, 512, 256]⟩
abbrev S2x512x32 : Shape := ⟨3, ![2, 512, 32]⟩
abbrev S256x1024 : Shape := ⟨2, ![256, 1024]⟩
abbrev S96 : Shape := ⟨1, ![96]⟩
abbrev S1024x1024 : Shape := ⟨2, ![1024, 1024]⟩
abbrev S2x1024x8x128 : Shape := ⟨4, ![2, 1024, 8, 128]⟩
abbrev S8x64x2x1024 : Shape := ⟨4, ![8, 64, 2, 1024]⟩
abbrev S2x1024x8x64 : Shape := ⟨4, ![2, 1024, 8, 64]⟩
abbrev S2x512x1024 : Shape := ⟨3, ![2, 512, 1024]⟩
abbrev S2x512x8x128 : Shape := ⟨4, ![2, 512, 8, 128]⟩
abbrev S2x512x8x64 : Shape := ⟨4, ![2, 512, 8, 64]⟩
abbrev S2x512x1x32 : Shape := ⟨4, ![2, 512, 1, 32]⟩
abbrev S2x512x8x32 : Shape := ⟨4, ![2, 512, 8, 32]⟩
abbrev S2x512x8x96 : Shape := ⟨4, ![2, 512, 8, 96]⟩
abbrev S_ : Shape := ⟨0, ![]⟩
abbrev S2x512x8 : Shape := ⟨3, ![2, 512, 8]⟩
abbrev S2x512x8x1 : Shape := ⟨4, ![2, 512, 8, 1]⟩
abbrev S1x1x1x96 : Shape := ⟨4, ![1, 1, 1, 96]⟩
abbrev S2x1536x8x128 : Shape := ⟨4, ![2, 1536, 8, 128]⟩
abbrev S2x1536x8x64 : Shape := ⟨4, ![2, 1536, 8, 64]⟩
abbrev S2x8x1024x1536 : Shape := ⟨4, ![2, 8, 1024, 1536]⟩
abbrev S2x8x1024 : Shape := ⟨3, ![2, 8, 1024]⟩
abbrev S2x8x1024x1 : Shape := ⟨4, ![2, 8, 1024, 1]⟩
abbrev S2x8x64x1024 : Shape := ⟨4, ![2, 8, 64, 1024]⟩
abbrev S2x1024x512 : Shape := ⟨3, ![2, 1024, 512]⟩

abbrev nBuf : Space → Nat
  | .hbm => 75
  | .vmem => 0
  | .smem => 0
  | _ => 0

abbrev bufTy : (tb : Table) → Fin (tcTables nBuf tb) → BufTy
  | .hbm, ⟨0, _⟩ => ⟨S2x1024x1024, .bf16⟩
  | .hbm, ⟨1, _⟩ => ⟨S2x1024x1024, .bf16⟩
  | .hbm, ⟨2, _⟩ => ⟨S512x2048, .bf16⟩
  | .hbm, ⟨3, _⟩ => ⟨S2x512x256, .f32⟩
  | .hbm, ⟨4, _⟩ => ⟨S2x512x32, .f32⟩
  | .hbm, ⟨5, _⟩ => ⟨S256x1024, .f32⟩
  | .hbm, ⟨6, _⟩ => ⟨S96, .f32⟩
  | .hbm, ⟨7, _⟩ => ⟨S2x1024x1024, .bf16⟩
  | .hbm, ⟨8, _⟩ => ⟨S1024x1024, .bf16⟩
  | .hbm, ⟨9, _⟩ => ⟨S1024x1024, .bf16⟩
  | .hbm, ⟨10, _⟩ => ⟨S2x1024x1024, .f32⟩
  | .hbm, ⟨11, _⟩ => ⟨S2x1024x8x128, .f32⟩
  | .hbm, ⟨12, _⟩ => ⟨S2x1024x1024, .f32⟩
  | .hbm, ⟨13, _⟩ => ⟨S2x1024x8x128, .f32⟩
  | .hbm, ⟨14, _⟩ => ⟨S512x2048, .f32⟩
  | .hbm, ⟨15, _⟩ => ⟨S8x64x2x1024, .f32⟩
  | .hbm, ⟨16, _⟩ => ⟨S2x1024x8x64, .f32⟩
  | .hbm, ⟨17, _⟩ => ⟨S2x512x1024, .f32⟩
  | .hbm, ⟨18, _⟩ => ⟨S2x512x8x128, .f32⟩
  | .hbm, ⟨19, _⟩ => ⟨S2x512x8x64, .f32⟩
  | .hbm, ⟨20, _⟩ => ⟨S2x512x8x64, .f32⟩
  | .hbm, ⟨21, _⟩ => ⟨S2x512x1x32, .f32⟩
  | .hbm, ⟨22, _⟩ => ⟨S2x512x8x32, .f32⟩
  | .hbm, ⟨23, _⟩ => ⟨S2x512x8x96, .f32⟩
  | .hbm, ⟨24, _⟩ => ⟨S2x512x8x96, .f32⟩
  | .hbm, ⟨25, _⟩ => ⟨S_, .f32⟩
  | .hbm, ⟨26, _⟩ => ⟨S2x512x8, .f32⟩
  | .hbm, ⟨27, _⟩ => ⟨S2x512x8x1, .f32⟩
  | .hbm, ⟨28, _⟩ => ⟨S_, .f32⟩
  | .hbm, ⟨29, _⟩ => ⟨S2x512x8x1, .f32⟩
  | .hbm, ⟨30, _⟩ => ⟨S2x512x8x1, .f32⟩
  | .hbm, ⟨31, _⟩ => ⟨S_, .f32⟩
  | .hbm, ⟨32, _⟩ => ⟨S2x512x8x1, .f32⟩
  | .hbm, ⟨33, _⟩ => ⟨S2x512x8x1, .f32⟩
  | .hbm, ⟨34, _⟩ => ⟨S2x512x8x1, .f32⟩
  | .hbm, ⟨35, _⟩ => ⟨S2x512x8x96, .f32⟩
  | .hbm, ⟨36, _⟩ => ⟨S2x512x8x96, .f32⟩
  | .hbm, ⟨37, _⟩ => ⟨S1x1x1x96, .f32⟩
  | .hbm, ⟨38, _⟩ => ⟨S2x512x8x96, .f32⟩
  | .hbm, ⟨39, _⟩ => ⟨S2x512x8x96, .f32⟩
  | .hbm, ⟨40, _⟩ => ⟨S_, .i32⟩
  | .hbm, ⟨41, _⟩ => ⟨S_, .f32⟩
  | .hbm, ⟨42, _⟩ => ⟨S2x512x8x128, .f32⟩
  | .hbm, ⟨43, _⟩ => ⟨S2x1536x8x128, .f32⟩
  | .hbm, ⟨44, _⟩ => ⟨S2x1536x8x64, .f32⟩
  | .hbm, ⟨45, _⟩ => ⟨S2x8x1024x1536, .f32⟩
  | .hbm, ⟨46, _⟩ => ⟨S_, .f32⟩
  | .hbm, ⟨47, _⟩ => ⟨S2x8x1024, .f32⟩
  | .hbm, ⟨48, _⟩ => ⟨S_, .f32⟩
  | .hbm, ⟨49, _⟩ => ⟨S2x8x1024, .f32⟩
  | .hbm, ⟨50, _⟩ => ⟨S2x8x1024, .f32⟩
  | .hbm, ⟨51, _⟩ => ⟨S2x8x1024x1, .f32⟩
  | .hbm, ⟨52, _⟩ => ⟨S2x8x1024x1536, .f32⟩
  | .hbm, ⟨53, _⟩ => ⟨S2x8x1024x1536, .f32⟩
  | .hbm, ⟨54, _⟩ => ⟨S2x8x1024x1536, .f32⟩
  | .hbm, ⟨55, _⟩ => ⟨S_, .f32⟩
  | .hbm, ⟨56, _⟩ => ⟨S2x8x1024, .f32⟩
  | .hbm, ⟨57, _⟩ => ⟨S2x8x1024x1, .f32⟩
  | .hbm, ⟨58, _⟩ => ⟨S2x8x1024x1536, .f32⟩
  | .hbm, ⟨59, _⟩ => ⟨S2x8x1024x1536, .f32⟩
  | .hbm, ⟨60, _⟩ => ⟨S2x8x64x1024, .f32⟩
  | .hbm, ⟨61, _⟩ => ⟨S2x1024x8x64, .f32⟩
  | .hbm, ⟨62, _⟩ => ⟨S2x1024x1024, .f32⟩
  | .hbm, ⟨63, _⟩ => ⟨S1024x1024, .f32⟩
  | .hbm, ⟨64, _⟩ => ⟨S2x1024x512, .f32⟩
  | .hbm, ⟨65, _⟩ => ⟨S2x512x1024, .f32⟩
  | .hbm, ⟨66, _⟩ => ⟨S2x1024x512, .f32⟩
  | .hbm, ⟨67, _⟩ => ⟨S1024x1024, .f32⟩
  | .hbm, ⟨68, _⟩ => ⟨S2x1024x512, .f32⟩
  | .hbm, ⟨69, _⟩ => ⟨S2x512x1024, .f32⟩
  | .hbm, ⟨70, _⟩ => ⟨S2x1024x512, .f32⟩
  | .hbm, ⟨71, _⟩ => ⟨S2x1024x512, .f32⟩
  | .hbm, ⟨72, _⟩ => ⟨S2x1024x512, .f32⟩
  | .hbm, ⟨73, _⟩ => ⟨S2x1024x512, .bf16⟩
  | .hbm, ⟨74, _⟩ => ⟨S2x1024x512, .bf16⟩
  | _, _ => ⟨S2x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c : Ref sig .tc := ⟨.hbm, 40, rfl⟩
abbrev main_call0_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== Kernel2.lean ====
abbrev S8192x1024 : Shape := ⟨2, ![8192, 1024]⟩
abbrev S8192x128 : Shape := ⟨2, ![8192, 128]⟩
abbrev S8x6x1024 : Shape := ⟨3, ![8, 6, 1024]⟩
abbrev S16x1024x512 : Shape := ⟨3, ![16, 1024, 512]⟩
abbrev S16x512x1024 : Shape := ⟨3, ![16, 512, 1024]⟩
abbrev S1024x1024 : Shape := ⟨2, ![1024, 1024]⟩
abbrev S1024x128 : Shape := ⟨2, ![1024, 128]⟩
abbrev S1x6x1024 : Shape := ⟨3, ![1, 6, 1024]⟩
abbrev S1x1024x512 : Shape := ⟨3, ![1, 1024, 512]⟩
abbrev S1x512x1024 : Shape := ⟨3, ![1, 512, 1024]⟩
abbrev S1024x512 : Shape := ⟨2, ![1024, 512]⟩
abbrev S1024 : Shape := ⟨1, ![1024]⟩
abbrev S1024x1 : Shape := ⟨2, ![1024, 1]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x128, .f32⟩
  | .hbm, ⟨3, _⟩ => ⟨S8x6x1024, .f32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S16x1024x512, .bf16⟩
  | .hbm, ⟨8, _⟩ => ⟨S16x1024x512, .bf16⟩
  | .hbm, ⟨9, _⟩ => ⟨S16x512x1024, .bf16⟩
  | .hbm, ⟨10, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S1x6x1024, .f32⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x512x1024, .bf16⟩
  | .local _ .vmem, ⟨12, _⟩ => ⟨S1x512x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v38 : BitVec 1 := Scalar.cmpi .eq arg1 c15_i32
  let v39 : BitVec 32 := Scalar.extui v38
  let c0_i32_24 : BitVec 32 := 0#32
  let v40 : BitVec 1 := Scalar.cmpi .ne v39 c0_i32_24
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S8192x1024 : Shape := ⟨2, ![8192, 1024]⟩
abbrev S8192x128 : Shape := ⟨2, ![8192, 128]⟩
abbrev S8x6x1024 : Shape := ⟨3, ![8, 6, 1024]⟩
abbrev S16x1024x512 : Shape := ⟨3, ![16, 1024, 512]⟩
abbrev S16x512x1024 : Shape := ⟨3, ![16, 512, 1024]⟩
abbrev S8192x16x512 : Shape := ⟨3, ![8192, 16, 512]⟩
abbrev S_ : Shape := ⟨0, ![]⟩
abbrev S8192x16 : Shape := ⟨2, ![8192, 16]⟩
abbrev S8192x16x1 : Shape := ⟨3, ![8192, 16, 1]⟩
abbrev S1x1x1024 : Shape := ⟨3, ![1, 1, 1024]⟩
abbrev S1024 : Shape := ⟨1, ![1024]⟩
abbrev S1x1024 : Shape := ⟨2, ![1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x128, .f32⟩
  | .hbm, ⟨3, _⟩ => ⟨S8x6x1024, .f32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S8192x1024, .f32⟩
  | .hbm, ⟨8, _⟩ => ⟨S8192x16x512, .f32⟩
  | .hbm, ⟨9, _⟩ => ⟨S8192x16x512, .f32⟩
  | .hbm, ⟨10, _⟩ => ⟨S8192x16x512, .f32⟩
  | .hbm, ⟨11, _⟩ => ⟨S8192x16x512, .f32⟩
  | .hbm, ⟨12, _⟩ => ⟨S_, .f32⟩
  | .hbm, ⟨13, _⟩ => ⟨S8192x16x512, .f32⟩
  | .hbm, ⟨14, _⟩ => ⟨S8192x16x512, .f32⟩
  | .hbm, ⟨15, _⟩ => ⟨S_, .f32⟩
  | .hbm, ⟨16, _⟩ => ⟨S8192x16x512, .f32⟩
  | .hbm, ⟨17, _⟩ => ⟨S8192x16x512, .f32⟩
  | .hbm, ⟨18, _⟩ => ⟨S8192x16x512, .f32⟩
  | .hbm, ⟨19, _⟩ => ⟨S8192x16x512, .f32⟩
  | .hbm, ⟨20, _⟩ => ⟨S8192x16, .f32⟩
  | .hbm, ⟨21, _⟩ => ⟨S8192x16x1, .f32⟩
  | .hbm, ⟨22, _⟩ => ⟨S8192x16x512, .f32⟩
  | .hbm, ⟨23, _⟩ => ⟨S8192x16x512, .f32⟩
  | .hbm, ⟨24, _⟩ => ⟨S8192x1024, .f32⟩
  | .hbm, ⟨25, _⟩ => ⟨S1x1x1024, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩

abbrev nD : Nat := 1
abbrev τ : Topo := Topo.v7x

variable {F : FTy → Type} [FloatOps F]
-- ==== Kernel3.lean ====
abbrev S8192x1024 : Shape := ⟨2, ![8192, 1024]⟩
abbrev S8x6x1024 : Shape := ⟨3, ![8, 6, 1024]⟩
abbrev S1024x3360 : Shape := ⟨2, ![1024, 3360]⟩
abbrev S1024 : Shape := ⟨1, ![1024]⟩
abbrev S512 : Shape := ⟨1, ![512]⟩
abbrev S512x768 : Shape := ⟨2, ![512, 768]⟩
abbrev S256 : Shape := ⟨1, ![256]⟩
abbrev S256x1024 : Shape := ⟨2, ![256, 1024]⟩
abbrev S96 : Shape := ⟨1, ![96]⟩
abbrev S128x256 : Shape := ⟨2, ![128, 256]⟩
abbrev S1024x32 : Shape := ⟨2, ![1024, 32]⟩
abbrev S_ : Shape := ⟨0, ![]⟩
abbrev S1024x128 : Shape := ⟨2, ![1024, 128]⟩
abbrev S1024x768 : Shape := ⟨2, ![1024, 768]⟩
abbrev S1024x2560 : Shape := ⟨2, ![1024, 2560]⟩
abbrev S1024x3456 : Shape := ⟨2, ![1024, 3456]⟩
abbrev S512x8x96 : Shape := ⟨3, ![512, 8, 96]⟩
abbrev S512x8x128 : Shape := ⟨3, ![512, 8, 128]⟩
abbrev S512x1024 : Shape := ⟨2, ![512, 1024]⟩
abbrev S256x8x128 : Shape := ⟨3, ![256, 8, 128]⟩
abbrev S256x8x64 : Shape := ⟨3, ![256, 8, 64]⟩
abbrev S256x512 : Shape := ⟨2, ![256, 512]⟩
abbrev S1x1024 : Shape := ⟨2, ![1, 1024]⟩
abbrev S1x512 : Shape := ⟨2, ![1, 512]⟩
abbrev S1x256 : Shape := ⟨2, ![1, 256]⟩
abbrev S128 : Shape := ⟨1, ![128]⟩
abbrev S1x128 : Shape := ⟨2, ![1, 128]⟩
abbrev S8192x512 : Shape := ⟨2, ![8192, 512]⟩
abbrev S8192x256 : Shape := ⟨2, ![8192, 256]⟩
abbrev S8192x32 : Shape := ⟨2, ![8192, 32]⟩
abbrev S1x6x1024 : Shape := ⟨3, ![1, 6, 1024]⟩
abbrev S256x256 : Shape := ⟨2, ![256, 256]⟩
abbrev S256x32 : Shape := ⟨2, ![256, 32]⟩
abbrev S1x1x1024 : Shape := ⟨3, ![1, 1, 1024]⟩
abbrev S256x1 : Shape := ⟨2, ![256, 1]⟩
abbrev S1024x512 : Shape := ⟨2, ![1024, 512]⟩
abbrev S256x128 : Shape := ⟨2, ![256, 128]⟩
abbrev S1024x256 : Shape := ⟨2, ![1024, 256]⟩
abbrev S1024x1024 : Shape := ⟨2, ![1024, 1024]⟩

abbrev nBuf : Space → Nat
  | .hbm => 54
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S8x6x1024, .f32⟩
  | .hbm, ⟨2, _⟩ => ⟨S1024x3360, .f32⟩
  | .hbm, ⟨3, _⟩ => ⟨S1024, .f32⟩
  | .hbm, ⟨4, _⟩ => ⟨S512, .f32⟩
  | .hbm, ⟨5, _⟩ => ⟨S512x768, .f32⟩
  | .hbm, ⟨6, _⟩ => ⟨S256, .f32⟩
  | .hbm, ⟨7, _⟩ => ⟨S256x1024, .f32⟩
  | .hbm, ⟨8, _⟩ => ⟨S96, .f32⟩
  | .hbm, ⟨9, _⟩ => ⟨S96, .f32⟩
  | .hbm, ⟨10, _⟩ => ⟨S128x256, .bf16⟩
  | .hbm, ⟨11, _⟩ => ⟨S1024x32, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x768, .f32⟩
  | .hbm, ⟨16, _⟩ => ⟨S1024x2560, .f32⟩
  | .hbm, ⟨17, _⟩ => ⟨S1024x3456, .f32⟩
  | .hbm, ⟨18, _⟩ => ⟨S512x8x96, .f32⟩
  | .hbm, ⟨19, _⟩ => ⟨S_, .i32⟩
  | .hbm, ⟨20, _⟩ => ⟨S_, .f32⟩
  | .hbm, ⟨21, _⟩ => ⟨S512x8x128, .f32⟩
  | .hbm, ⟨22, _⟩ => ⟨S512x1024, .f32⟩
  | .hbm, ⟨23, _⟩ => ⟨S256x8x128, .f32⟩
  | .hbm, ⟨24, _⟩ => ⟨S256x8x64, .f32⟩
  | .hbm, ⟨25, _⟩ => ⟨S_, .i32⟩
  | .hbm, ⟨26, _⟩ => ⟨S_, .f32⟩
  | .hbm, ⟨27, _⟩ => ⟨S256x8x128, .f32⟩
  | .hbm, ⟨28, _⟩ => ⟨S256x1024, .f32⟩
  | .hbm, ⟨29, _⟩ => ⟨S256x8x64, .f32⟩
  | .hbm, ⟨30, _⟩ => ⟨S256x512, .f32⟩
  | .hbm, ⟨31, _⟩ => ⟨S1x1024, .f32⟩
  | .hbm, ⟨32, _⟩ => ⟨S1024x3456, .bf16⟩
  | .hbm, ⟨33, _⟩ => ⟨S1x512, .f32⟩
  | .hbm, ⟨34, _⟩ => ⟨S512x1024, .bf16⟩
  | .hbm, ⟨35, _⟩ => ⟨S1x256, .f32⟩
  | .hbm, ⟨36, _⟩ => ⟨S256x1024, .bf16⟩
  | .hbm, ⟨37, _⟩ => ⟨S256x512, .bf16⟩
  | .hbm, ⟨38, _⟩ => ⟨S_, .i32⟩
  | .hbm, ⟨39, _⟩ => ⟨S_, .f32⟩
  | .hbm, ⟨40, _⟩ => ⟨S128, .f32⟩
  | .hbm, ⟨41, _⟩ => ⟨S1x128, .f32⟩
  | .hbm, ⟨42, _⟩ => ⟨S_, .i32⟩
  | .hbm, ⟨43, _⟩ => ⟨S_, .f32⟩
  | .hbm, ⟨44, _⟩ => ⟨S128, .f32⟩
  | .hbm, ⟨45, _⟩ => ⟨S1x128, .f32⟩
  | .hbm, ⟨46, _⟩ => ⟨S8192x1024, .bf16⟩
  | .hbm, ⟨47, _⟩ => ⟨S8192x1024, .bf16⟩
  | .hbm, ⟨48, _⟩ => ⟨S8192x512, .bf16⟩
  | .hbm, ⟨49, _⟩ => ⟨S8192x1024, .bf16⟩
  | .hbm, ⟨50, _⟩ => ⟨S8192x1024, .bf16⟩
  | .hbm, ⟨51, _⟩ => ⟨S8192x1024, .bf16⟩
  | .hbm, ⟨52, _⟩ => ⟨S8192x256, .f32⟩
  | .hbm, ⟨53, _⟩ => ⟨S8192x32, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x1024, .f32⟩
  | .local _ .vmem, ⟨4, _⟩ => ⟨S1024x3456, .bf16⟩
  | .local _ .vmem, ⟨5, _⟩ => ⟨S1x512, .f32⟩
  | .local _ .vmem, ⟨6, _⟩ => ⟨S512x1024, .bf16⟩
  | .local _ .vmem, ⟨7, _⟩ => ⟨S1x256, .f32⟩
  | .local _ .vmem, ⟨8, _⟩ => ⟨S256x1024, .bf16⟩
  | .local _ .vmem, ⟨9, _⟩ => ⟨S256x512, .bf16⟩
  | .local _ .vmem, ⟨10, _⟩ => ⟨S1x128, .f32⟩
  | .local _ .vmem, ⟨11, _⟩ => ⟨S1x128, .f32⟩
  | .local _ .vmem, ⟨12, _⟩ => ⟨S128x256, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x512, .bf16⟩
  | .local _ .vmem, ⟨18, _⟩ => ⟨S256x512, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x256, .f32⟩
  | .local _ .vmem, ⟨26, _⟩ => ⟨S256x256, .f32⟩
  | .local _ .vmem, ⟨27, _⟩ => ⟨S256x32, .f32⟩
  | .local _ .vmem, ⟨28, _⟩ => ⟨S256x32, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_call1_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_call2_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_call3_v0 : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_call4_v0 : Ref sig .tc := ⟨.hbm, 43, rfl⟩
abbrev main_v23 : Ref sig .tc := ⟨.hbm, 44, rfl⟩
abbrev main_v24 : Ref sig .tc := ⟨.hbm, 45, rfl⟩
abbrev main_v25_0 : Ref sig .tc := ⟨.hbm, 46, rfl⟩
abbrev main_v25_1 : Ref sig .tc := ⟨.hbm, 47, rfl⟩
abbrev main_v25_2 : Ref sig .tc := ⟨.hbm, 48, rfl⟩
abbrev main_v25_3 : Ref sig .tc := ⟨.hbm, 49, rfl⟩
abbrev main_v25_4 : Ref sig .tc := ⟨.hbm, 50, rfl⟩
abbrev main_v25_5 : Ref sig .tc := ⟨.hbm, 51, rfl⟩
abbrev main_v25_6 : Ref sig .tc := ⟨.hbm, 52, rfl⟩
abbrev main_v25_7 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3456 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x32 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Kernel3Ideal.lean ====
variable {F : FTy → Type} [FloatOps F] [Named F]
def κ : String → Option EReal := fun
  | "inv96" => some ((1 / 96 : ℝ) : EReal)
  | _ => none
-- ==== Reference3Ideal.lean ====
abbrev S8192x1024 : Shape := ⟨2, ![8192, 1024]⟩
abbrev S8x6x1024 : Shape := ⟨3, ![8, 6, 1024]⟩
abbrev S1024x3360 : Shape := ⟨2, ![1024, 3360]⟩
abbrev S1024 : Shape := ⟨1, ![1024]⟩
abbrev S512 : Shape := ⟨1, ![512]⟩
abbrev S512x768 : Shape := ⟨2, ![512, 768]⟩
abbrev S256 : Shape := ⟨1, ![256]⟩
abbrev S256x1024 : Shape := ⟨2, ![256, 1024]⟩
abbrev S96 : Shape := ⟨1, ![96]⟩
abbrev S128x256 : Shape := ⟨2, ![128, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1x1024 : Shape := ⟨3, ![1, 1, 1024]⟩
abbrev S8192x3360 : Shape := ⟨2, ![8192, 3360]⟩
abbrev S8192x512 : Shape := ⟨2, ![8192, 512]⟩
abbrev S8192x256 : Shape := ⟨2, ![8192, 256]⟩
abbrev S8192x32 : Shape := ⟨2, ![8192, 32]⟩
abbrev S1x256 : Shape := ⟨2, ![1, 256]⟩
abbrev S8192x8x128 : Shape := ⟨3, ![8192, 8, 128]⟩
abbrev S8192x8x64 : Shape := ⟨3, ![8192, 8, 64]⟩
abbrev S1x512 : Shape := ⟨2, ![1, 512]⟩
abbrev S8192x768 : Shape := ⟨2, ![8192, 768]⟩
abbrev S8192x8x96 : Shape := ⟨3, ![8192, 8, 96]⟩
abbrev S8192x8 : Shape := ⟨2, ![8192, 8]⟩
abbrev S8192x8x1 : Shape := ⟨3, ![8192, 8, 1]⟩
abbrev S1x1x96 : Shape := ⟨3, ![1, 1, 96]⟩
abbrev S8192x1x32 : Shape := ⟨3, ![8192, 1, 32]⟩
abbrev S8192x8x32 : Shape := ⟨3, ![8192, 8, 32]⟩
abbrev S8192x4x128 : Shape := ⟨3, ![8192, 4, 128]⟩
abbrev S8192x4x256 : Shape := ⟨3, ![8192, 4, 256]⟩

abbrev nBuf : Space → Nat
  | .hbm => 164
  | .vmem => 0
  | .smem => 0
  | _ => 0

abbrev hbmTy0_0 (i : Nat) : BufTy := match i % 128 with
  | 0 => ⟨S8192x1024, .f32⟩
  | 1 => ⟨S8x6x1024, .f32⟩
  | 2 => ⟨S1024x3360, .f32⟩
  | 3 => ⟨S1024, .f32⟩
  | 4 => ⟨S512, .f32⟩
  | 5 => ⟨S512x768, .f32⟩
  | 6 => ⟨S256, .f32⟩
  | 7 => ⟨S256x1024, .f32⟩
  | 8 => ⟨S96, .f32⟩
  | 9 => ⟨S96, .f32⟩
  | 10 => ⟨S128x256, .bf16⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1024, .f32⟩
  | 23 => ⟨S8192x1024, .f32⟩
  | 24 => ⟨S1x1024, .f32⟩
  | 25 => ⟨S8192x1024, .f32⟩
  | 26 => ⟨S8192x1024, .f32⟩
  | 27 => ⟨S1x1x1024, .f32⟩
  | 28 => ⟨S1024, .f32⟩
  | 29 => ⟨S_, .f32⟩
  | 30 => ⟨S1024, .f32⟩
  | 31 => ⟨S1024, .f32⟩
  | 32 => ⟨S1x1024, .f32⟩
  | 33 => ⟨S8192x1024, .f32⟩
  | 34 => ⟨S8192x1024, .f32⟩
  | 35 => ⟨S1x1x1024, .f32⟩
  | 36 => ⟨S1024, .f32⟩
  | 37 => ⟨S1x1024, .f32⟩
  | 38 => ⟨S8192x1024, .f32⟩
  | 39 => ⟨S8192x1024, .f32⟩
  | 40 => ⟨S8192x3360, .f32⟩
  | 41 => ⟨S8192x512, .f32⟩
  | 42 => ⟨S8192x256, .f32⟩
  | 43 => ⟨S8192x32, .f32⟩
  | 44 => ⟨S8192x512, .f32⟩
  | 45 => ⟨S8192x1024, .f32⟩
  | 46 => ⟨S8192x1024, .f32⟩
  | 47 => ⟨S8192x256, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S8192x1, .f32⟩
  | 58 => ⟨S8192x256, .f32⟩
  | 59 => ⟨S8192x256, .f32⟩
  | 60 => ⟨S1x256, .f32⟩
  | 61 => ⟨S8192x256, .f32⟩
  | 62 => ⟨S8192x256, .f32⟩
  | 63 => ⟨S8192x1024, .f32⟩
  | 64 => ⟨S8192x8x128, .f32⟩
  | 65 => ⟨S8192x8x64, .f32⟩
  | 66 => ⟨S8192x512, .f32⟩
  | 67 => ⟨S8192x512, .f32⟩
  | 68 => ⟨S_, .f32⟩
  | 69 => ⟨S8192, .f32⟩
  | 70 => ⟨S8192x1, .f32⟩
  | 71 => ⟨S_, .f32⟩
  | 72 => ⟨S8192x1, .f32⟩
  | 73 => ⟨S8192x1, .f32⟩
  | 74 => ⟨S_, .f32⟩
  | 75 => ⟨S8192x1, .f32⟩
  | 76 => ⟨S8192x1, .f32⟩
  | 77 => ⟨S8192x1, .f32⟩
  | 78 => ⟨S8192x512, .f32⟩
  | 79 => ⟨S8192x512, .f32⟩
  | 80 => ⟨S1x512, .f32⟩
  | 81 => ⟨S8192x512, .f32⟩
  | 82 => ⟨S8192x512, .f32⟩
  | 83 => ⟨S8192x768, .f32⟩
  | 84 => ⟨S8192x8x96, .f32⟩
  | 85 => ⟨S8192x8x96, .f32⟩
  | 86 => ⟨S_, .f32⟩
  | 87 => ⟨S8192x8, .f32⟩
  | 88 => ⟨S8192x8x1, .f32⟩
  | 89 => ⟨S_, .f32⟩
  | 90 => ⟨S8192x8x1, .f32⟩
  | 91 => ⟨S8192x8x1, .f32⟩
  | 92 => ⟨S_, .f32⟩
  | 93 => ⟨S8192x8x1, .f32⟩
  | 94 => ⟨S8192x8x1, .f32⟩
  | 95 => ⟨S8192x8x1, .f32⟩
  | 96 => ⟨S8192x8x96, .f32⟩
  | 97 => ⟨S8192x8x96, .f32⟩
  | 98 => ⟨S1x1x96, .f32⟩
  | 99 => ⟨S8192x8x96, .f32⟩
  | 100 => ⟨S8192x8x96, .f32⟩
  | 101 => ⟨S_, .f32⟩
  | 102 => ⟨S8192x8x96, .f32⟩
  | 103 => ⟨S8192x8x96, .f32⟩
  | 104 => ⟨S8192x1x32, .f32⟩
  | 105 => ⟨S8192x8x32, .f32⟩
  | 106 => ⟨S8192x1024, .f32⟩
  | 107 => ⟨S8192x8x128, .f32⟩
  | 108 => ⟨S8192x8x64, .f32⟩
  | 109 => ⟨S8192x8x96, .f32⟩
  | 110 => ⟨S8192x8x96, .f32⟩
  | 111 => ⟨S_, .f32⟩
  | 112 => ⟨S8192x8, .f32⟩
  | 113 => ⟨S8192x8x1, .f32⟩
  | 114 => ⟨S_, .f32⟩
  | 115 => ⟨S8192x8x1, .f32⟩
  | 116 => ⟨S8192x8x1, .f32⟩
  | 117 => ⟨S_, .f32⟩
  | 118 => ⟨S8192x8x1, .f32⟩
  | 119 => ⟨S8192x8x1, .f32⟩
  | 120 => ⟨S8192x8x1, .f32⟩
  | 121 => ⟨S8192x8x96, .f32⟩
  | 122 => ⟨S8192x8x96, .f32⟩
  | 123 => ⟨S1x1x96, .f32⟩
  | 124 => ⟨S8192x8x96, .f32⟩
  | 125 => ⟨S8192x8x96, .f32⟩
  | 126 => ⟨S8192x4x128, .f32⟩
  | 127 => ⟨S128x256, .f32⟩
  | _ => ⟨S8192x1024, .f32⟩

abbrev hbmTy0_1 (i : Nat) : BufTy := match i % 128 with
  | 0 => ⟨S8192x4x256, .f32⟩
  | 1 => ⟨S8192x4x128, .f32⟩
  | 2 => ⟨S8192x512, .f32⟩
  | 3 => ⟨S8192x4x128, .f32⟩
  | 4 => ⟨S8192x512, .f32⟩
  | 5 => ⟨S8192x1024, .f32⟩
  | 6 => ⟨S_, .i32⟩
  | 7 => ⟨S_, .f32⟩
  | 8 => ⟨S8192x8x128, .f32⟩
  | 9 => ⟨S8192x1024, .f32⟩
  | 10 => ⟨S8192x1024, .bf16⟩
  | 11 => ⟨S_, .i32⟩
  | 12 => ⟨S_, .f32⟩
  | 13 => ⟨S8192x8x128, .f32⟩
  | 14 => ⟨S8192x1024, .f32⟩
  | 15 => ⟨S8192x1024, .bf16⟩
  | 16 => ⟨S8192x512, .bf16⟩
  | 17 => ⟨S8192x1024, .bf16⟩
  | 18 => ⟨S8192x1024, .f32⟩
  | 19 => ⟨S8192x1024, .f32⟩
  | 20 => ⟨S_, .f32⟩
  | 21 => ⟨S8192x1024, .f32⟩
  | 22 => ⟨S8192x1024, .f32⟩
  | 23 => ⟨S_, .f32⟩
  | 24 => ⟨S8192x1024, .f32⟩
  | 25 => ⟨S8192x1024, .f32⟩
  | 26 => ⟨S8192x1024, .bf16⟩
  | 27 => ⟨S8192x1024, .f32⟩
  | 28 => ⟨S8192x1024, .f32⟩
  | 29 => ⟨S_, .f32⟩
  | 30 => ⟨S8192x1024, .f32⟩
  | 31 => ⟨S8192x1024, .f32⟩
  | 32 => ⟨S_, .f32⟩
  | 33 => ⟨S8192x1024, .f32⟩
  | 34 => ⟨S8192x1024, .f32⟩
  | 35 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_9 : Ref sig .tc := ⟨.hbm, 86, rfl⟩
abbrev main_v65 : Ref sig .tc := ⟨.hbm, 87, rfl⟩
abbrev main_v66 : Ref sig .tc := ⟨.hbm, 88, rfl⟩
abbrev main_cst_10 : Ref sig .tc := ⟨.hbm, 89, rfl⟩
abbrev main_v67 : Ref sig .tc := ⟨.hbm, 90, rfl⟩
abbrev main_v68 : Ref sig .tc := ⟨.hbm, 91, rfl⟩
abbrev main_cst_11 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_12 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_13 : Ref sig .tc := ⟨.hbm, 111, rfl⟩
abbrev main_v86 : Ref sig .tc := ⟨.hbm, 112, rfl⟩
abbrev main_v87 : Ref sig .tc := ⟨.hbm, 113, rfl⟩
abbrev main_cst_14 : Ref sig .tc := ⟨.hbm, 114, rfl⟩
abbrev main_v88 : Ref sig .tc := ⟨.hbm, 115, rfl⟩
abbrev main_v89 : Ref sig .tc := ⟨.hbm, 116, rfl⟩
abbrev main_cst_15 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_c : Ref sig .tc := ⟨.hbm, 134, rfl⟩
abbrev main_call0_v0 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_c_16 : Ref sig .tc := ⟨.hbm, 139, rfl⟩
abbrev main_call1_v0 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_17 : Ref sig .tc := ⟨.hbm, 148, rfl⟩
abbrev main_v116 : Ref sig .tc := ⟨.hbm, 149, rfl⟩
abbrev main_v117 : Ref sig .tc := ⟨.hbm, 150, rfl⟩
abbrev main_cst_18 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_19 : Ref sig .tc := ⟨.hbm, 157, rfl⟩
abbrev main_v123 : Ref sig .tc := ⟨.hbm, 158, rfl⟩
abbrev main_v124 : Ref sig .tc := ⟨.hbm, 159, rfl⟩
abbrev main_cst_20 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩

abbrev nD : Nat := 1
abbrev τ : Topo := Topo.v7x

variable {F : FTy → Type} [FloatOps F]
-- ==== Kernel4.lean ====
abbrev S8192x1024 : Shape := ⟨2, ![8192, 1024]⟩
abbrev S8192x512 : Shape := ⟨2, ![8192, 512]⟩
abbrev S8x6x1024 : Shape := ⟨3, ![8, 6, 1024]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S4x1024 : Shape := ⟨2, ![4, 1024]⟩
abbrev S16x1024 : Shape := ⟨2, ![16, 1024]⟩
abbrev S_ : Shape := ⟨0, ![]⟩
abbrev S12x1024 : Shape := ⟨2, ![12, 1024]⟩
abbrev S32x1024 : Shape := ⟨2, ![32, 1024]⟩
abbrev S12 : Shape := ⟨1, ![12]⟩
abbrev S32 : Shape := ⟨1, ![32]⟩
abbrev S32x1 : Shape := ⟨2, ![32, 1]⟩
abbrev S1x1024 : Shape := ⟨2, ![1, 1024]⟩
abbrev S8192x128 : Shape := ⟨2, ![8192, 128]⟩
abbrev S256x1024 : Shape := ⟨2, ![256, 1024]⟩
abbrev S256x512 : Shape := ⟨2, ![256, 512]⟩
abbrev S1x6x1024 : Shape := ⟨3, ![1, 6, 1024]⟩
abbrev S256x128 : Shape := ⟨2, ![256, 128]⟩
abbrev S1x1x1024 : Shape := ⟨3, ![1, 1, 1024]⟩
abbrev S256 : Shape := ⟨1, ![256]⟩
abbrev S256x1 : Shape := ⟨2, ![256, 1]⟩
abbrev S32x256 : Shape := ⟨2, ![32, 256]⟩
abbrev S1x256 : Shape := ⟨2, ![1, 256]⟩
abbrev S128x256 : Shape := ⟨2, ![128, 256]⟩

abbrev nBuf : Space → Nat
  | .hbm => 30
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x1024, .bf16⟩
  | .hbm, ⟨4, _⟩ => ⟨S8192x1024, .bf16⟩
  | .hbm, ⟨5, _⟩ => ⟨S8x6x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S1024x16, .f32⟩
  | .hbm, ⟨13, _⟩ => ⟨S16, .f32⟩
  | .hbm, ⟨14, _⟩ => ⟨S4x1024, .f32⟩
  | .hbm, ⟨15, _⟩ => ⟨S16x1024, .f32⟩
  | .hbm, ⟨16, _⟩ => ⟨S_, .f32⟩
  | .hbm, ⟨17, _⟩ => ⟨S12x1024, .f32⟩
  | .hbm, ⟨18, _⟩ => ⟨S32x1024, .f32⟩
  | .hbm, ⟨19, _⟩ => ⟨S_, .f32⟩
  | .hbm, ⟨20, _⟩ => ⟨S12, .f32⟩
  | .hbm, ⟨21, _⟩ => ⟨S32, .f32⟩
  | .hbm, ⟨22, _⟩ => ⟨S32x1, .f32⟩
  | .hbm, ⟨23, _⟩ => ⟨S512x1024, .bf16⟩
  | .hbm, ⟨24, _⟩ => ⟨S512x1024, .bf16⟩
  | .hbm, ⟨25, _⟩ => ⟨S1024x1024, .bf16⟩
  | .hbm, ⟨26, _⟩ => ⟨S1x1024, .f32⟩
  | .hbm, ⟨27, _⟩ => ⟨S8192x1024, .f32⟩
  | .hbm, ⟨28, _⟩ => ⟨S8192x1024, .bf16⟩
  | .hbm, ⟨29, _⟩ => ⟨S8192x128, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1x6x1024, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S32x1024, .f32⟩
  | .local _ .vmem, ⟨16, _⟩ => ⟨S32x1, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S256x128, .f32⟩
  | .local _ .vmem, ⟨22, _⟩ => ⟨S256x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev main_v11_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S8192x1024 : Shape := ⟨2, ![8192, 1024]⟩
abbrev S8192x512 : Shape := ⟨2, ![8192, 512]⟩
abbrev S8x6x1024 : Shape := ⟨3, ![8, 6, 1024]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S1x1x1024 : Shape := ⟨3, ![1, 1, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x1024, .bf16⟩
  | .hbm, ⟨4, _⟩ => ⟨S8192x1024, .bf16⟩
  | .hbm, ⟨5, _⟩ => ⟨S8x6x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S1024x16, .f32⟩
  | .hbm, ⟨13, _⟩ => ⟨S16, .f32⟩
  | .hbm, ⟨14, _⟩ => ⟨S8192x1024, .f32⟩
  | .hbm, ⟨15, _⟩ => ⟨S8192x512, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x512, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1x1x1024, .f32⟩
  | .hbm, ⟨24, _⟩ => ⟨S1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S1x1x1024, .f32⟩
  | .hbm, ⟨47, _⟩ => ⟨S1024, .f32⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S1x1x1024, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== Proof.Steps.lean ====
module

public import proofs.«01_k».proof.Proof.Gen.KernelIdeal.Skeleton
public import Idealize.ShloMosaic.Lib.Pointwise

/-! What each step of the latent attention body computes, read at coordinates: the score of one key for one
query, the greatest score, the exponentials, and each head's weighted mean of the values. -/

@[expose] public section

set_option maxRecDepth 16384

noncomputable section

namespace Cert.KernelIdeal.Attn

open Cert.KernelIdeal Cert.KernelIdeal.Gen Idealize.ShloMosaic Idealize.ShloMosaic.TcCoe Idealize.SL.Sem

/-- Layer 0 of the stacked context scores. -/
theorem stackC0 (v43 : FVec Ideal S1x512x256 .f32) (v44 : FVec Ideal S1x512x256 .f32) (v45 : FVec Ideal S1x512x256 .f32) (v46 : FVec Ideal S1x512x256 .f32) (v47 : FVec Ideal S1x512x256 .f32) (v48 : FVec Ideal S1x512x256 .f32) (v49 : FVec Ideal S1x512x256 .f32) (v50 : FVec Ideal S1x512x256 .f32) (k : Fin 512) (i : Fin 256) :
    k0_pay35 (F := Ideal) v43 v44 v45 v46 v47 v48 v49 v50 (ix3 0 k i) = v43 (ix3 0 k i) := by
  pointwise [k0_pay35]

/-- Layer 1 of the stacked context scores. -/
theorem stackC1 (v43 : FVec Ideal S1x512x256 .f32) (v44 : FVec Ideal S1x512x256 .f32) (v45 : FVec Ideal S1x512x256 .f32) (v46 : FVec Ideal S1x512x256 .f32) (v47 : FVec Ideal S1x512x256 .f32) (v48 : FVec Ideal S1x512x256 .f32) (v49 : FVec Ideal S1x512x256 .f32) (v50 : FVec Ideal S1x512x256 .f32) (k : Fin 512) (i : Fin 256) :
    k0_pay35 (F := Ideal) v43 v44 v45 v46 v47 v48 v49 v50 (ix3 1 k i) = v44 (ix3 0 k i) := by
  pointwise [k0_pay35]

/-- Layer 2 of the stacked context scores. -/
theorem stackC2 (v43 : FVec Ideal S1x512x256 .f32) (v44 : FVec Ideal S1x512x256 .f32) (v45 : FVec Ideal S1x512x256 .f32) (v46 : FVec Ideal S1x512x256 .f32) (v47 : FVec Ideal S1x512x256 .f32) (v48 : FVec Ideal S1x512x256 .f32) (v49 : FVec Ideal S1x512x256 .f32) (v50 : FVec Ideal S1x512x256 .f32) (k : Fin 512) (i : Fin 256) :
    k0_pay35 (F := Ideal) v43 v44 v45 v46 v47 v48 v49 v50 (ix3 2 k i) = v45 (ix3 0 k i) := by
  pointwise [k0_pay35]

/-- Layer 3 of the stacked context scores. -/
theorem stackC3 (v43 : FVec Ideal S1x512x256 .f32) (v44 : FVec Ideal S1x512x256 .f32) (v45 : FVec Ideal S1x512x256 .f32) (v46 : FVec Ideal S1x512x256 .f32) (v47 : FVec Ideal S1x512x256 .f32) (v48 : FVec Ideal S1x512x256 .f32) (v49 : FVec Ideal S1x512x256 .f32) (v50 : FVec Ideal S1x512x256 .f32) (k : Fin 512) (i : Fin 256) :
    k0_pay35 (F := Ideal) v43 v44 v45 v46 v47 v48 v49 v50 (ix3 3 k i) = v46 (ix3 0 k i) := by
  pointwise [k0_pay35]

/-- Layer 4 of the stacked context scores. -/
theorem stackC4 (v43 : FVec Ideal S1x512x256 .f32) (v44 : FVec Ideal S1x512x256 .f32) (v45 : FVec Ideal S1x512x256 .f32) (v46 : FVec Ideal S1x512x256 .f32) (v47 : FVec Ideal S1x512x256 .f32) (v48 : FVec Ideal S1x512x256 .f32) (v49 : FVec Ideal S1x512x256 .f32) (v50 : FVec Ideal S1x512x256 .f32) (k : Fin 512) (i : Fin 256) :
    k0_pay35 (F := Ideal) v43 v44 v45 v46 v47 v48 v49 v50 (ix3 4 k i) = v47 (ix3 0 k i) := by
  pointwise [k0_pay35]

/-- Layer 5 of the stacked context scores. -/
theorem stackC5 (v43 : FVec Ideal S1x512x256 .f32) (v44 : FVec Ideal S1x512x256 .f32) (v45 : FVec Ideal S1x512x256 .f32) (v46 : FVec Ideal S1x512x256 .f32) (v47 : FVec Ideal S1x512x256 .f32) (v48 : FVec Ideal S1x512x256 .f32) (v49 : FVec Ideal S1x512x256 .f32) (v50 : FVec Ideal S1x512x256 .f32) (k : Fin 512) (i : Fin 256) :
    k0_pay35 (F := Ideal) v43 v44 v45 v46 v47 v48 v49 v50 (ix3 5 k i) = v48 (ix3 0 k i) := by
  pointwise [k0_pay35]

/-- Layer 6 of the stacked context scores. -/
theorem stackC6 (v43 : FVec Ideal S1x512x256 .f32) (v44 : FVec Ideal S1x512x256 .f32) (v45 : FVec Ideal S1x512x256 .f32) (v46 : FVec Ideal S1x512x256 .f32) (v47 : FVec Ideal S1x512x256 .f32) (v48 : FVec Ideal S1x512x256 .f32) (v49 : FVec Ideal S1x512x256 .f32) (v50 : FVec Ideal S1x512x256 .f32) (k : Fin 512) (i : Fin 256) :
    k0_pay35 (F := Ideal) v43 v44 v45 v46 v47 v48 v49 v50 (ix3 6 k i) = v49 (ix3 0 k i) := by
  pointwise [k0_pay35]

/-- Layer 7 of the stacked context scores. -/
theorem stackC7 (v43 : FVec Ideal S1x512x256 .f32) (v44 : FVec Ideal S1x512x256 .f32) (v45 : FVec Ideal S1x512x256 .f32) (v46 : FVec Ideal S1x512x256 .f32) (v47 : FVec Ideal S1x512x256 .f32) (v48 : FVec Ideal S1x512x256 .f32) (v49 : FVec Ideal S1x512x256 .f32) (v50 : FVec Ideal S1x512x256 .f32) (k : Fin 512) (i : Fin 256) :
    k0_pay35 (F := Ideal) v43 v44 v45 v46 v47 v48 v49 v50 (ix3 7 k i) = v50 (ix3 0 k i) := by
  pointwise [k0_pay35]

/-- Layer 0 of the stacked latent scores. -/
theorem stackL0 (v58 : FVec Ideal S1024x256 .f32) (v65 : FVec Ideal S1024x256 .f32) (v72 : FVec Ideal S1024x256 .f32) (v79 : FVec Ideal S1024x256 .f32) (v86 : FVec Ideal S1024x256 .f32) (v93 : FVec Ideal S1024x256 .f32) (v96 : FVec Ideal S1024x128 .bf16) (v99 : FVec Ideal S256x128 .bf16) (v103 : FVec Ideal S1024x128 .bf16) (v106 : FVec Ideal S256x128 .bf16) (k : Fin 1024) (i : Fin 256) :
    k0_pay42 (F := Ideal) v58 v65 v72 v79 v86 v93 v96 v99 v103 v106 (ix3 0 k i) = v58 (ix2 k i) := by
  pointwise [k0_pay42]

/-- Layer 1 of the stacked latent scores. -/
theorem stackL1 (v58 : FVec Ideal S1024x256 .f32) (v65 : FVec Ideal S1024x256 .f32) (v72 : FVec Ideal S1024x256 .f32) (v79 : FVec Ideal S1024x256 .f32) (v86 : FVec Ideal S1024x256 .f32) (v93 : FVec Ideal S1024x256 .f32) (v96 : FVec Ideal S1024x128 .bf16) (v99 : FVec Ideal S256x128 .bf16) (v103 : FVec Ideal S1024x128 .bf16) (v106 : FVec Ideal S256x128 .bf16) (k : Fin 1024) (i : Fin 256) :
    k0_pay42 (F := Ideal) v58 v65 v72 v79 v86 v93 v96 v99 v103 v106 (ix3 1 k i) = v65 (ix2 k i) := by
  pointwise [k0_pay42]

/-- Layer 2 of the stacked latent scores. -/
theorem stackL2 (v58 : FVec Ideal S1024x256 .f32) (v65 : FVec Ideal S1024x256 .f32) (v72 : FVec Ideal S1024x256 .f32) (v79 : FVec Ideal S1024x256 .f32) (v86 : FVec Ideal S1024x256 .f32) (v93 : FVec Ideal S1024x256 .f32) (v96 : FVec Ideal S1024x128 .bf16) (v99 : FVec Ideal S256x128 .bf16) (v103 : FVec Ideal S1024x128 .bf16) (v106 : FVec Ideal S256x128 .bf16) (k : Fin 1024) (i : Fin 256) :
    k0_pay42 (F := Ideal) v58 v65 v72 v79 v86 v93 v96 v99 v103 v106 (ix3 2 k i) = v72 (ix2 k i) := by
  pointwise [k0_pay42]

/-- Layer 3 of the stacked latent scores. -/
theorem stackL3 (v58 : FVec Ideal S1024x256 .f32) (v65 : FVec Ideal S1024x256 .f32) (v72 : FVec Ideal S1024x256 .f32) (v79 : FVec Ideal S1024x256 .f32) (v86 : FVec Ideal S1024x256 .f32) (v93 : FVec Ideal S1024x256 .f32) (v96 : FVec Ideal S1024x128 .bf16) (v99 : FVec Ideal S256x128 .bf16) (v103 : FVec Ideal S1024x128 .bf16) (v106 : FVec Ideal S256x128 .bf16) (k : Fin 1024) (i : Fin 256) :
    k0_pay42 (F := Ideal) v58 v65 v72 v79 v86 v93 v96 v99 v103 v106 (ix3 3 k i) = v79 (ix2 k i) := by
  pointwise [k0_pay42]

/-- Layer 4 of the stacked latent scores. -/
theorem stackL4 (v58 : FVec Ideal S1024x256 .f32) (v65 : FVec Ideal S1024x256 .f32) (v72 : FVec Ideal S1024x256 .f32) (v79 : FVec Ideal S1024x256 .f32) (v86 : FVec Ideal S1024x256 .f32) (v93 : FVec Ideal S1024x256 .f32) (v96 : FVec Ideal S1024x128 .bf16) (v99 : FVec Ideal S256x128 .bf16) (v103 : FVec Ideal S1024x128 .bf16) (v106 : FVec Ideal S256x128 .bf16) (k : Fin 1024) (i : Fin 256) :
    k0_pay42 (F := Ideal) v58 v65 v72 v79 v86 v93 v96 v99 v103 v106 (ix3 4 k i) = v86 (ix2 k i) := by
  pointwise [k0_pay42]

/-- Layer 5 of the stacked latent scores. -/
theorem stackL5 (v58 : FVec Ideal S1024x256 .f32) (v65 : FVec Ideal S1024x256 .f32) (v72 : FVec Ideal S1024x256 .f32) (v79 : FVec Ideal S1024x256 .f32) (v86 : FVec Ideal S1024x256 .f32) (v93 : FVec Ideal S1024x256 .f32) (v96 : FVec Ideal S1024x128 .bf16) (v99 : FVec Ideal S256x128 .bf16) (v103 : FVec Ideal S1024x128 .bf16) (v106 : FVec Ideal S256x128 .bf16) (k : Fin 1024) (i : Fin 256) :
    k0_pay42 (F := Ideal) v58 v65 v72 v79 v86 v93 v96 v99 v103 v106 (ix3 5 k i) = v93 (ix2 k i) := by
  pointwise [k0_pay42]

/-- Layer 6 of the stacked latent scores. -/
theorem stackL6 (v58 : FVec Ideal S1024x256 .f32) (v65 : FVec Ideal S1024x256 .f32) (v72 : FVec Ideal S1024x256 .f32) (v79 : FVec Ideal S1024x256 .f32) (v86 : FVec Ideal S1024x256 .f32) (v93 : FVec Ideal S1024x256 .f32) (v96 : FVec Ideal S1024x128 .bf16) (v99 : FVec Ideal S256x128 .bf16) (v103 : FVec Ideal S1024x128 .bf16) (v106 : FVec Ideal S256x128 .bf16) (k : Fin 1024) (i : Fin 256) :
    k0_pay42 (F := Ideal) v58 v65 v72 v79 v86 v93 v96 v99 v103 v106 (ix3 6 k i) = ∑ l : Fin 128, v96 (ix2 k l) * v99 (ix2 i l) := by
  pointwise [k0_pay42]

/-- Layer 7 of the stacked latent scores. -/
theorem stackL7 (v58 : FVec Ideal S1024x256 .f32) (v65 : FVec Ideal S1024x256 .f32) (v72 : FVec Ideal S1024x256 .f32) (v79 : FVec Ideal S1024x256 .f32) (v86 : FVec Ideal S1024x256 .f32) (v93 : FVec Ideal S1024x256 .f32) (v96 : FVec Ideal S1024x128 .bf16) (v99 : FVec Ideal S256x128 .bf16) (v103 : FVec Ideal S1024x128 .bf16) (v106 : FVec Ideal S256x128 .bf16) (k : Fin 1024) (i : Fin 256) :
    k0_pay42 (F := Ideal) v58 v65 v72 v79 v86 v93 v96 v99 v103 v106 (ix3 7 k i) = ∑ l : Fin 128, v103 (ix2 k l) * v106 (ix2 i l) := by
  pointwise [k0_pay42]

/-- A context score of head 0. -/
theorem scoreC0 (v3 : FVec Ideal S512x128 .bf16) (v6 : FVec Ideal S256x128 .bf16) (k : Fin 512) (i : Fin 256) :
    k0_pay23 (F := Ideal) v3 v6 (ix2 k i) = ∑ l : Fin 128, v3 (ix2 k l) * v6 (ix2 i l) := by
  pointwise [k0_pay23]

/-- The leading unit axis of head 0. -/
theorem liftC0 (v7 : FVec Ideal S512x256 .f32) (k : Fin 512) (i : Fin 256) :
    k0_pay27 (F := Ideal) v7 (ix3 0 k i) = v7 (ix2 k i) := by
  pointwise [k0_pay27]

/-- A context score of head 1. -/
theorem scoreC1 (v8 : FVec Ideal S512x128 .bf16) (v11 : FVec Ideal S256x128 .bf16) (k : Fin 512) (i : Fin 256) :
    k0_pay24 (F := Ideal) v8 v11 (ix2 k i) = ∑ l : Fin 128, v8 (ix2 k l) * v11 (ix2 i l) := by
  pointwise [k0_pay24]

/-- The leading unit axis of head 1. -/
theorem liftC1 (v12 : FVec Ideal S512x256 .f32) (k : Fin 512) (i : Fin 256) :
    k0_pay28 (F := Ideal) v12 (ix3 0 k i) = v12 (ix2 k i) := by
  pointwise [k0_pay28]

/-- A context score of head 2. -/
theorem scoreC2 (v13 : FVec Ideal S512x128 .bf16) (v16 : FVec Ideal S256x128 .bf16) (k : Fin 512) (i : Fin 256) :
    k0_pay25 (F := Ideal) v13 v16 (ix2 k i) = ∑ l : Fin 128, v13 (ix2 k l) * v16 (ix2 i l) := by
  pointwise [k0_pay25]

/-- The leading unit axis of head 2. -/
theorem liftC2 (v17 : FVec Ideal S512x256 .f32) (k : Fin 512) (i : Fin 256) :
    k0_pay29 (F := Ideal) v17 (ix3 0 k i) = v17 (ix2 k i) := by
  pointwise [k0_pay29]

/-- A context score of head 3. -/
theorem scoreC3 (v18 : FVec Ideal S512x128 .bf16) (v21 : FVec Ideal S256x128 .bf16) (k : Fin 512) (i : Fin 256) :
    k0_pay26 (F := Ideal) v18 v21 (ix2 k i) = ∑ l : Fin 128, v18 (ix2 k l) * v21 (ix2 i l) := by
  pointwise [k0_pay26]

/-- The leading unit axis of head 3. -/
theorem liftC3 (v22 : FVec Ideal S512x256 .f32) (k : Fin 512) (i : Fin 256) :
    k0_pay30 (F := Ideal) v22 (ix3 0 k i) = v22 (ix2 k i) := by
  pointwise [k0_pay30]

/-- A context score of head 4. -/
theorem scoreC4 (v23 : FVec Ideal S512x128 .bf16) (v26 : FVec Ideal S256x128 .bf16) (k : Fin 512) (i : Fin 256) :
    k0_pay31 (F := Ideal) v23 v26 (ix3 0 k i) = ∑ l : Fin 128, v23 (ix2 k l) * v26 (ix2 i l) := by
  pointwise [k0_pay31]

/-- A context score of head 5. -/
theorem scoreC5 (v28 : FVec Ideal S512x128 .bf16) (v31 : FVec Ideal S256x128 .bf16) (k : Fin 512) (i : Fin 256) :
    k0_pay32 (F := Ideal) v28 v31 (ix3 0 k i) = ∑ l : Fin 128, v28 (ix2 k l) * v31 (ix2 i l) := by
  pointwise [k0_pay32]

/-- A context score of head 6. -/
theorem scoreC6 (v33 : FVec Ideal S512x128 .bf16) (v36 : FVec Ideal S256x128 .bf16) (k : Fin 512) (i : Fin 256) :
    k0_pay33 (F := Ideal) v33 v36 (ix3 0 k i) = ∑ l : Fin 128, v33 (ix2 k l) * v36 (ix2 i l) := by
  pointwise [k0_pay33]

/-- A context score of head 7. -/
theorem scoreC7 (v38 : FVec Ideal S512x128 .bf16) (v41 : FVec Ideal S256x128 .bf16) (k : Fin 512) (i : Fin 256) :
    k0_pay34 (F := Ideal) v38 v41 (ix3 0 k i) = ∑ l : Fin 128, v38 (ix2 k l) * v41 (ix2 i l) := by
  pointwise [k0_pay34]

/-- A latent score of head 0. -/
theorem scoreL0 (v54 : FVec Ideal S1024x128 .bf16) (v57 : FVec Ideal S256x128 .bf16) (k : Fin 1024) (i : Fin 256) :
    k0_pay36 (F := Ideal) v54 v57 (ix2 k i) = ∑ l : Fin 128, v54 (ix2 k l) * v57 (ix2 i l) := by
  pointwise [k0_pay36]

/-- A latent score of head 1. -/
theorem scoreL1 (v61 : FVec Ideal S1024x128 .bf16) (v64 : FVec Ideal S256x128 .bf16) (k : Fin 1024) (i : Fin 256) :
    k0_pay37 (F := Ideal) v61 v64 (ix2 k i) = ∑ l : Fin 128, v61 (ix2 k l) * v64 (ix2 i l) := by
  pointwise [k0_pay37]

/-- A latent score of head 2. -/
theorem scoreL2 (v68 : FVec Ideal S1024x128 .bf16) (v71 : FVec Ideal S256x128 .bf16) (k : Fin 1024) (i : Fin 256) :
    k0_pay38 (F := Ideal) v68 v71 (ix2 k i) = ∑ l : Fin 128, v68 (ix2 k l) * v71 (ix2 i l) := by
  pointwise [k0_pay38]

/-- A latent score of head 3. -/
theorem scoreL3 (v75 : FVec Ideal S1024x128 .bf16) (v78 : FVec Ideal S256x128 .bf16) (k : Fin 1024) (i : Fin 256) :
    k0_pay39 (F := Ideal) v75 v78 (ix2 k i) = ∑ l : Fin 128, v75 (ix2 k l) * v78 (ix2 i l) := by
  pointwise [k0_pay39]

/-- A latent score of head 4. -/
theorem scoreL4 (v82 : FVec Ideal S1024x128 .bf16) (v85 : FVec Ideal S256x128 .bf16) (k : Fin 1024) (i : Fin 256) :
    k0_pay40 (F := Ideal) v82 v85 (ix2 k i) = ∑ l : Fin 128, v82 (ix2 k l) * v85 (ix2 i l) := by
  pointwise [k0_pay40]

/-- A latent score of head 5. -/
theorem scoreL5 (v89 : FVec Ideal S1024x128 .bf16) (v92 : FVec Ideal S256x128 .bf16) (k : Fin 1024) (i : Fin 256) :
    k0_pay41 (F := Ideal) v89 v92 (ix2 k i) = ∑ l : Fin 128, v89 (ix2 k l) * v92 (ix2 i l) := by
  pointwise [k0_pay41]

/-- The word the maxima start from denotes minus infinity. -/
theorem ofBits_negInf : Ideal.ofBits .f32 4286578688#32 = ⊥ := by
  simp [Ideal.ofBits, Ideal.ieee]

/-- The greatest of a column of context scores. -/
theorem colMaxC (X : FVec Ideal S8x512x256 .f32) (h : Fin 8) (i : Fin 256) :
    multiReduction .maximumf [1] S8x256 X 0xFF800000#32 reduces_S8x512x256_S8x256 (.inl rfl) rfl (ix2 h i) = (Finset.univ.fold max ⊥ fun k : Fin 512 => X (ix3 h k i)) := by
  pointwise []
  rw [ofBits_negInf]
/-- The greatest of a column of latent scores. -/
theorem colMaxL (X : FVec Ideal S8x1024x256 .f32) (h : Fin 8) (i : Fin 256) :
    multiReduction .maximumf [1] S8x256 X 0xFF800000#32 reduces_S8x1024x256_S8x256 (.inl rfl) rfl (ix2 h i) = (Finset.univ.fold max ⊥ fun k : Fin 1024 => X (ix3 h k i)) := by
  pointwise []
  rw [ofBits_negInf]
/-- The maxima with a unit axis put in. -/
theorem liftMax (X : FVec Ideal S8x256 .f32) (h : Fin 8) (i : Fin 256) :
    shapeCast S8x1x256 X shapeCasts_S8x256_S8x1x256 (ix3 h 0 i) = X (ix2 h i) := by
  pointwise []
/-- The greater of two vectors, at an index. -/
theorem maxAt (X Y : FVec Ideal S8x1x256 .f32) (y) : maximumf X Y y = max (X y) (Y y) := rfl

/-- The greatest score of head `h` for query `i`, over the context keys and the latent keys. -/
theorem rowMax (v51 : FVec Ideal S8x512x256 .f32) (v58 : FVec Ideal S1024x256 .f32) (v65 : FVec Ideal S1024x256 .f32) (v72 : FVec Ideal S1024x256 .f32) (v79 : FVec Ideal S1024x256 .f32) (v86 : FVec Ideal S1024x256 .f32) (v93 : FVec Ideal S1024x256 .f32) (v96 : FVec Ideal S1024x128 .bf16) (v99 : FVec Ideal S256x128 .bf16) (v103 : FVec Ideal S1024x128 .bf16) (v106 : FVec Ideal S256x128 .bf16) (h : Fin 8) (i : Fin 256) :
    k0_pay43 (F := Ideal) v51 v58 v65 v72 v79 v86 v93 v96 v99 v103 v106 (ix3 h 0 i) = max (Finset.univ.fold max ⊥ fun k : Fin 512 => v51 (ix3 h k i)) (Finset.univ.fold max ⊥ fun k : Fin 1024 => k0_pay42 (F := Ideal) v58 v65 v72 v79 v86 v93 v96 v99 v103 v106 (ix3 h k i)) := by
  unfold k0_pay43
  generalize k0_pay42 (F := Ideal) v58 v65 v72 v79 v86 v93 v96 v99 v103 v106 = L
  rw [maxAt, liftMax, liftMax, colMaxC, colMaxL]

/-- Head 0, a context key: the exponential of the score less the greatest. -/
theorem expC0 (v51 : FVec Ideal S8x512x256 .f32) (v58 : FVec Ideal S1024x256 .f32) (v65 : FVec Ideal S1024x256 .f32) (v72 : FVec Ideal S1024x256 .f32) (v79 : FVec Ideal S1024x256 .f32) (v86 : FVec Ideal S1024x256 .f32) (v93 : FVec Ideal S1024x256 .f32) (v96 : FVec Ideal S1024x128 .bf16) (v99 : FVec Ideal S256x128 .bf16) (v103 : FVec Ideal S1024x128 .bf16) (v106 : FVec Ideal S256x128 .bf16) (k : Fin 512) (i : Fin 256) :
    k0_pay44 (F := Ideal) v51 v58 v65 v72 v79 v86 v93 v96 v99 v103 v106 (ix2 k i) = Ideal.exp (v51 (ix3 0 k i) - k0_pay43 (F := Ideal) v51 v58 v65 v72 v79 v86 v93 v96 v99 v103 v106 (ix3 0 0 i)) := by
  pointwise [k0_pay44]

/-- Head 0, a latent key: the exponential of the score less the greatest. -/
theorem expL0 (v51 : FVec Ideal S8x512x256 .f32) (v58 : FVec Ideal S1024x256 .f32) (v65 : FVec Ideal S1024x256 .f32) (v72 : FVec Ideal S1024x256 .f32) (v79 : FVec Ideal S1024x256 .f32) (v86 : FVec Ideal S1024x256 .f32) (v93 : FVec Ideal S1024x256 .f32) (v96 : FVec Ideal S1024x128 .bf16) (v99 : FVec Ideal S256x128 .bf16) (v103 : FVec Ideal S1024x128 .bf16) (v106 : FVec Ideal S256x128 .bf16) (k : Fin 1024) (i : Fin 256) :
    k0_pay45 (F := Ideal) v51 v58 v65 v72 v79 v86 v93 v96 v99 v103 v106 (ix2 k i) = Ideal.exp (k0_pay42 (F := Ideal) v58 v65 v72 v79 v86 v93 v96 v99 v103 v106 (ix3 0 k i) - k0_pay43 (F := Ideal) v51 v58 v65 v72 v79 v86 v93 v96 v99 v103 v106 (ix3 0 0 i)) := by
  pointwise [k0_pay45]

/-- Head 1, a context key: the exponential of the score less the greatest. -/
theorem expC1 (v51 : FVec Ideal S8x512x256 .f32) (v121 : FVec Ideal S8x1x256 .f32) (k : Fin 512) (i : Fin 256) :
    k0_pay47 (F := Ideal) v51 v121 (ix2 k i) = Ideal.exp (v51 (ix3 1 k i) - v121 (ix3 1 0 i)) := by
  pointwise [k0_pay47]

/-- Head 2, a context key: the exponential of the score less the greatest. -/
theorem expC2 (v51 : FVec Ideal S8x512x256 .f32) (v121 : FVec Ideal S8x1x256 .f32) (k : Fin 512) (i : Fin 256) :
    k0_pay49 (F := Ideal) v51 v121 (ix2 k i) = Ideal.exp (v51 (ix3 2 k i) - v121 (ix3 2 0 i)) := by
  pointwise [k0_pay49]

/-- Head 3, a context key: the exponential of the score less the greatest. -/
theorem expC3 (v51 : FVec Ideal S8x512x256 .f32) (v121 : FVec Ideal S8x1x256 .f32) (k : Fin 512) (i : Fin 256) :
    k0_pay51 (F := Ideal) v51 v121 (ix2 k i) = Ideal.exp (v51 (ix3 3 k i) - v121 (ix3 3 0 i)) := by
  pointwise [k0_pay51]

/-- Head 4, a context key: the exponential of the score less the greatest. -/
theorem expC4 (v51 : FVec Ideal S8x512x256 .f32) (v121 : FVec Ideal S8x1x256 .f32) (k : Fin 512) (i : Fin 256) :
    k0_pay54 (F := Ideal) v51 v121 (ix2 k i) = Ideal.exp (v51 (ix3 4 k i) - v121 (ix3 4 0 i)) := by
  pointwise [k0_pay54]

/-- Head 5, a context key: the exponential of the score less the greatest. -/
theorem expC5 (v51 : FVec Ideal S8x512x256 .f32) (v121 : FVec Ideal S8x1x256 .f32) (k : Fin 512) (i : Fin 256) :
    k0_pay57 (F := Ideal) v51 v121 (ix2 k i) = Ideal.exp (v51 (ix3 5 k i) - v121 (ix3 5 0 i)) := by
  pointwise [k0_pay57]

/-- Head 6, a context key: the exponential of the score less the greatest. -/
theorem expC6 (v51 : FVec Ideal S8x512x256 .f32) (v121 : FVec Ideal S8x1x256 .f32) (k : Fin 512) (i : Fin 256) :
    k0_pay61 (F := Ideal) v51 v121 (ix2 k i) = Ideal.exp (v51 (ix3 6 k i) - v121 (ix3 6 0 i)) := by
  pointwise [k0_pay61]

/-- Head 7, a context key: the exponential of the score less the greatest. -/
theorem expC7 (v51 : FVec Ideal S8x512x256 .f32) (v121 : FVec Ideal S8x1x256 .f32) (k : Fin 512) (i : Fin 256) :
    k0_pay63 (F := Ideal) v51 v121 (ix2 k i) = Ideal.exp (v51 (ix3 7 k i) - v121 (ix3 7 0 i)) := by
  pointwise [k0_pay63]

/-- Head 1, a latent key: the exponential of the score less the greatest. -/
theorem expL1 (v116 : FVec Ideal S8x1024x256 .f32) (v121 : FVec Ideal S8x1x256 .f32) (k : Fin 1024) (i : Fin 256) :
    k0_pay48 (F := Ideal) v116 v121 (ix2 k i) = Ideal.exp (v116 (ix3 1 k i) - v121 (ix3 1 0 i)) := by
  pointwise [k0_pay48]

/-- Head 2, a latent key: the exponential of the score less the greatest. -/
theorem expL2 (v116 : FVec Ideal S8x1024x256 .f32) (v121 : FVec Ideal S8x1x256 .f32) (k : Fin 1024) (i : Fin 256) :
    k0_pay50 (F := Ideal) v116 v121 (ix2 k i) = Ideal.exp (v116 (ix3 2 k i) - v121 (ix3 2 0 i)) := by
  pointwise [k0_pay50]

/-- Head 4, a latent key: the exponential of the score less the greatest. -/
theorem expL4 (v116 : FVec Ideal S8x1024x256 .f32) (v121 : FVec Ideal S8x1x256 .f32) (k : Fin 1024) (i : Fin 256) :
    k0_pay55 (F := Ideal) v116 v121 (ix2 k i) = Ideal.exp (v116 (ix3 4 k i) - v121 (ix3 4 0 i)) := by
  pointwise [k0_pay55]

/-- Head 6, a latent key: the exponential of the score less the greatest. -/
theorem expL6 (v116 : FVec Ideal S8x1024x256 .f32) (v121 : FVec Ideal S8x1x256 .f32) (k : Fin 1024) (i : Fin 256) :
    k0_pay62 (F := Ideal) v116 v121 (ix2 k i) = Ideal.exp (v116 (ix3 6 k i) - v121 (ix3 6 0 i)) := by
  pointwise [k0_pay62]

/-- Head 7, a latent key: the exponential of the score less the greatest. -/
theorem expL7 (v116 : FVec Ideal S8x1024x256 .f32) (v121 : FVec Ideal S8x1x256 .f32) (k : Fin 1024) (i : Fin 256) :
    k0_pay64 (F := Ideal) v116 v121 (ix2 k i) = Ideal.exp (v116 (ix3 7 k i) - v121 (ix3 7 0 i)) := by
  pointwise [k0_pay64]

/-- Head 3 of the latent scores. -/
theorem layerL3 (v116 : FVec Ideal S8x1024x256 .f32) (k : Fin 1024) (i : Fin 256) :
    k0_pay52 (F := Ideal) v116 (ix3 0 k i) = v116 (ix3 3 k i) := by
  pointwise [k0_pay52]

/-- Head 3, a latent key: the exponential of the score less the greatest. -/
theorem expL3 (v121 : FVec Ideal S8x1x256 .f32) (v184 : FVec Ideal S1x1024x256 .f32) (k : Fin 1024) (i : Fin 256) :
    k0_pay53 (F := Ideal) v121 v184 (ix2 k i) = Ideal.exp (v184 (ix3 0 k i) - v121 (ix3 3 0 i)) := by
  pointwise [k0_pay53]

/-- Head 5 of the latent scores. -/
theorem layerL5 (v116 : FVec Ideal S8x1024x256 .f32) (k : Fin 1024) (i : Fin 256) :
    k0_pay58 (F := Ideal) v116 (ix2 k i) = v116 (ix3 5 k i) := by
  pointwise [k0_pay58]

/-- Head 5 of the greatest scores. -/
theorem max5 (v121 : FVec Ideal S8x1x256 .f32) (i : Fin 256) :
    k0_pay59 (F := Ideal) v121 (ix2 0 i) = v121 (ix3 5 0 i) := by
  pointwise [k0_pay59]

/-- Head 5, a latent key: the exponential of the score less the greatest. -/
theorem expL5 (v226 : FVec Ideal S1024x256 .f32) (v228 : FVec Ideal S1x256 .f32) (k : Fin 1024) (i : Fin 256) :
    k0_pay60 (F := Ideal) v226 v228 (ix2 k i) = Ideal.exp (v226 (ix2 k i) - v228 (ix2 0 i)) := by
  pointwise [k0_pay60]

/-- Head 0: the weighted values over the sum of the weights. -/
theorem mean0 (v128 : FVec Ideal S512x256 .f32) (v135 : FVec Ideal S1024x256 .f32) (v265 : FVec Ideal S64x512 .bf16) (v268 : FVec Ideal S64x1024 .bf16) (d : Fin 64) (i : Fin 256) :
    k0_pay65 (F := Ideal) v128 v135 v265 v268 (ix2 d i) = Ideal.div (∑ k : Fin 512, v265 (ix2 d k) * v128 (ix2 k i) + ∑ k : Fin 1024, v268 (ix2 d k) * v135 (ix2 k i)) (∑ k : Fin 512, v128 (ix2 k i) + ∑ k : Fin 1024, v135 (ix2 k i)) := by
  pointwise [k0_pay65]

/-- Head 2: the weighted values over the sum of the weights. -/
theorem mean2 (v169 : FVec Ideal S512x256 .f32) (v176 : FVec Ideal S1024x256 .f32) (v293 : FVec Ideal S64x512 .bf16) (v296 : FVec Ideal S64x1024 .bf16) (d : Fin 64) (i : Fin 256) :
    k0_pay68 (F := Ideal) v169 v176 v293 v296 (ix2 d i) = Ideal.div (∑ k : Fin 512, v293 (ix2 d k) * v169 (ix2 k i) + ∑ k : Fin 1024, v296 (ix2 d k) * v176 (ix2 k i)) (∑ k : Fin 512, v169 (ix2 k i) + ∑ k : Fin 1024, v176 (ix2 k i)) := by
  pointwise [k0_pay68]

/-- Head 3: the weighted values over the sum of the weights. -/
theorem mean3 (v183 : FVec Ideal S512x256 .f32) (v190 : FVec Ideal S1024x256 .f32) (v307 : FVec Ideal S64x512 .bf16) (v310 : FVec Ideal S64x1024 .bf16) (d : Fin 64) (i : Fin 256) :
    k0_pay69 (F := Ideal) v183 v190 v307 v310 (ix2 d i) = Ideal.div (∑ k : Fin 512, v307 (ix2 d k) * v183 (ix2 k i) + ∑ k : Fin 1024, v310 (ix2 d k) * v190 (ix2 k i)) (∑ k : Fin 512, v183 (ix2 k i) + ∑ k : Fin 1024, v190 (ix2 k i)) := by
  pointwise [k0_pay69]

/-- Head 4: the weighted values over the sum of the weights. -/
theorem mean4 (v197 : FVec Ideal S512x256 .f32) (v204 : FVec Ideal S1024x256 .f32) (v321 : FVec Ideal S64x512 .bf16) (v324 : FVec Ideal S64x1024 .bf16) (d : Fin 64) (i : Fin 256) :
    k0_pay70 (F := Ideal) v197 v204 v321 v324 (ix2 d i) = Ideal.div (∑ k : Fin 512, v321 (ix2 d k) * v197 (ix2 k i) + ∑ k : Fin 1024, v324 (ix2 d k) * v204 (ix2 k i)) (∑ k : Fin 512, v197 (ix2 k i) + ∑ k : Fin 1024, v204 (ix2 k i)) := by
  pointwise [k0_pay70]

/-- Head 5: the weighted values over the sum of the weights. -/
theorem mean5 (v224 : FVec Ideal S512x256 .f32) (v231 : FVec Ideal S1024x256 .f32) (v335 : FVec Ideal S64x512 .bf16) (v338 : FVec Ideal S64x1024 .bf16) (d : Fin 64) (i : Fin 256) :
    k0_pay71 (F := Ideal) v224 v231 v335 v338 (ix2 d i) = Ideal.div (∑ k : Fin 512, v335 (ix2 d k) * v224 (ix2 k i) + ∑ k : Fin 1024, v338 (ix2 d k) * v231 (ix2 k i)) (∑ k : Fin 512, v224 (ix2 k i) + ∑ k : Fin 1024, v231 (ix2 k i)) := by
  pointwise [k0_pay71]

/-- Head 1: the weighted values over the sum of the weights. -/
theorem mean1 (v155 : FVec Ideal S512x256 .f32) (v162 : FVec Ideal S1024x256 .f32) (v278 : FVec Ideal S1x256 .f32) (v279 : FVec Ideal S64x512 .bf16) (v282 : FVec Ideal S64x1024 .bf16) (d : Fin 64) (i : Fin 256) :
    k0_pay67 (F := Ideal) v155 v162 v278 v279 v282 (ix2 d i) = Ideal.div (∑ k : Fin 512, v279 (ix2 d k) * v155 (ix2 k i) + ∑ k : Fin 1024, v282 (ix2 d k) * v162 (ix2 k i)) (v278 (ix2 0 i)) := by
  pointwise [k0_pay67]

/-- Head 1: the sum of the weights. -/
theorem denom1 (v155 : FVec Ideal S512x256 .f32) (v162 : FVec Ideal S1024x256 .f32) (i : Fin 256) :
    k0_pay66 (F := Ideal) v155 v162 (ix2 0 i) = ∑ k : Fin 512, v155 (ix2 k i) + ∑ k : Fin 1024, v162 (ix2 k i) := by
  pointwise [k0_pay66]

/-- Head 6: the sum of the weights. -/
theorem denom6 (v238 : FVec Ideal S512x256 .f32) (v245 : FVec Ideal S1024x256 .f32) (i : Fin 256) :
    k0_pay72 (F := Ideal) v238 v245 (ix2 0 i) = ∑ k : Fin 512, v238 (ix2 k i) + ∑ k : Fin 1024, v245 (ix2 k i) := by
  pointwise [k0_pay72]

/-- Head 6: the weighted context values. -/
theorem valC6 (v238 : FVec Ideal S512x256 .f32) (v349 : FVec Ideal S64x512 .bf16) (d : Fin 64) (i : Fin 256) :
    k0_pay73 (F := Ideal) v238 v349 (ix2 d i) = ∑ k : Fin 512, v349 (ix2 d k) * v238 (ix2 k i) := by
  pointwise [k0_pay73]

/-- Head 6: the latent weights as they are multiplied. -/
theorem wL6 (v245 : FVec Ideal S1024x256 .f32) (k : Fin 1024) (i : Fin 256) :
    k0_pay74 (F := Ideal) v245 (ix2 k i) = v245 (ix2 k i) := by
  pointwise [k0_pay74]

end Cert.KernelIdeal.Attn

end
-- ==== Proof.Columns.lean ====
module

public import proofs.«01_k».proof.Proof.Gen.KernelIdeal.Skeleton
public import Idealize.ShloMosaic.Lib.Pointwise

/-! The output block of the latent attention body read at coordinates: column `64 h + d` is coordinate `d` of head `h`. -/

@[expose] public section

set_option maxRecDepth 16384

noncomputable section

namespace Cert.KernelIdeal.Attn

open Cert.KernelIdeal Cert.KernelIdeal.Gen Idealize.ShloMosaic Idealize.ShloMosaic.TcCoe Idealize.SL.Sem

/-- Head 0 of the output block. -/
theorem out0 (v252 : FVec Ideal S512x256 .f32) (v259 : FVec Ideal S1024x256 .f32) (v273 : FVec Ideal S64x256 .f32) (v287 : FVec Ideal S64x256 .f32) (v301 : FVec Ideal S64x256 .f32) (v315 : FVec Ideal S64x256 .f32) (v329 : FVec Ideal S64x256 .f32) (v343 : FVec Ideal S64x256 .f32) (v348 : FVec Ideal S1x256 .f32) (v351 : FVec Ideal S64x256 .f32) (v352 : FVec Ideal S64x1024 .bf16) (v353 : FVec Ideal S1024x256 .bf16) (v363 : FVec Ideal S64x512 .bf16) (v366 : FVec Ideal S64x1024 .bf16) (d : Fin 64) (i : Fin 256) :
    k0_pay1 (F := Ideal) v252 v259 v273 v287 v301 v315 v329 v343 v348 v351 v352 v353 v363 v366 (ix3 0 i (⟨64 * 0 + d.val, by omega⟩ : Fin 512)) = v273 (ix2 d i) := by
  pointwise [k0_pay1]

/-- Head 1 of the output block. -/
theorem out1 (v252 : FVec Ideal S512x256 .f32) (v259 : FVec Ideal S1024x256 .f32) (v273 : FVec Ideal S64x256 .f32) (v287 : FVec Ideal S64x256 .f32) (v301 : FVec Ideal S64x256 .f32) (v315 : FVec Ideal S64x256 .f32) (v329 : FVec Ideal S64x256 .f32) (v343 : FVec Ideal S64x256 .f32) (v348 : FVec Ideal S1x256 .f32) (v351 : FVec Ideal S64x256 .f32) (v352 : FVec Ideal S64x1024 .bf16) (v353 : FVec Ideal S1024x256 .bf16) (v363 : FVec Ideal S64x512 .bf16) (v366 : FVec Ideal S64x1024 .bf16) (d : Fin 64) (i : Fin 256) :
    k0_pay1 (F := Ideal) v252 v259 v273 v287 v301 v315 v329 v343 v348 v351 v352 v353 v363 v366 (ix3 0 i (⟨64 * 1 + d.val, by omega⟩ : Fin 512)) = v287 (ix2 d i) := by
  pointwise [k0_pay1]

/-- Head 2 of the output block. -/
theorem out2 (v252 : FVec Ideal S512x256 .f32) (v259 : FVec Ideal S1024x256 .f32) (v273 : FVec Ideal S64x256 .f32) (v287 : FVec Ideal S64x256 .f32) (v301 : FVec Ideal S64x256 .f32) (v315 : FVec Ideal S64x256 .f32) (v329 : FVec Ideal S64x256 .f32) (v343 : FVec Ideal S64x256 .f32) (v348 : FVec Ideal S1x256 .f32) (v351 : FVec Ideal S64x256 .f32) (v352 : FVec Ideal S64x1024 .bf16) (v353 : FVec Ideal S1024x256 .bf16) (v363 : FVec Ideal S64x512 .bf16) (v366 : FVec Ideal S64x1024 .bf16) (d : Fin 64) (i : Fin 256) :
    k0_pay1 (F := Ideal) v252 v259 v273 v287 v301 v315 v329 v343 v348 v351 v352 v353 v363 v366 (ix3 0 i (⟨64 * 2 + d.val, by omega⟩ : Fin 512)) = v301 (ix2 d i) := by
  pointwise [k0_pay1]
  simp only [Nat.sub_sub, Nat.reduceAdd, Nat.reduceMul, Nat.add_sub_cancel_left]
  simp (disch := omega) only [dif_neg, dif_pos]

/-- Head 3 of the output block. -/
theorem out3 (v252 : FVec Ideal S512x256 .f32) (v259 : FVec Ideal S1024x256 .f32) (v273 : FVec Ideal S64x256 .f32) (v287 : FVec Ideal S64x256 .f32) (v301 : FVec Ideal S64x256 .f32) (v315 : FVec Ideal S64x256 .f32) (v329 : FVec Ideal S64x256 .f32) (v343 : FVec Ideal S64x256 .f32) (v348 : FVec Ideal S1x256 .f32) (v351 : FVec Ideal S64x256 .f32) (v352 : FVec Ideal S64x1024 .bf16) (v353 : FVec Ideal S1024x256 .bf16) (v363 : FVec Ideal S64x512 .bf16) (v366 : FVec Ideal S64x1024 .bf16) (d : Fin 64) (i : Fin 256) :
    k0_pay1 (F := Ideal) v252 v259 v273 v287 v301 v315 v329 v343 v348 v351 v352 v353 v363 v366 (ix3 0 i (⟨64 * 3 + d.val, by omega⟩ : Fin 512)) = v315 (ix2 d i) := by
  pointwise [k0_pay1]
  simp only [Nat.sub_sub, Nat.reduceAdd, Nat.reduceMul, Nat.add_sub_cancel_left]
  simp (disch := omega) only [dif_neg, dif_pos]

/-- Head 4 of the output block. -/
theorem out4 (v252 : FVec Ideal S512x256 .f32) (v259 : FVec Ideal S1024x256 .f32) (v273 : FVec Ideal S64x256 .f32) (v287 : FVec Ideal S64x256 .f32) (v301 : FVec Ideal S64x256 .f32) (v315 : FVec Ideal S64x256 .f32) (v329 : FVec Ideal S64x256 .f32) (v343 : FVec Ideal S64x256 .f32) (v348 : FVec Ideal S1x256 .f32) (v351 : FVec Ideal S64x256 .f32) (v352 : FVec Ideal S64x1024 .bf16) (v353 : FVec Ideal S1024x256 .bf16) (v363 : FVec Ideal S64x512 .bf16) (v366 : FVec Ideal S64x1024 .bf16) (d : Fin 64) (i : Fin 256) :
    k0_pay1 (F := Ideal) v252 v259 v273 v287 v301 v315 v329 v343 v348 v351 v352 v353 v363 v366 (ix3 0 i (⟨64 * 4 + d.val, by omega⟩ : Fin 512)) = v329 (ix2 d i) := by
  pointwise [k0_pay1]
  simp only [Nat.sub_sub, Nat.reduceAdd, Nat.reduceMul, Nat.add_sub_cancel_left]
  simp (disch := omega) only [dif_neg, dif_pos]

/-- Head 5 of the output block. -/
theorem out5 (v252 : FVec Ideal S512x256 .f32) (v259 : FVec Ideal S1024x256 .f32) (v273 : FVec Ideal S64x256 .f32) (v287 : FVec Ideal S64x256 .f32) (v301 : FVec Ideal S64x256 .f32) (v315 : FVec Ideal S64x256 .f32) (v329 : FVec Ideal S64x256 .f32) (v343 : FVec Ideal S64x256 .f32) (v348 : FVec Ideal S1x256 .f32) (v351 : FVec Ideal S64x256 .f32) (v352 : FVec Ideal S64x1024 .bf16) (v353 : FVec Ideal S1024x256 .bf16) (v363 : FVec Ideal S64x512 .bf16) (v366 : FVec Ideal S64x1024 .bf16) (d : Fin 64) (i : Fin 256) :
    k0_pay1 (F := Ideal) v252 v259 v273 v287 v301 v315 v329 v343 v348 v351 v352 v353 v363 v366 (ix3 0 i (⟨64 * 5 + d.val, by omega⟩ : Fin 512)) = v343 (ix2 d i) := by
  pointwise [k0_pay1]
  simp only [Nat.sub_sub, Nat.reduceAdd, Nat.reduceMul, Nat.add_sub_cancel_left]
  simp (disch := omega) only [dif_neg, dif_pos]

/-- Head 6 of the output block. -/
theorem out6 (v252 : FVec Ideal S512x256 .f32) (v259 : FVec Ideal S1024x256 .f32) (v273 : FVec Ideal S64x256 .f32) (v287 : FVec Ideal S64x256 .f32) (v301 : FVec Ideal S64x256 .f32) (v315 : FVec Ideal S64x256 .f32) (v329 : FVec Ideal S64x256 .f32) (v343 : FVec Ideal S64x256 .f32) (v348 : FVec Ideal S1x256 .f32) (v351 : FVec Ideal S64x256 .f32) (v352 : FVec Ideal S64x1024 .bf16) (v353 : FVec Ideal S1024x256 .bf16) (v363 : FVec Ideal S64x512 .bf16) (v366 : FVec Ideal S64x1024 .bf16) (d : Fin 64) (i : Fin 256) :
    k0_pay1 (F := Ideal) v252 v259 v273 v287 v301 v315 v329 v343 v348 v351 v352 v353 v363 v366 (ix3 0 i (⟨64 * 6 + d.val, by omega⟩ : Fin 512)) = Ideal.div (v351 (ix2 d i) + ∑ k : Fin 1024, v352 (ix2 d k) * v353 (ix2 k i)) (v348 (ix2 0 i)) := by
  pointwise [k0_pay1]
  simp only [Nat.sub_sub, Nat.reduceAdd, Nat.reduceMul, Nat.add_sub_cancel_left]
  simp (disch := omega) only [dif_neg, dif_pos]

/-- Head 7 of the output block. -/
theorem out7 (v252 : FVec Ideal S512x256 .f32) (v259 : FVec Ideal S1024x256 .f32) (v273 : FVec Ideal S64x256 .f32) (v287 : FVec Ideal S64x256 .f32) (v301 : FVec Ideal S64x256 .f32) (v315 : FVec Ideal S64x256 .f32) (v329 : FVec Ideal S64x256 .f32) (v343 : FVec Ideal S64x256 .f32) (v348 : FVec Ideal S1x256 .f32) (v351 : FVec Ideal S64x256 .f32) (v352 : FVec Ideal S64x1024 .bf16) (v353 : FVec Ideal S1024x256 .bf16) (v363 : FVec Ideal S64x512 .bf16) (v366 : FVec Ideal S64x1024 .bf16) (d : Fin 64) (i : Fin 256) :
    k0_pay1 (F := Ideal) v252 v259 v273 v287 v301 v315 v329 v343 v348 v351 v352 v353 v363 v366 (ix3 0 i (⟨64 * 7 + d.val, by omega⟩ : Fin 512)) = Ideal.div (∑ k : Fin 512, v363 (ix2 d k) * v252 (ix2 k i) + ∑ k : Fin 1024, v366 (ix2 d k) * v259 (ix2 k i)) (∑ k : Fin 512, v252 (ix2 k i) + ∑ k : Fin 1024, v259 (ix2 k i)) := by
  pointwise [k0_pay1]
  simp only [Nat.sub_sub, Nat.reduceAdd, Nat.reduceMul, Nat.add_sub_cancel_left]
  simp (disch := omega) only [dif_neg, dif_pos]

end Cert.KernelIdeal.Attn

end
-- ==== Proof.Block.lean ====
module

public import proofs.«01_k».proof.Proof.Gen.KernelIdeal.Frame
public import Idealize.ShloMosaic.Lib.Pipeline.ValueKit
public import Idealize.ShloMosaic.Lib.Pipeline.ReadBack
public import Idealize.ShloMosaic.Lib.WholeRead
public import Idealize.ShloMosaic.Lib.ValueLayout
public import Idealize.ShloMosaic.Lib.Pointwise
public import proofs.«01_k».proof.Proof.Steps
public import proofs.«01_k».proof.Proof.Columns

/-! The output block of the latent attention call at one grid point: what each point stores, in terms of the
scratch buffers that hold the context keys and values of the batch. -/

@[expose] public section
set_option maxRecDepth 16384
noncomputable section
open Idealize.ShloMosaic Idealize.ShloMosaic.TcCoe Idealize.SL.Sem
open Idealize.ShloMosaic.Pipeline (Dat)
namespace Cert.KernelIdeal.Attn
open Cert.KernelIdeal Cert.KernelIdeal.Gen
variable (m : (ℓ : Loc nD τ sig) → Buf (Elt Ideal) ℓ)

/-- A load that drops the leading unit axis of a block reads the block itself. -/
theorem read_drop {sp : Space} {a b : ℕ} {e : EltTy} (M : Memref sig .tc sp ⟨3, ![1, a, b]⟩ e) (h : M.IsWhole)
    (X : Shape.Idx ⟨3, ![1, a, b]⟩ → Elt Ideal e) (inb) (hn) :
    View.read (Elt Ideal) ((M.view.slice (Rect.unit ![0, 0, 0] ![1, a, b] inb)).reshape ⟨2, ![a, b]⟩ hn) (h.unread X)
      = fun y => X (ix3 0 (y 0) (y 1)) := by
  funext y
  refine (congrFun (h.read_unread X) _).trans ?_
  refine congrArg X ?_
  obtain ⟨i, j, rfl⟩ : ∃ i j, y = ix2 i j := ⟨y 0, y 1, by funext a; fin_cases a <;> rfl⟩
  have e : Shape.reshapeEquiv hn (ix2 i j) = ix3 0 i j := ValueIdx.reshapeEquiv_ix2_1ab hn i j
  refine (congrArg (fun z => (Rect.unit (s := ⟨3, ![1, a, b]⟩) ![0, 0, 0] ![1, a, b] inb).emb z) e).trans ?_
  funext q
  apply Fin.ext
  fin_cases q <;> simp [Rect.emb, Rect.unit]

/-- The softmax-weighted mean of values over two sets of keys, given by their scores `s1`, `s2` and values `v1`, `v2`. -/
def attn (s1 : Fin 512 → EReal) (s2 : Fin 1024 → EReal) (v1 : Fin 512 → EReal) (v2 : Fin 1024 → EReal) : EReal :=
  Ideal.div
    (∑ k, v1 k * Ideal.exp (s1 k - max (Finset.univ.fold max ⊥ s1) (Finset.univ.fold max ⊥ s2))
      + ∑ k, v2 k * Ideal.exp (s2 k - max (Finset.univ.fold max ⊥ s1) (Finset.univ.fold max ⊥ s2)))
    (∑ k, Ideal.exp (s1 k - max (Finset.univ.fold max ⊥ s1) (Finset.univ.fold max ⊥ s2))
      + ∑ k, Ideal.exp (s2 k - max (Finset.univ.fold max ⊥ s1) (Finset.univ.fold max ⊥ s2)))

/-- One entry of the output block: query `i`, head `h`, coordinate `d`, from the context keys `kc` and values `vc`, the queries
`q`, and the latent keys `kl` and values `vl`. -/
def blkO (kc : FVec Ideal S512x1024 .bf16) (vc : FVec Ideal S512x512 .bf16) (q : FVec Ideal S256x1024 .bf16) (kl : FVec Ideal S1024x1024 .bf16)
   (vl : FVec Ideal S512x1024 .bf16) (i : Fin 256) (h : Fin 8) (d : Fin 64) : EReal :=
  attn (fun k => ∑ l : Fin 128, kc (ix2 k ⟨128 * h.val + l.val, by omega⟩) * q (ix2 i ⟨128 * h.val + l.val, by omega⟩))
    (fun k => ∑ l : Fin 128, kl (ix2 k ⟨128 * h.val + l.val, by omega⟩) * q (ix2 i ⟨128 * h.val + l.val, by omega⟩))
    (fun k => vc (ix2 ⟨64 * h.val + d.val, by omega⟩ k)) (fun k => vl (ix2 ⟨64 * h.val + d.val, by omega⟩ k))

/-- The offsets of a box at the origin. -/
theorem zero2 : (![0, 0] : Fin 2 → Nat) = fun _ => 0 := by decide

/-- A later point of a batch leaves the context keys as it finds them. -/
theorem keepK (c : Dev nD) (t : Fin cfg0.N) (h0 : ¬ t.val % 4 = 0) : (outsAt0 m c t.val t.isLt).2.2.1
    = (outsAt0 m c (t.val - 1) (Nat.lt_of_le_of_lt (Nat.sub_le _ _) t.isLt)).2.2.1 := by
  rw [outsAt0_B m c t h0]
  rfl

/-- A later point of a batch leaves the context values as it finds them. -/
theorem keepV (c : Dev nD) (t : Fin cfg0.N) (h0 : ¬ t.val % 4 = 0) : (outsAt0 m c t.val t.isLt).2.2.2
    = (outsAt0 m c (t.val - 1) (Nat.lt_of_le_of_lt (Nat.sub_le _ _) t.isLt)).2.2.2 := by
  rw [outsAt0_B m c t h0]
  rfl

set_option maxHeartbeats 2000000 in
/-- Head 0 of the output block, at the first point of a batch. -/
theorem oA0 (c : Dev nD) (t : Fin cfg0.N) (h0 : t.val % 4 = 0) (i : Fin 256) (d : Fin 64) :
    (outsAt0 m c t.val t.isLt).1 (ix3 0 i (⟨64 * 0 + d.val, by omega⟩ : Fin 512))
      = blkO (outsAt0 m c t.val t.isLt).2.2.1 (outsAt0 m c t.val t.isLt).2.2.2 (fun y => iblk m c 0 t (ix3 0 (y 0) (y 1)))
        (fun y => iblk m c 1 t (ix3 0 (y 0) (y 1))) (iblk m c 2 t) i 0 d := by
  rw [outsAt0_A m c t h0]
  frame_out
  rw [read_drop, read_drop]
  generalize (fun y : S256x1024.Idx => iblk m c 0 t (ix3 0 (y 0) (y 1))) = q
  generalize (fun y : S1024x1024.Idx => iblk m c 1 t (ix3 0 (y 0) (y 1))) = kl
  generalize iblk m c 2 t = vl
  rw [out0]
  simp only [mean0, expC0, expL0, rowMax, stackC0, stackL0, liftC0, scoreC0, scoreL0]
  simp only [View.readCov_eq_canon']
  generalize View.canon (Val := Elt Ideal) (s := S512x1024) (e := .bf16) _ = kc
  rw [View.canon_unit_zero (S := S512x512) zero2]
  generalize k0_pay5 (iblk m c 3 t) (iblk m c 6 t) = vc
  pointwise [blkO, attn]

set_option maxHeartbeats 2000000 in
/-- Head 1 of the output block, at the first point of a batch. -/
theorem oA1 (c : Dev nD) (t : Fin cfg0.N) (h0 : t.val % 4 = 0) (i : Fin 256) (d : Fin 64) :
    (outsAt0 m c t.val t.isLt).1 (ix3 0 i (⟨64 * 1 + d.val, by omega⟩ : Fin 512))
      = blkO (outsAt0 m c t.val t.isLt).2.2.1 (outsAt0 m c t.val t.isLt).2.2.2 (fun y => iblk m c 0 t (ix3 0 (y 0) (y 1)))
        (fun y => iblk m c 1 t (ix3 0 (y 0) (y 1))) (iblk m c 2 t) i 1 d := by
  rw [outsAt0_A m c t h0]
  frame_out
  rw [read_drop, read_drop]
  generalize (fun y : S256x1024.Idx => iblk m c 0 t (ix3 0 (y 0) (y 1))) = q
  generalize (fun y : S1024x1024.Idx => iblk m c 1 t (ix3 0 (y 0) (y 1))) = kl
  generalize iblk m c 2 t = vl
  rw [out1]
  simp only [mean1, denom1, expC1, expL1, rowMax, stackC1, stackL1, liftC1, scoreC1, scoreL1]
  simp only [View.readCov_eq_canon']
  generalize View.canon (Val := Elt Ideal) (s := S512x1024) (e := .bf16) _ = kc
  rw [View.canon_unit_zero (S := S512x512) zero2]
  generalize k0_pay5 (iblk m c 3 t) (iblk m c 6 t) = vc
  pointwise [blkO, attn]

set_option maxHeartbeats 2000000 in
/-- Head 2 of the output block, at the first point of a batch. -/
theorem oA2 (c : Dev nD) (t : Fin cfg0.N) (h0 : t.val % 4 = 0) (i : Fin 256) (d : Fin 64) :
    (outsAt0 m c t.val t.isLt).1 (ix3 0 i (⟨64 * 2 + d.val, by omega⟩ : Fin 512))
      = blkO (outsAt0 m c t.val t.isLt).2.2.1 (outsAt0 m c t.val t.isLt).2.2.2 (fun y => iblk m c 0 t (ix3 0 (y 0) (y 1)))
        (fun y => iblk m c 1 t (ix3 0 (y 0) (y 1))) (iblk m c 2 t) i 2 d := by
  rw [outsAt0_A m c t h0]
  frame_out
  rw [read_drop, read_drop]
  generalize (fun y : S256x1024.Idx => iblk m c 0 t (ix3 0 (y 0) (y 1))) = q
  generalize (fun y : S1024x1024.Idx => iblk m c 1 t (ix3 0 (y 0) (y 1))) = kl
  generalize iblk m c 2 t = vl
  rw [out2]
  simp only [mean2, expC2, expL2, rowMax, stackC2, stackL2, liftC2, scoreC2, scoreL2]
  simp only [View.readCov_eq_canon']
  generalize View.canon (Val := Elt Ideal) (s := S512x1024) (e := .bf16) _ = kc
  rw [View.canon_unit_zero (S := S512x512) zero2]
  generalize k0_pay5 (iblk m c 3 t) (iblk m c 6 t) = vc
  pointwise [blkO, attn]

set_option maxHeartbeats 2000000 in
/-- Head 3 of the output block, at the first point of a batch. -/
theorem oA3 (c : Dev nD) (t : Fin cfg0.N) (h0 : t.val % 4 = 0) (i : Fin 256) (d : Fin 64) :
    (outsAt0 m c t.val t.isLt).1 (ix3 0 i (⟨64 * 3 + d.val, by omega⟩ : Fin 512))
      = blkO (outsAt0 m c t.val t.isLt).2.2.1 (outsAt0 m c t.val t.isLt).2.2.2 (fun y => iblk m c 0 t (ix3 0 (y 0) (y 1)))
        (fun y => iblk m c 1 t (ix3 0 (y 0) (y 1))) (iblk m c 2 t) i 3 d := by
  rw [outsAt0_A m c t h0]
  frame_out
  rw [read_drop, read_drop]
  generalize (fun y : S256x1024.Idx => iblk m c 0 t (ix3 0 (y 0) (y 1))) = q
  generalize (fun y : S1024x1024.Idx => iblk m c 1 t (ix3 0 (y 0) (y 1))) = kl
  generalize iblk m c 2 t = vl
  rw [out3]
  simp only [mean3, expC3, expL3, layerL3, rowMax, stackC3, stackL3, liftC3, scoreC3, scoreL3]
  simp only [View.readCov_eq_canon']
  generalize View.canon (Val := Elt Ideal) (s := S512x1024) (e := .bf16) _ = kc
  rw [View.canon_unit_zero (S := S512x512) zero2]
  generalize k0_pay5 (iblk m c 3 t) (iblk m c 6 t) = vc
  pointwise [blkO, attn]

set_option maxHeartbeats 2000000 in
/-- Head 4 of the output block, at the first point of a batch. -/
theorem oA4 (c : Dev nD) (t : Fin cfg0.N) (h0 : t.val % 4 = 0) (i : Fin 256) (d : Fin 64) :
    (outsAt0 m c t.val t.isLt).1 (ix3 0 i (⟨64 * 4 + d.val, by omega⟩ : Fin 512))
      = blkO (outsAt0 m c t.val t.isLt).2.2.1 (outsAt0 m c t.val t.isLt).2.2.2 (fun y => iblk m c 0 t (ix3 0 (y 0) (y 1)))
        (fun y => iblk m c 1 t (ix3 0 (y 0) (y 1))) (iblk m c 2 t) i 4 d := by
  rw [outsAt0_A m c t h0]
  frame_out
  rw [read_drop, read_drop]
  generalize (fun y : S256x1024.Idx => iblk m c 0 t (ix3 0 (y 0) (y 1))) = q
  generalize (fun y : S1024x1024.Idx => iblk m c 1 t (ix3 0 (y 0) (y 1))) = kl
  generalize iblk m c 2 t = vl
  rw [out4]
  simp only [mean4, expC4, expL4, rowMax, stackC4, stackL4, scoreC4, scoreL4]
  simp only [View.readCov_eq_canon']
  generalize View.canon (Val := Elt Ideal) (s := S512x1024) (e := .bf16) _ = kc
  rw [View.canon_unit_zero (S := S512x512) zero2]
  generalize k0_pay5 (iblk m c 3 t) (iblk m c 6 t) = vc
  pointwise [blkO, attn]

set_option maxHeartbeats 2000000 in
/-- Head 5 of the output block, at the first point of a batch. -/
theorem oA5 (c : Dev nD) (t : Fin cfg0.N) (h0 : t.val % 4 = 0) (i : Fin 256) (d : Fin 64) :
    (outsAt0 m c t.val t.isLt).1 (ix3 0 i (⟨64 * 5 + d.val, by omega⟩ : Fin 512))
      = blkO (outsAt0 m c t.val t.isLt).2.2.1 (outsAt0 m c t.val t.isLt).2.2.2 (fun y => iblk m c 0 t (ix3 0 (y 0) (y 1)))
        (fun y => iblk m c 1 t (ix3 0 (y 0) (y 1))) (iblk m c 2 t) i 5 d := by
  rw [outsAt0_A m c t h0]
  frame_out
  rw [read_drop, read_drop]
  generalize (fun y : S256x1024.Idx => iblk m c 0 t (ix3 0 (y 0) (y 1))) = q
  generalize (fun y : S1024x1024.Idx => iblk m c 1 t (ix3 0 (y 0) (y 1))) = kl
  generalize iblk m c 2 t = vl
  rw [out5]
  simp only [mean5, expC5, expL5, layerL5, max5, rowMax, stackC5, stackL5, scoreC5, scoreL5]
  simp only [View.readCov_eq_canon']
  generalize View.canon (Val := Elt Ideal) (s := S512x1024) (e := .bf16) _ = kc
  rw [View.canon_unit_zero (S := S512x512) zero2]
  generalize k0_pay5 (iblk m c 3 t) (iblk m c 6 t) = vc
  pointwise [blkO, attn]

set_option maxHeartbeats 2000000 in
/-- Head 6 of the output block, at the first point of a batch. -/
theorem oA6 (c : Dev nD) (t : Fin cfg0.N) (h0 : t.val % 4 = 0) (i : Fin 256) (d : Fin 64) :
    (outsAt0 m c t.val t.isLt).1 (ix3 0 i (⟨64 * 6 + d.val, by omega⟩ : Fin 512))
      = blkO (outsAt0 m c t.val t.isLt).2.2.1 (outsAt0 m c t.val t.isLt).2.2.2 (fun y => iblk m c 0 t (ix3 0 (y 0) (y 1)))
        (fun y => iblk m c 1 t (ix3 0 (y 0) (y 1))) (iblk m c 2 t) i 6 d := by
  rw [outsAt0_A m c t h0]
  frame_out
  rw [read_drop, read_drop]
  generalize (fun y : S256x1024.Idx => iblk m c 0 t (ix3 0 (y 0) (y 1))) = q
  generalize (fun y : S1024x1024.Idx => iblk m c 1 t (ix3 0 (y 0) (y 1))) = kl
  generalize iblk m c 2 t = vl
  rw [out6]
  simp only [denom6, valC6, wL6, expC6, expL6, rowMax, stackC6, stackL6, scoreC6]
  simp only [View.readCov_eq_canon']
  generalize View.canon (Val := Elt Ideal) (s := S512x1024) (e := .bf16) _ = kc
  rw [View.canon_unit_zero (S := S512x512) zero2]
  generalize k0_pay5 (iblk m c 3 t) (iblk m c 6 t) = vc
  pointwise [blkO, attn]

set_option maxHeartbeats 2000000 in
/-- Head 7 of the output block, at the first point of a batch. -/
theorem oA7 (c : Dev nD) (t : Fin cfg0.N) (h0 : t.val % 4 = 0) (i : Fin 256) (d : Fin 64) :
    (outsAt0 m c t.val t.isLt).1 (ix3 0 i (⟨64 * 7 + d.val, by omega⟩ : Fin 512))
      = blkO (outsAt0 m c t.val t.isLt).2.2.1 (outsAt0 m c t.val t.isLt).2.2.2 (fun y => iblk m c 0 t (ix3 0 (y 0) (y 1)))
        (fun y => iblk m c 1 t (ix3 0 (y 0) (y 1))) (iblk m c 2 t) i 7 d := by
  rw [outsAt0_A m c t h0]
  frame_out
  rw [read_drop, read_drop]
  generalize (fun y : S256x1024.Idx => iblk m c 0 t (ix3 0 (y 0) (y 1))) = q
  generalize (fun y : S1024x1024.Idx => iblk m c 1 t (ix3 0 (y 0) (y 1))) = kl
  generalize iblk m c 2 t = vl
  rw [out7]
  simp only [expC7, expL7, rowMax, stackC7, stackL7, scoreC7]
  simp only [View.readCov_eq_canon']
  generalize View.canon (Val := Elt Ideal) (s := S512x1024) (e := .bf16) _ = kc
  rw [View.canon_unit_zero (S := S512x512) zero2]
  generalize k0_pay5 (iblk m c 3 t) (iblk m c 6 t) = vc
  pointwise [blkO, attn]

set_option maxHeartbeats 2000000 in
/-- Head 0 of the output block, at a later point of a batch. -/
theorem oB0 (c : Dev nD) (t : Fin cfg0.N) (h0 : ¬ t.val % 4 = 0) (i : Fin 256) (d : Fin 64) :
    (outsAt0 m c t.val t.isLt).1 (ix3 0 i (⟨64 * 0 + d.val, by omega⟩ : Fin 512))
      = blkO (outsAt0 m c t.val t.isLt).2.2.1 (outsAt0 m c t.val t.isLt).2.2.2 (fun y => iblk m c 0 t (ix3 0 (y 0) (y 1)))
        (fun y => iblk m c 1 t (ix3 0 (y 0) (y 1))) (iblk m c 2 t) i 0 d := by
  rw [keepK m c t h0, keepV m c t h0]
  rw [outsAt0_B m c t h0]
  frame_out
  simp only [read_unread_whole]
  rw [read_drop, read_drop]
  generalize (fun y : S256x1024.Idx => iblk m c 0 t (ix3 0 (y 0) (y 1))) = q
  generalize (fun y : S1024x1024.Idx => iblk m c 1 t (ix3 0 (y 0) (y 1))) = kl
  generalize iblk m c 2 t = vl
  generalize (outsAt0 m c (t.val - 1) (Nat.lt_of_le_of_lt (Nat.sub_le _ _) t.isLt)).2.2.1 = kc
  generalize (outsAt0 m c (t.val - 1) (Nat.lt_of_le_of_lt (Nat.sub_le _ _) t.isLt)).2.2.2 = vc
  rw [out0]
  simp only [mean0, expC0, expL0, rowMax, stackC0, stackL0, liftC0, scoreC0, scoreL0]
  pointwise [blkO, attn]

set_option maxHeartbeats 2000000 in
/-- Head 1 of the output block, at a later point of a batch. -/
theorem oB1 (c : Dev nD) (t : Fin cfg0.N) (h0 : ¬ t.val % 4 = 0) (i : Fin 256) (d : Fin 64) :
    (outsAt0 m c t.val t.isLt).1 (ix3 0 i (⟨64 * 1 + d.val, by omega⟩ : Fin 512))
      = blkO (outsAt0 m c t.val t.isLt).2.2.1 (outsAt0 m c t.val t.isLt).2.2.2 (fun y => iblk m c 0 t (ix3 0 (y 0) (y 1)))
        (fun y => iblk m c 1 t (ix3 0 (y 0) (y 1))) (iblk m c 2 t) i 1 d := by
  rw [keepK m c t h0, keepV m c t h0]
  rw [outsAt0_B m c t h0]
  frame_out
  simp only [read_unread_whole]
  rw [read_drop, read_drop]
  generalize (fun y : S256x1024.Idx => iblk m c 0 t (ix3 0 (y 0) (y 1))) = q
  generalize (fun y : S1024x1024.Idx => iblk m c 1 t (ix3 0 (y 0) (y 1))) = kl
  generalize iblk m c 2 t = vl
  generalize (outsAt0 m c (t.val - 1) (Nat.lt_of_le_of_lt (Nat.sub_le _ _) t.isLt)).2.2.1 = kc
  generalize (outsAt0 m c (t.val - 1) (Nat.lt_of_le_of_lt (Nat.sub_le _ _) t.isLt)).2.2.2 = vc
  rw [out1]
  simp only [mean1, denom1, expC1, expL1, rowMax, stackC1, stackL1, liftC1, scoreC1, scoreL1]
  pointwise [blkO, attn]

set_option maxHeartbeats 2000000 in
/-- Head 2 of the output block, at a later point of a batch. -/
theorem oB2 (c : Dev nD) (t : Fin cfg0.N) (h0 : ¬ t.val % 4 = 0) (i : Fin 256) (d : Fin 64) :
    (outsAt0 m c t.val t.isLt).1 (ix3 0 i (⟨64 * 2 + d.val, by omega⟩ : Fin 512))
      = blkO (outsAt0 m c t.val t.isLt).2.2.1 (outsAt0 m c t.val t.isLt).2.2.2 (fun y => iblk m c 0 t (ix3 0 (y 0) (y 1)))
        (fun y => iblk m c 1 t (ix3 0 (y 0) (y 1))) (iblk m c 2 t) i 2 d := by
  rw [keepK m c t h0, keepV m c t h0]
  rw [outsAt0_B m c t h0]
  frame_out
  simp only [read_unread_whole]
  rw [read_drop, read_drop]
  generalize (fun y : S256x1024.Idx => iblk m c 0 t (ix3 0 (y 0) (y 1))) = q
  generalize (fun y : S1024x1024.Idx => iblk m c 1 t (ix3 0 (y 0) (y 1))) = kl
  generalize iblk m c 2 t = vl
  generalize (outsAt0 m c (t.val - 1) (Nat.lt_of_le_of_lt (Nat.sub_le _ _) t.isLt)).2.2.1 = kc
  generalize (outsAt0 m c (t.val - 1) (Nat.lt_of_le_of_lt (Nat.sub_le _ _) t.isLt)).2.2.2 = vc
  rw [out2]
  simp only [mean2, expC2, expL2, rowMax, stackC2, stackL2, liftC2, scoreC2, scoreL2]
  pointwise [blkO, attn]

set_option maxHeartbeats 2000000 in
/-- Head 3 of the output block, at a later point of a batch. -/
theorem oB3 (c : Dev nD) (t : Fin cfg0.N) (h0 : ¬ t.val % 4 = 0) (i : Fin 256) (d : Fin 64) :
    (outsAt0 m c t.val t.isLt).1 (ix3 0 i (⟨64 * 3 + d.val, by omega⟩ : Fin 512))
      = blkO (outsAt0 m c t.val t.isLt).2.2.1 (outsAt0 m c t.val t.isLt).2.2.2 (fun y => iblk m c 0 t (ix3 0 (y 0) (y 1)))
        (fun y => iblk m c 1 t (ix3 0 (y 0) (y 1))) (iblk m c 2 t) i 3 d := by
  rw [keepK m c t h0, keepV m c t h0]
  rw [outsAt0_B m c t h0]
  frame_out
  simp only [read_unread_whole]
  rw [read_drop, read_drop]
  generalize (fun y : S256x1024.Idx => iblk m c 0 t (ix3 0 (y 0) (y 1))) = q
  generalize (fun y : S1024x1024.Idx => iblk m c 1 t (ix3 0 (y 0) (y 1))) = kl
  generalize iblk m c 2 t = vl
  generalize (outsAt0 m c (t.val - 1) (Nat.lt_of_le_of_lt (Nat.sub_le _ _) t.isLt)).2.2.1 = kc
  generalize (outsAt0 m c (t.val - 1) (Nat.lt_of_le_of_lt (Nat.sub_le _ _) t.isLt)).2.2.2 = vc
  rw [out3]
  simp only [mean3, expC3, expL3, layerL3, rowMax, stackC3, stackL3, liftC3, scoreC3, scoreL3]
  pointwise [blkO, attn]

set_option maxHeartbeats 2000000 in
/-- Head 4 of the output block, at a later point of a batch. -/
theorem oB4 (c : Dev nD) (t : Fin cfg0.N) (h0 : ¬ t.val % 4 = 0) (i : Fin 256) (d : Fin 64) :
    (outsAt0 m c t.val t.isLt).1 (ix3 0 i (⟨64 * 4 + d.val, by omega⟩ : Fin 512))
      = blkO (outsAt0 m c t.val t.isLt).2.2.1 (outsAt0 m c t.val t.isLt).2.2.2 (fun y => iblk m c 0 t (ix3 0 (y 0) (y 1)))
        (fun y => iblk m c 1 t (ix3 0 (y 0) (y 1))) (iblk m c 2 t) i 4 d := by
  rw [keepK m c t h0, keepV m c t h0]
  rw [outsAt0_B m c t h0]
  frame_out
  simp only [read_unread_whole]
  rw [read_drop, read_drop]
  generalize (fun y : S256x1024.Idx => iblk m c 0 t (ix3 0 (y 0) (y 1))) = q
  generalize (fun y : S1024x1024.Idx => iblk m c 1 t (ix3 0 (y 0) (y 1))) = kl
  generalize iblk m c 2 t = vl
  generalize (outsAt0 m c (t.val - 1) (Nat.lt_of_le_of_lt (Nat.sub_le _ _) t.isLt)).2.2.1 = kc
  generalize (outsAt0 m c (t.val - 1) (Nat.lt_of_le_of_lt (Nat.sub_le _ _) t.isLt)).2.2.2 = vc
  rw [out4]
  simp only [mean4, expC4, expL4, rowMax, stackC4, stackL4, scoreC4, scoreL4]
  pointwise [blkO, attn]

set_option maxHeartbeats 2000000 in
/-- Head 5 of the output block, at a later point of a batch. -/
theorem oB5 (c : Dev nD) (t : Fin cfg0.N) (h0 : ¬ t.val % 4 = 0) (i : Fin 256) (d : Fin 64) :
    (outsAt0 m c t.val t.isLt).1 (ix3 0 i (⟨64 * 5 + d.val, by omega⟩ : Fin 512))
      = blkO (outsAt0 m c t.val t.isLt).2.2.1 (outsAt0 m c t.val t.isLt).2.2.2 (fun y => iblk m c 0 t (ix3 0 (y 0) (y 1)))
        (fun y => iblk m c 1 t (ix3 0 (y 0) (y 1))) (iblk m c 2 t) i 5 d := by
  rw [keepK m c t h0, keepV m c t h0]
  rw [outsAt0_B m c t h0]
  frame_out
  simp only [read_unread_whole]
  rw [read_drop, read_drop]
  generalize (fun y : S256x1024.Idx => iblk m c 0 t (ix3 0 (y 0) (y 1))) = q
  generalize (fun y : S1024x1024.Idx => iblk m c 1 t (ix3 0 (y 0) (y 1))) = kl
  generalize iblk m c 2 t = vl
  generalize (outsAt0 m c (t.val - 1) (Nat.lt_of_le_of_lt (Nat.sub_le _ _) t.isLt)).2.2.1 = kc
  generalize (outsAt0 m c (t.val - 1) (Nat.lt_of_le_of_lt (Nat.sub_le _ _) t.isLt)).2.2.2 = vc
  rw [out5]
  simp only [mean5, expC5, expL5, layerL5, max5, rowMax, stackC5, stackL5, scoreC5, scoreL5]
  pointwise [blkO, attn]

set_option maxHeartbeats 2000000 in
/-- Head 6 of the output block, at a later point of a batch. -/
theorem oB6 (c : Dev nD) (t : Fin cfg0.N) (h0 : ¬ t.val % 4 = 0) (i : Fin 256) (d : Fin 64) :
    (outsAt0 m c t.val t.isLt).1 (ix3 0 i (⟨64 * 6 + d.val, by omega⟩ : Fin 512))
      = blkO (outsAt0 m c t.val t.isLt).2.2.1 (outsAt0 m c t.val t.isLt).2.2.2 (fun y => iblk m c 0 t (ix3 0 (y 0) (y 1)))
        (fun y => iblk m c 1 t (ix3 0 (y 0) (y 1))) (iblk m c 2 t) i 6 d := by
  rw [keepK m c t h0, keepV m c t h0]
  rw [outsAt0_B m c t h0]
  frame_out
  simp only [read_unread_whole]
  rw [read_drop, read_drop]
  generalize (fun y : S256x1024.Idx => iblk m c 0 t (ix3 0 (y 0) (y 1))) = q
  generalize (fun y : S1024x1024.Idx => iblk m c 1 t (ix3 0 (y 0) (y 1))) = kl
  generalize iblk m c 2 t = vl
  generalize (outsAt0 m c (t.val - 1) (Nat.lt_of_le_of_lt (Nat.sub_le _ _) t.isLt)).2.2.1 = kc
  generalize (outsAt0 m c (t.val - 1) (Nat.lt_of_le_of_lt (Nat.sub_le _ _) t.isLt)).2.2.2 = vc
  rw [out6]
  simp only [denom6, valC6, wL6, expC6, expL6, rowMax, stackC6, stackL6, scoreC6]
  pointwise [blkO, attn]

set_option maxHeartbeats 2000000 in
/-- Head 7 of the output block, at a later point of a batch. -/
theorem oB7 (c : Dev nD) (t : Fin cfg0.N) (h0 : ¬ t.val % 4 = 0) (i : Fin 256) (d : Fin 64) :
    (outsAt0 m c t.val t.isLt).1 (ix3 0 i (⟨64 * 7 + d.val, by omega⟩ : Fin 512))
      = blkO (outsAt0 m c t.val t.isLt).2.2.1 (outsAt0 m c t.val t.isLt).2.2.2 (fun y => iblk m c 0 t (ix3 0 (y 0) (y 1)))
        (fun y => iblk m c 1 t (ix3 0 (y 0) (y 1))) (iblk m c 2 t) i 7 d := by
  rw [keepK m c t h0, keepV m c t h0]
  rw [outsAt0_B m c t h0]
  frame_out
  simp only [read_unread_whole]
  rw [read_drop, read_drop]
  generalize (fun y : S256x1024.Idx => iblk m c 0 t (ix3 0 (y 0) (y 1))) = q
  generalize (fun y : S1024x1024.Idx => iblk m c 1 t (ix3 0 (y 0) (y 1))) = kl
  generalize iblk m c 2 t = vl
  generalize (outsAt0 m c (t.val - 1) (Nat.lt_of_le_of_lt (Nat.sub_le _ _) t.isLt)).2.2.1 = kc
  generalize (outsAt0 m c (t.val - 1) (Nat.lt_of_le_of_lt (Nat.sub_le _ _) t.isLt)).2.2.2 = vc
  rw [out7]
  simp only [expC7, expL7, rowMax, stackC7, stackL7, scoreC7]
  pointwise [blkO, attn]

/-- The output block at any point, every head. -/
theorem oAt (c : Dev nD) (t : Fin cfg0.N) (i : Fin 256) (h : Fin 8) (d : Fin 64) :
    (outsAt0 m c t.val t.isLt).1 (ix3 0 i (⟨64 * h.val + d.val, by omega⟩ : Fin 512))
      = blkO (outsAt0 m c t.val t.isLt).2.2.1 (outsAt0 m c t.val t.isLt).2.2.2 (fun y => iblk m c 0 t (ix3 0 (y 0) (y 1)))
        (fun y => iblk m c 1 t (ix3 0 (y 0) (y 1))) (iblk m c 2 t) i h d := by
  by_cases h0 : t.val % 4 = 0
  · fin_cases h
    exacts [oA0 m c t h0 i d, oA1 m c t h0 i d, oA2 m c t h0 i d, oA3 m c t h0 i d, oA4 m c t h0 i d, oA5 m c t h0 i d, oA6 m c t h0 i d, oA7 m c t h0 i d]
  · fin_cases h
    exacts [oB0 m c t h0 i d, oB1 m c t h0 i d, oB2 m c t h0 i d, oB3 m c t h0 i d, oB4 m c t h0 i d, oB5 m c t h0 i d, oB6 m c t h0 i d, oB7 m c t h0 i d]

end Cert.KernelIdeal.Attn

end
-- ==== Proof.Keys.lean ====
module

public import proofs.«01_k».proof.Proof.Block

/-! The context keys and values that the first point of a batch leaves in scratch, read at coordinates. -/

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

/-- The named reciprocal is one over the head width. -/
theorem inv96 : (Named.named κ "inv96" 0x3C2AAAAB#32 : Ideal .f32) = ((1 / 96 : ℝ) : EReal) :=
  IdealRules.named_const.ideal_named_scalar _ _ _ _ rfl

/-- One lane of a context key: the expanded part `kn` and the position part `pe` on their lanes, scaled by `g`, over the
root of the mean square of the two parts. -/
def keyLane (kn pe g : Fin 128 → EReal) (l : Fin 128) : EReal :=
  (kn l * g l + pe l * g l)
    * Ideal.rsqrt ((∑ a, kn a * kn a + ∑ a, pe a * pe a) * ((1 / 96 : ℝ) : EReal) + Ideal.ofBits .f32 0x358637BD#32)

/-- One entry of the context keys: key `k`, head `h`, lane `l`, from the latent rows, the position rows, the expansion and
the scales. -/
def keyAt (x3 : FVec Ideal S1x512x256 .f32) (x4 : FVec Ideal S1x512x128 .f32) (x5 : FVec Ideal S256x1024 .bf16)
    (x7 : FVec Ideal S1x128 .f32) (k : Fin 512) (h : Fin 8) (l : Fin 128) : EReal :=
  keyLane (fun l => ∑ a : Fin 256, x3 (ix3 0 k a) * x5 (ix2 a ⟨128 * h.val + l.val, by omega⟩)) (fun l => x4 (ix3 0 k l))
    (fun l => x7 (ix2 0 l)) l

/-- One entry of the context values: row `n`, key `k`. -/
def valAt (x3 : FVec Ideal S1x512x256 .f32) (x6 : FVec Ideal S512x256 .bf16) (n k : Fin 512) : EReal :=
  ∑ a : Fin 256, x6 (ix2 n a) * x3 (ix3 0 k a)

/-- The expanded latent rows. -/
theorem expandAt (x3 : FVec Ideal S1x512x256 .f32) (x5 : FVec Ideal S256x1024 .bf16) (k : Fin 512) (n : Fin 1024) :
    k0_pay6 (F := Ideal) x3 x5 (ix2 k n) = ∑ a : Fin 256, x3 (ix3 0 k a) * x5 (ix2 a n) := by
  pointwise [k0_pay6, k0_pay2]

/-- The square sum of the position part. -/
theorem peSquare (x4 : FVec Ideal S1x512x128 .f32) (k : Fin 512) :
    k0_pay7 (F := Ideal) x4 (ix2 k 0) = ∑ l : Fin 128, x4 (ix3 0 k l) * x4 (ix3 0 k l) := by
  pointwise [k0_pay7, k0_pay3]

/-- The position part, scaled. -/
theorem peScaled (x4 : FVec Ideal S1x512x128 .f32) (x7 : FVec Ideal S1x128 .f32) (k : Fin 512) (l : Fin 128) :
    k0_pay8 (F := Ideal) x4 x7 (ix2 k l) = x4 (ix3 0 k l) * x7 (ix2 0 l) := by
  pointwise [k0_pay8, k0_pay4, k0_pay3]

/-- The scales. -/
theorem scaleAt (x7 : FVec Ideal S1x128 .f32) (l : Fin 128) : k0_pay4 (F := Ideal) x7 (ix2 0 l) = x7 (ix2 0 l) := by
  pointwise [k0_pay4]

/-- The context values. -/
theorem valueAt (x3 : FVec Ideal S1x512x256 .f32) (x6 : FVec Ideal S512x256 .bf16) (n : Fin 512) (k : Fin 512) :
    k0_pay5 (F := Ideal) x3 x6 (ix2 n k) = valAt x3 x6 n k := by
  pointwise [k0_pay5, k0_pay2, valAt]

/-- The key lanes stored for head 0. -/
theorem key0 (x3 : FVec Ideal S1x512x256 .f32) (x4 : FVec Ideal S1x512x128 .f32) (x5 : FVec Ideal S256x1024 .bf16)
    (x7 : FVec Ideal S1x128 .f32) (k : Fin 512) (l : Fin 128) :
    (k0_pay10 (F := Ideal) (k0_pay9 x3 x4 x7 x5)) (ix2 k l) = keyAt x3 x4 x5 x7 k 0 l := by
  pointwise [k0_pay10, k0_pay9, keyAt, keyLane, expandAt, peSquare, peScaled, scaleAt]
  rw [inv96]

/-- The key lanes stored for head 1. -/
theorem key1 (x3 : FVec Ideal S1x512x256 .f32) (x4 : FVec Ideal S1x512x128 .f32) (x5 : FVec Ideal S256x1024 .bf16)
    (x7 : FVec Ideal S1x128 .f32) (k : Fin 512) (l : Fin 128) :
    (k0_pay11 (F := Ideal) (k0_pay4 x7) (k0_pay6 x3 x5) (k0_pay7 x4) (k0_pay8 x4 x7)) (ix2 k l) = keyAt x3 x4 x5 x7 k 1 l := by
  pointwise [k0_pay11, keyAt, keyLane, expandAt, peSquare, peScaled, scaleAt]
  rw [inv96]

/-- The key lanes stored for head 2. -/
theorem key2 (x3 : FVec Ideal S1x512x256 .f32) (x4 : FVec Ideal S1x512x128 .f32) (x5 : FVec Ideal S256x1024 .bf16)
    (x7 : FVec Ideal S1x128 .f32) (k : Fin 512) (l : Fin 128) :
    (k0_pay12 (F := Ideal) (k0_pay4 x7) (k0_pay6 x3 x5) (k0_pay7 x4) (k0_pay8 x4 x7)) (ix2 k l) = keyAt x3 x4 x5 x7 k 2 l := by
  pointwise [k0_pay12, keyAt, keyLane, expandAt, peSquare, peScaled, scaleAt]
  rw [inv96]

/-- The key lanes stored for head 3. -/
theorem key3 (x3 : FVec Ideal S1x512x256 .f32) (x4 : FVec Ideal S1x512x128 .f32) (x5 : FVec Ideal S256x1024 .bf16)
    (x7 : FVec Ideal S1x128 .f32) (k : Fin 512) (l : Fin 128) :
    (k0_pay15 (F := Ideal) (k0_pay4 x7) (k0_pay7 x4) (k0_pay8 x4 x7) (k0_pay13 (k0_pay6 x3 x5)) (k0_pay14 (k0_pay6 x3 x5))) (ix2 k l) = keyAt x3 x4 x5 x7 k 3 l := by
  pointwise [k0_pay15, k0_pay13, k0_pay14, keyAt, keyLane, expandAt, peSquare, peScaled, scaleAt]
  rw [inv96]

/-- The key lanes stored for head 4. -/
theorem key4 (x3 : FVec Ideal S1x512x256 .f32) (x4 : FVec Ideal S1x512x128 .f32) (x5 : FVec Ideal S256x1024 .bf16)
    (x7 : FVec Ideal S1x128 .f32) (k : Fin 512) (l : Fin 128) :
    (k0_pay16 (F := Ideal) (k0_pay4 x7) (k0_pay6 x3 x5) (k0_pay7 x4) (k0_pay8 x4 x7)) (ix2 k l) = keyAt x3 x4 x5 x7 k 4 l := by
  pointwise [k0_pay16, keyAt, keyLane, expandAt, peSquare, peScaled, scaleAt]
  rw [inv96]

/-- The key lanes stored for head 5. -/
theorem key5 (x3 : FVec Ideal S1x512x256 .f32) (x4 : FVec Ideal S1x512x128 .f32) (x5 : FVec Ideal S256x1024 .bf16)
    (x7 : FVec Ideal S1x128 .f32) (k : Fin 512) (l : Fin 128) :
    (k0_pay20 (F := Ideal) (k0_pay8 x4 x7) (k0_pay18 (k0_pay6 x3 x5) (k0_pay7 x4)) (k0_pay19 (k0_pay4 x7) (k0_pay6 x3 x5))) (ix2 k l) = keyAt x3 x4 x5 x7 k 5 l := by
  pointwise [k0_pay20, k0_pay19, k0_pay18, k0_pay17, keyAt, keyLane, expandAt, peSquare, peScaled, scaleAt]
  rw [inv96]

/-- The key lanes stored for head 6. -/
theorem key6 (x3 : FVec Ideal S1x512x256 .f32) (x4 : FVec Ideal S1x512x128 .f32) (x5 : FVec Ideal S256x1024 .bf16)
    (x7 : FVec Ideal S1x128 .f32) (k : Fin 512) (l : Fin 128) :
    (k0_pay21 (F := Ideal) (k0_pay4 x7) (k0_pay6 x3 x5) (k0_pay7 x4) (k0_pay8 x4 x7)) (ix2 k l) = keyAt x3 x4 x5 x7 k 6 l := by
  pointwise [k0_pay21, keyAt, keyLane, expandAt, peSquare, peScaled, scaleAt]
  rw [inv96]

/-- The key lanes stored for head 7. -/
theorem key7 (x3 : FVec Ideal S1x512x256 .f32) (x4 : FVec Ideal S1x512x128 .f32) (x5 : FVec Ideal S256x1024 .bf16)
    (x7 : FVec Ideal S1x128 .f32) (k : Fin 512) (l : Fin 128) :
    (k0_pay22 (F := Ideal) (k0_pay4 x7) (k0_pay6 x3 x5) (k0_pay7 x4) (k0_pay8 x4 x7)) (ix2 k l) = keyAt x3 x4 x5 x7 k 7 l := by
  pointwise [k0_pay22, keyAt, keyLane, expandAt, peSquare, peScaled, scaleAt]
  rw [inv96]

set_option maxHeartbeats 1000000 in
/-- The first point of a batch leaves the batch's context keys in the first scratch. -/
theorem firstKeys (c : Dev nD) (t : Fin cfg0.N) (h0 : t.val % 4 = 0) (k : Fin 512) (hd : Fin 8) (l : Fin 128) :
    (outsAt0 m c t.val t.isLt).2.2.1 (ix2 k ⟨128 * hd.val + l.val, by omega⟩)
      = keyAt (iblk m c 3 t) (iblk m c 4 t) (iblk m c 5 t) (iblk m c 7 t) k hd l := by
  rw [outsAt0_A m c t h0]
  frame_out
  clear h0
  canon_tiles x h
  all_goals
    obtain ⟨a, b, rfl⟩ : ∃ (a : Fin 512) (b : Fin 128), x = ix2 a b := ⟨x 0, x 1, eq_ix2 x⟩
    have hb : b.val < 128 := b.isLt
    have hl : l.val < 128 := l.isLt
    have e0 : k = a := Fin.ext h0
  · have e1 : 128 * hd.val + l.val = 896 + b.val := h1
    clear h0 h1 x0_lt x1_lt
    have e2 : hd.val = 7 := by omega
    have e3 : l.val = b.val := by omega
    obtain rfl : hd = 7 := Fin.ext e2
    obtain rfl : l = b := Fin.ext e3
    rw [e0]
    exact key7 _ _ _ _ _ _
  · have e1 : 128 * hd.val + l.val = 768 + b.val := h1
    clear h0 h1 x0_lt x1_lt
    have e2 : hd.val = 6 := by omega
    have e3 : l.val = b.val := by omega
    obtain rfl : hd = 6 := Fin.ext e2
    obtain rfl : l = b := Fin.ext e3
    rw [e0]
    exact key6 _ _ _ _ _ _
  · have e1 : 128 * hd.val + l.val = 640 + b.val := h1
    clear h0 h1 x0_lt x1_lt
    have e2 : hd.val = 5 := by omega
    have e3 : l.val = b.val := by omega
    obtain rfl : hd = 5 := Fin.ext e2
    obtain rfl : l = b := Fin.ext e3
    rw [e0]
    exact key5 _ _ _ _ _ _
  · have e1 : 128 * hd.val + l.val = 512 + b.val := h1
    clear h0 h1 x0_lt x1_lt
    have e2 : hd.val = 4 := by omega
    have e3 : l.val = b.val := by omega
    obtain rfl : hd = 4 := Fin.ext e2
    obtain rfl : l = b := Fin.ext e3
    rw [e0]
    exact key4 _ _ _ _ _ _
  · have e1 : 128 * hd.val + l.val = 384 + b.val := h1
    clear h0 h1 x0_lt x1_lt
    have e2 : hd.val = 3 := by omega
    have e3 : l.val = b.val := by omega
    obtain rfl : hd = 3 := Fin.ext e2
    obtain rfl : l = b := Fin.ext e3
    rw [e0]
    exact key3 _ _ _ _ _ _
  · have e1 : 128 * hd.val + l.val = 256 + b.val := h1
    clear h0 h1 x0_lt x1_lt
    have e2 : hd.val = 2 := by omega
    have e3 : l.val = b.val := by omega
    obtain rfl : hd = 2 := Fin.ext e2
    obtain rfl : l = b := Fin.ext e3
    rw [e0]
    exact key2 _ _ _ _ _ _
  · have e1 : 128 * hd.val + l.val = 128 + b.val := h1
    clear h0 h1 x0_lt x1_lt
    have e2 : hd.val = 1 := by omega
    have e3 : l.val = b.val := by omega
    obtain rfl : hd = 1 := Fin.ext e2
    obtain rfl : l = b := Fin.ext e3
    rw [e0]
    exact key1 _ _ _ _ _ _
  · have e1 : 128 * hd.val + l.val = b.val := h1
    clear h0 h1 x0_lt x1_lt
    have e2 : hd.val = 0 := by omega
    have e3 : l.val = b.val := by omega
    obtain rfl : hd = 0 := Fin.ext e2
    obtain rfl : l = b := Fin.ext e3
    rw [e0]
    exact key0 _ _ _ _ _ _

/-- The first point of a batch leaves the batch's context values in the second scratch. -/
theorem firstValues (c : Dev nD) (t : Fin cfg0.N) (h0 : t.val % 4 = 0) (n : Fin 512) (k : Fin 512) :
    (outsAt0 m c t.val t.isLt).2.2.2 (ix2 n k) = valAt (iblk m c 3 t) (iblk m c 6 t) n k := by
  rw [outsAt0_A m c t h0]
  frame_out
  exact valueAt _ _ n k

end Cert.KernelIdeal.Attn

end
-- ==== Proof.KeyLanes.lean ====
module

public import proofs.«01_k».proof.Proof.Keys

/-! A context key's lane, when the parts sit on their own lanes: the two sums of squares are one sum over the 96 lanes that
are used, and the lane is that of the joined row. -/

@[expose] public section

noncomputable section

namespace Cert.Attn

open Idealize.ShloMosaic Cert.KernelIdeal.Attn

/-- The joined row: 64 expanded lanes, then 32 position lanes. -/
def joined (u : Fin 64 → EReal) (p : Fin 32 → EReal) (l : Fin 96) : EReal :=
  if hl : l.val < 64 then u ⟨l.val, hl⟩ else p ⟨l.val - 64, by omega⟩

/-- A sum over 128 lanes of a row that is zero from lane 64 on. -/
theorem sum_low (u : Fin 64 → EReal) (f : Fin 128 → EReal) (hf : ∀ l, f l = if hl : l.val < 64 then u ⟨l.val, hl⟩ else 0) :
    ∑ l, f l * f l = ∑ l, u l * u l := by
  refine (Fin.sum_univ_add (a := 64) (b := 64) fun l : Fin (64 + 64) => f l * f l).trans ?_
  simp [hf]

/-- A sum over 128 lanes of a row that is zero but on lanes 64 to 95. -/
theorem sum_mid (p : Fin 32 → EReal) (f : Fin 128 → EReal) (hf : ∀ l, f l = if hl : 64 ≤ l.val ∧ l.val < 96 then p ⟨l.val - 64, by omega⟩ else 0) :
    ∑ l, f l * f l = ∑ l, p l * p l := by
  refine (Fin.sum_univ_add (a := 64) (b := 64) fun l : Fin (64 + 64) => f l * f l).trans ?_
  have e0 : ∀ i : Fin 64, f (Fin.castAdd 64 i) = 0 := fun i => by
    rw [hf, dif_neg]
    exact fun h => absurd h.1 (not_le.mpr i.isLt)
  have e1 : ∀ i : Fin 32, f (Fin.natAdd 64 (Fin.castAdd 32 i)) = p i := fun i => by
    rw [hf, dif_pos ⟨by simp, by simp; omega⟩]
    exact congrArg p (Fin.ext (by simp))
  have e2 : ∀ i : Fin 32, f (Fin.natAdd 64 (Fin.natAdd 32 i)) = 0 := fun i => by
    rw [hf, dif_neg]
    simp
  have e : ∑ i : Fin 64, f (Fin.natAdd 64 i) * f (Fin.natAdd 64 i) = ∑ l, p l * p l := by
    refine (Fin.sum_univ_add (a := 32) (b := 32) fun i : Fin (32 + 32) => f (Fin.natAdd 64 i) * f (Fin.natAdd 64 i)).trans ?_
    simp only [e1, e2, mul_zero, Finset.sum_const_zero, add_zero]
  rw [e]
  simp only [e0, mul_zero, Finset.sum_const_zero, zero_add]

/-- The sum over the joined row. -/
theorem sum_joined (u : Fin 64 → EReal) (p : Fin 32 → EReal) :
    ∑ l, joined u p l * joined u p l = ∑ l, u l * u l + ∑ l, p l * p l := by
  refine (Fin.sum_univ_add (a := 64) (b := 32) fun l : Fin (64 + 32) => joined u p l * joined u p l).trans ?_
  simp [joined]

/-- Division by the word that denotes 96. -/
theorem div_96 (x : EReal) : Ideal.div x (Ideal.ofBits .f32 0x42C00000#32) = x * ((1 / 96 : ℝ) : EReal) := by
  have e : Ideal.ofBits .f32 0x42C00000#32 = ((96 : ℝ) : EReal) := by
    simp [Ideal.ofBits, Ideal.ieee]
    rw [← EReal.coe_mul]
    norm_num
  rw [e, Ideal.div_coe (by norm_num)]

/-- A lane of a context key against the joined row, normalised and scaled; zero from lane 96 on. -/
theorem keyLane_eq (u : Fin 64 → EReal) (p : Fin 32 → EReal) (c : Fin 96 → EReal) (kn pe g : Fin 128 → EReal)
    (hkn : ∀ l, kn l = if hl : l.val < 64 then u ⟨l.val, hl⟩ else 0)
    (hpe : ∀ l, pe l = if hl : 64 ≤ l.val ∧ l.val < 96 then p ⟨l.val - 64, by omega⟩ else 0)
    (hg : ∀ l, g l = if hl : l.val < 96 then c ⟨l.val, hl⟩ else 0) (l : Fin 128) :
    keyLane kn pe g l
      = if hl : l.val < 96 then joined u p ⟨l.val, hl⟩
          * Ideal.rsqrt (Ideal.div (∑ l, joined u p l * joined u p l) (Ideal.ofBits .f32 0x42C00000#32) + Ideal.ofBits .f32 0x358637BD#32) * c ⟨l.val, hl⟩
        else 0 := by
  unfold keyLane
  rw [sum_low u kn hkn, sum_mid p pe hpe, div_96, sum_joined]
  generalize Ideal.rsqrt _ = r
  rw [hkn, hpe, hg]
  unfold joined
  by_cases h1 : l.val < 64
  · simp [h1, show l.val < 96 by omega, show ¬ 64 ≤ l.val by omega, mul_right_comm]
  · by_cases h2 : l.val < 96
    · simp [h1, h2, show 64 ≤ l.val by omega, mul_right_comm]
    · simp [h1, h2]

end Cert.Attn

end
-- ==== Proof.Softmax.lean ====
module

public import proofs.«01_k».proof.Proof.Block

/-! Real-valued extended reals, and the softmax-weighted mean of real scores: normalising after the sum over all keys and
normalising every weight before it give the same mean. -/

@[expose] public section

noncomputable section

namespace Cert.Attn

open Idealize.ShloMosaic

/-- The value is a real number. -/
def IsReal (x : EReal) : Prop := ∃ r : ℝ, x = (r : EReal)

/-- Zero is real. -/
theorem isReal_zero : IsReal 0 := ⟨0, rfl⟩

/-- A sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is real. -/
theorem isReal_sum {ι : Type*} (s : Finset ι) (f : ι → EReal) (h : ∀ i ∈ s, IsReal (f i)) : IsReal (∑ i ∈ s, f i) :=
  Finset.sum_induction f IsReal (fun _ _ => IsReal.add) isReal_zero h

/-- A finite sum of squares of reals is real and not negative. -/
theorem sum_sq {ι : Type*} (s : Finset ι) (f : ι → EReal) (h : ∀ i ∈ s, IsReal (f i)) : ∃ r : ℝ, 0 ≤ r ∧ ∑ i ∈ s, f i * f i = (r : EReal) := by
  refine Finset.sum_induction (fun i => f i * f i) (fun x => ∃ r : ℝ, 0 ≤ r ∧ x = (r : EReal)) ?_ ⟨0, le_refl _, rfl⟩ ?_
  · rintro x y ⟨a, ha, rfl⟩ ⟨b, hb, rfl⟩
    exact ⟨a + b, add_nonneg ha hb, (EReal.coe_add a b).symm⟩
  · intro i hi
    obtain ⟨a, ha⟩ := h i hi
    exact ⟨a * a, mul_self_nonneg a, by simp only [ha, EReal.coe_mul]⟩

/-- The reciprocal root of a positive real is real. -/
theorem isReal_rsqrt {r : ℝ} (h : 0 < r) : IsReal (Ideal.rsqrt (r : EReal)) :=
  ⟨(Real.sqrt r)⁻¹, by rw [Ideal.rsqrt_coe, if_neg (not_lt.mpr h.le), if_neg h.ne']⟩

/-- The exponential of a difference of reals is a positive real. -/
theorem exp_pos {x y : EReal} (hx : IsReal x) (hy : IsReal y) : ∃ r : ℝ, 0 < r ∧ Ideal.exp (x - y) = (r : EReal) := by
  obtain ⟨a, rfl⟩ := hx
  obtain ⟨b, rfl⟩ := hy
  exact ⟨Real.exp (a - b), Real.exp_pos _, by rw [← EReal.coe_sub, Ideal.exp_coe]⟩

/-- A finite sum over a nonempty index set of positive reals is a positive real. -/
theorem sum_pos {ι : Type*} (s : Finset ι) (hs : s.Nonempty) (f : ι → EReal) (h : ∀ i ∈ s, ∃ r : ℝ, 0 < r ∧ f i = (r : EReal)) :
    ∃ r : ℝ, 0 < r ∧ ∑ i ∈ s, f i = (r : EReal) := by
  refine Finset.sum_induction_nonempty f (fun x => ∃ r : ℝ, 0 < r ∧ x = (r : EReal)) ?_ hs h
  rintro x y ⟨a, ha, rfl⟩ ⟨b, hb, rfl⟩
  exact ⟨a + b, add_pos ha hb, (EReal.coe_add a b).symm⟩

/-- The greatest of finitely many reals is real. -/
theorem isReal_max {n : ℕ} [NeZero n] (s : Fin n → EReal) (h : ∀ k, IsReal (s k)) : IsReal (Finset.univ.fold max ⊥ s) := by
  obtain ⟨k, -, hk⟩ := Finset.exists_mem_eq_sup (Finset.univ : Finset (Fin n)) ⟨0, Finset.mem_univ _⟩ s
  have e : Finset.univ.fold max ⊥ s = Finset.univ.sup s := rfl
  rw [e, hk]
  exact h k

/-- The greatest over two runs of indices is the greater of the two runs' greatest. -/
theorem max_split {a b : ℕ} (s : Fin (a + b) → EReal) :
    Finset.univ.fold max ⊥ s = max (Finset.univ.fold max ⊥ fun k : Fin a => s (Fin.castAdd b k)) (Finset.univ.fold max ⊥ fun k : Fin b => s (Fin.natAdd a k)) := by
  show Finset.univ.sup s = max (Finset.univ.sup fun k : Fin a => s (Fin.castAdd b k)) (Finset.univ.sup fun k : Fin b => s (Fin.natAdd a k))
  refine le_antisymm (Finset.sup_le fun k _ => ?_) (max_le (Finset.sup_le fun k _ => Finset.le_sup (f := s) (Finset.mem_univ _)) (Finset.sup_le fun k _ => Finset.le_sup (f := s) (Finset.mem_univ _)))
  refine Fin.addCases (fun i => ?_) (fun i => ?_) k
  · exact le_max_of_le_left (Finset.le_sup (f := fun k : Fin a => s (Fin.castAdd b k)) (Finset.mem_univ i))
  · exact le_max_of_le_right (Finset.le_sup (f := fun k : Fin b => s (Fin.natAdd a k)) (Finset.mem_univ i))

/-- A finite sum times a real that is not negative is the sum of the products. -/
theorem sum_mul_real {ι : Type*} (s : Finset ι) (f : ι → EReal) {r : ℝ} (h : 0 ≤ r) : (∑ i ∈ s, f i) * (r : EReal) = ∑ i ∈ s, f i * (r : EReal) := by
  classical
  induction s using Finset.induction_on with
  | empty => simp
  | insert a s ha ih => rw [Finset.sum_insert ha, Finset.sum_insert ha, EReal.right_distrib_of_nonneg_of_ne_top (EReal.coe_nonneg.mpr h) (EReal.coe_ne_top r), ih]

/-- Weights normalised one by one, over all keys, against the two runs' sums normalised together. -/
theorem softmax_eq (s v : Fin (512 + 1024) → EReal) (hs : ∀ k, IsReal (s k)) :
    ∑ k, v k * Ideal.div (Ideal.exp (s k - Finset.univ.fold max ⊥ s)) (∑ j, Ideal.exp (s j - Finset.univ.fold max ⊥ s))
      = Cert.KernelIdeal.Attn.attn (fun k => s (Fin.castAdd 1024 k)) (fun k => s (Fin.natAdd 512 k)) (fun k => v (Fin.castAdd 1024 k)) (fun k => v (Fin.natAdd 512 k)) := by
  unfold Cert.KernelIdeal.Attn.attn
  rw [← max_split s]
  have hM : IsReal (Finset.univ.fold max ⊥ s) := isReal_max s hs
  generalize Finset.univ.fold max ⊥ s = M at hM
  rw [← Fin.sum_univ_add (fun k => v k * Ideal.exp (s k - M)), ← Fin.sum_univ_add (fun k => Ideal.exp (s k - M))]
  obtain ⟨L, hL, e⟩ := sum_pos Finset.univ ⟨0, Finset.mem_univ _⟩ (fun k => Ideal.exp (s k - M)) fun k _ => exp_pos (hs k) hM
  rw [e, Ideal.div_coe hL.ne', sum_mul_real _ _ (one_div_nonneg.mpr hL.le)]
  exact Finset.sum_congr rfl fun k _ => by rw [Ideal.div_coe hL.ne', mul_assoc]

end Cert.Attn

end
-- ==== Proof.Reads.lean ====
module

public import proofs.«01_k».proof.Proof.Gen.KernelIdeal.Frame
public import Idealize.ShloMosaic.Lib.Pipeline.ValueKit
public import Idealize.ShloMosaic.Lib.Pointwise
public import Idealize.ShloMosaic.Lib.Claim

/-! Where the blocks that a grid point loads lie in the call's arrays. Point `t` works on batch `t / 4` and on the
256 queries of tile `t % 4`. -/

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The block index of every window at every point. -/
theorem idx : ∀ t : Fin grid0.N,
    win0_0.index t 0 = t.val / 4 ∧ win0_0.index t 1 = t.val % 4 ∧ win0_0.index t 2 = 0
    ∧ win0_1.index t 0 = t.val / 4 ∧ win0_1.index t 1 = 0 ∧ win0_1.index t 2 = 0
    ∧ win0_2.index t 0 = 0 ∧ win0_2.index t 1 = t.val / 4
    ∧ win0_3.index t 0 = t.val / 4 ∧ win0_3.index t 1 = 0 ∧ win0_3.index t 2 = 0
    ∧ win0_4.index t 0 = t.val / 4 ∧ win0_4.index t 1 = 0 ∧ win0_4.index t 2 = 0
    ∧ win0_5.index t 0 = 0 ∧ win0_5.index t 1 = 0 ∧ win0_6.index t 0 = 0 ∧ win0_6.index t 1 = 0
    ∧ win0_7.index t 0 = 0 ∧ win0_7.index t 1 = 0
    ∧ win0_8.index t 0 = t.val % 4 ∧ win0_8.index t 1 = 0 ∧ win0_9.index t 0 = t.val % 4 ∧ win0_9.index t 1 = 0
    ∧ win0_10.index t 0 = t.val / 4 ∧ win0_10.index t 1 = 0 ∧ win0_10.index t 2 = 0 := by
  decide +kernel

/-- There are eight grid points. -/
theorem point_lt (t : Fin cfg0.N) : t.val < 8 := t.isLt

/-- The batch of a grid point. -/
def bat (t : Fin cfg0.N) : Fin 2 := ⟨t.val / 4, by have := point_lt t; omega⟩

/-- Query `i` of a grid point's tile, among all queries. -/
def row (t : Fin cfg0.N) (i : Fin 256) : Fin 1024 := ⟨t.val % 4 * 256 + i.val, by omega⟩

theorem readQ (c : Dev nD) (t : Fin cfg0.N) (i : Fin 256) (n : Fin 1024) :
    iblk m c 0 t (ix3 0 i n) = m ((c : Thread nD τ).loc main_arg0) (ix3 (bat t) (row t i) n) := by
  blk_ext [iblk, V, idx t, bat, row]

theorem readK (c : Dev nD) (t : Fin cfg0.N) (i : Fin 1024) (n : Fin 1024) :
    iblk m c 1 t (ix3 0 i n) = m ((c : Thread nD τ).loc main_arg1) (ix3 (bat t) i n) := by
  blk_ext [iblk, V, idx t, bat]

theorem readV (c : Dev nD) (t : Fin cfg0.N) (n : Fin 512) (k : Fin 1024) :
    iblk m c 2 t (ix2 n k) = m ((c : Thread nD τ).loc main_arg2) (ix2 n (⟨(bat t).val * 1024 + k.val, by omega⟩ : Fin 2048)) := by
  blk_ext [iblk, V, idx t, bat]

theorem readCkv (c : Dev nD) (t : Fin cfg0.N) (k : Fin 512) (a : Fin 256) :
    iblk m c 3 t (ix3 0 k a) = m ((c : Thread nD τ).loc main_arg3) (ix3 (bat t) k a) := by
  blk_ext [iblk, V, idx t, bat]

theorem readCs (c : Dev nD) (t : Fin cfg0.N) (i : Fin 256) (n : Fin 1024) :
    iblk m c 8 t (ix2 i n) = m ((c : Thread nD τ).loc main_arg8) (ix2 (row t i) n) := by
  blk_ext [iblk, V, idx t, row]

theorem readNs (c : Dev nD) (t : Fin cfg0.N) (i : Fin 256) (n : Fin 1024) :
    iblk m c 9 t (ix2 i n) = m ((c : Thread nD τ).loc main_arg9) (ix2 (row t i) n) := by
  blk_ext [iblk, V, idx t, row]

theorem readF (c : Dev nD) (t : Fin cfg0.N) (i : Fin 1024) (n : Fin 1024) :
    iblk m c 10 t (ix3 0 i n) = m ((c : Thread nD τ).loc main_arg7) (ix3 (bat t) i n) := by
  blk_ext [iblk, V, idx t, bat]

/-- The position slot. -/
theorem readPe (c : Dev nD) (t : Fin cfg0.N) (k : Fin 512) (l : Fin 128) :
    iblk m c 4 t (ix3 0 k l) = V m c main_v11 (ix3 (bat t) k l) := by
  blk_ext [iblk, idx t, bat]

theorem readWk (c : Dev nD) (t : Fin cfg0.N) (a : Fin 256) (n : Fin 1024) :
    iblk m c 5 t (ix2 a n) = V m c main_v6 (ix2 a n) := by
  blk_ext [iblk, idx t]

theorem readWv (c : Dev nD) (t : Fin cfg0.N) (n : Fin 512) (a : Fin 256) :
    iblk m c 6 t (ix2 n a) = V m c main_v8 (ix2 n a) := by
  blk_ext [iblk, idx t]

theorem readG (c : Dev nD) (t : Fin cfg0.N) (l : Fin 128) :
    iblk m c 7 t (ix2 0 l) = V m c main_v10 (ix2 0 l) := by
  blk_ext [iblk, idx t]

end Cert.KernelIdeal.Attn

end
-- ==== Proof.Host.lean ====
module

public import proofs.«01_k».proof.Proof.Reads

/-! What the operations before the launch leave in the operands that are prepared for it, read at coordinates. -/

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The word zero converts to zero. -/
theorem intZero : (FloatOps.sitofp FTy.f32 0#32 : Ideal .f32) = (0 : EReal) := by
  simp [FloatOps.sitofp]

/-- The value half of the expansion: its operand has the heads' values in rows, and the expansion's own entries. -/
theorem hostWv (c : Dev nD) (h : Fin 8) (d : Fin 64) (a : Fin 256) :
    V m c main_v8 (ix2 (⟨64 * h.val + d.val, by omega⟩ : Fin 512) a)
      = m ((c : Thread nD τ).loc main_arg5) (ix2 a (⟨128 * h.val + 64 + d.val, by omega⟩ : Fin 1024)) := by
  simp only [V, hostOps0, hostOps0_1, hostOps0_2, hostOps0_3, hostOps0_4, hostOps0_5, List.flatten_cons, List.flatten_nil, List.append_nil,
    List.cons_append, List.nil_append]
  entry_read
  pointwise
  rw [show (⟨(64 * h.val + d.val) / 64 * 128 + (64 + (64 * h.val + d.val) % 64), by omega⟩ : Fin 1024) = ⟨128 * h.val + 64 + d.val, by omega⟩ from Fin.ext (by simp only []; omega)]

/-- The position rows are padded to a slot: the rotary width on lanes 64 to 95, zero elsewhere. -/
theorem hostPe (c : Dev nD) (b : Fin 2) (k : Fin 512) (l : Fin 128) :
    (V m c main_v11 (ix3 b k l) : EReal)
      = if hl : 64 ≤ l.val ∧ l.val < 96 then m ((c : Thread nD τ).loc main_arg4) (ix3 b k (⟨l.val - 64, by omega⟩ : Fin 32)) else (0 : EReal) := by
  simp only [V, hostOps0, hostOps0_1, hostOps0_2, hostOps0_3, hostOps0_4, hostOps0_5, List.flatten_cons, List.flatten_nil, List.append_nil,
    List.cons_append, List.nil_append]
  entry_read
  simp -implicitDefEqProofs only [StableHlo.TRef.toBuf, StableHlo.TRef.ofBuf, cast_cast, cast_eq]
  pointwise
  rw [intZero]
  by_cases hl : 64 ≤ l.val ∧ l.val < 96
  · rw [dif_pos hl, dif_pos ⟨hl.1, by omega⟩]
  · rw [dif_neg hl, dif_neg (by omega)]

/-- The scales are padded with zeros from lane 96. -/
theorem hostG (c : Dev nD) (l : Fin 128) :
    (V m c main_v10 (ix2 0 l) : EReal)
      = if hl : l.val < 96 then m ((c : Thread nD τ).loc main_arg6) (ix1 (⟨l.val, hl⟩ : Fin 96)) else (0 : EReal) := by
  simp only [V, hostOps0, hostOps0_1, hostOps0_2, hostOps0_3, hostOps0_4, hostOps0_5, List.flatten_cons, List.flatten_nil, List.append_nil,
    List.cons_append, List.nil_append]
  entry_read
  simp -implicitDefEqProofs only [StableHlo.TRef.toBuf, StableHlo.TRef.ofBuf, cast_cast, cast_eq]
  pointwise
  rw [intZero]

/-- The key half of the expansion: each head's slot has the expansion's own entries on lanes 0 to 63, zero elsewhere. -/
theorem hostWk (c : Dev nD) (a : Fin 256) (h : Fin 8) (l : Fin 128) :
    (V m c main_v6 (ix2 a (⟨128 * h.val + l.val, by omega⟩ : Fin 1024)) : EReal)
      = if hl : l.val < 64 then m ((c : Thread nD τ).loc main_arg5) (ix2 a (⟨128 * h.val + l.val, by omega⟩ : Fin 1024)) else (0 : EReal) := by
  simp only [V, hostOps0, hostOps0_1, hostOps0_2, hostOps0_3, hostOps0_4, hostOps0_5, List.flatten_cons, List.flatten_nil, List.append_nil,
    List.cons_append, List.nil_append]
  entry_read
  simp -implicitDefEqProofs only [StableHlo.TRef.toBuf, StableHlo.TRef.ofBuf, cast_cast, cast_eq]
  pointwise
  have e1 : (128 * h.val + l.val) / 128 = h.val := by omega
  have e2 : (128 * h.val + l.val) % 128 = l.val := by omega
  simp only [e1, e2, intZero]
  split_ifs with h1 h2 h2
  · exact congrArg (fun n : Fin 1024 => m ((c : Thread nD τ).loc main_arg5) (ix2 a n)) (Fin.ext (congrArg (· + l.val) (Nat.mul_comm h.val 128)))
  · exact absurd h1.2 h2
  · exact absurd ⟨h.isLt, h2⟩ h1
  · rfl

end Cert.KernelIdeal.Attn

end
-- ==== Proof.Mix.lean ====
module

public import proofs.«01_k».proof.Proof.Keys

/-! The position transform's block, read at coordinates. -/

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

/-- One entry of a half of the block: the real and the imaginary part's products over positions. -/
theorem mixLow (v w : FVec Ideal S256x1024 .bf16) (f g : FVec Ideal S1x1024x256 .bf16) (i : Fin 256) (n : Fin 256) :
    k0_pay46 (F := Ideal) v f w g (ix3 0 i n) = ∑ k : Fin 1024, v (ix2 i k) * f (ix3 0 k n) + ∑ k : Fin 1024, w (ix2 i k) * g (ix3 0 k n) := by
  pointwise [k0_pay46]

/-- The same of the other half. -/
theorem mixHigh (v w : FVec Ideal S256x1024 .bf16) (f g : FVec Ideal S1x1024x256 .bf16) (i : Fin 256) (n : Fin 256) :
    k0_pay56 (F := Ideal) v f w g (ix3 0 i n) = ∑ k : Fin 1024, v (ix2 i k) * f (ix3 0 k n) + ∑ k : Fin 1024, w (ix2 i k) * g (ix3 0 k n) := by
  pointwise [k0_pay56]

/-- One entry of the block: the products of the cosine and the sine rows with the two halves of the channel transform. -/
def mixOf (v w : FVec Ideal S256x1024 .bf16) (f : FVec Ideal S1x1024x1024 .bf16) (i : Fin 256) (n : Fin 512) : EReal :=
  ∑ k : Fin 1024, v (ix2 i k) * f (ix3 0 k (⟨n.val, by omega⟩ : Fin 1024)) + ∑ k : Fin 1024, w (ix2 i k) * f (ix3 0 k (⟨512 + n.val, by omega⟩ : Fin 1024))

set_option maxHeartbeats 1000000 in
/-- The position transform's block at any point. -/
theorem mixAtPoint (c : Dev nD) (t : Fin cfg0.N) (i : Fin 256) (n : Fin 512) :
    (outsAt0 m c t.val t.isLt).2.1 (ix3 0 i n) = mixOf (iblk m c 8 t) (iblk m c 9 t) (iblk m c 10 t) i n := by
  by_cases h0 : t.val % 4 = 0
  on_goal 1 => rw [outsAt0_A m c t h0]
  on_goal 2 => rw [outsAt0_B m c t h0]
  all_goals
    frame_out
    clear h0
    canon_tiles x h
    all_goals
      obtain ⟨u, a, b, rfl⟩ : ∃ (u : Fin 1) (a b : Fin 256), x = ix3 u a b := ⟨x 0, x 1, x 2, eq_ix3 x⟩
      obtain rfl : u = 0 := Subsingleton.elim _ _
      obtain rfl : i = a := Fin.ext h1
    · obtain rfl : n = (⟨256 + b.val, Nat.add_lt_add_left b.isLt 256⟩ : Fin 512) := Fin.ext h2
      rw [mixHigh]
      pointwise [mixOf]
      simp only [← Nat.add_assoc, Nat.reduceAdd]
    · obtain rfl : n = (⟨b.val, Nat.lt_of_lt_of_le b.isLt (by decide)⟩ : Fin 512) := Fin.ext h2
      rw [mixLow]
      pointwise [mixOf]

end Cert.KernelIdeal.Attn

end
-- ==== Proof.Arrays.lean ====
module

public import proofs.«01_k».proof.Proof.Keys
public import proofs.«01_k».proof.Proof.Host
public import proofs.«01_k».proof.Proof.Mix
public import proofs.«01_k».proof.Proof.Gen.KernelIdeal.Value

/-! The two result arrays of the kernel, read at coordinates from the operands. -/

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

/-- One entry of a batch's context keys, from the latent rows, the expansion, the position slots and the scales. -/
def keyRowOf (x3 : FVec Ideal S2x512x256 .f32) (w : FVec Ideal S256x1024 .bf16) (pe : FVec Ideal S2x512x128 .f32) (g : FVec Ideal S1x128 .f32)
    (b : Fin 2) (k : Fin 512) (h : Fin 8) (l : Fin 128) : EReal :=
  keyLane (fun l => ∑ a : Fin 256, x3 (ix3 b k a) * w (ix2 a (⟨128 * h.val + l.val, by omega⟩ : Fin 1024)))
    (fun l => pe (ix3 b k l)) (fun l => g (ix2 0 l)) l

/-- One entry of a batch's context values, from the latent rows and the expansion. -/
def valRowOf (x3 : FVec Ideal S2x512x256 .f32) (w : FVec Ideal S512x256 .bf16) (b : Fin 2) (n k : Fin 512) : EReal :=
  ∑ a : Fin 256, w (ix2 n a) * x3 (ix3 b k a)

/-- One entry of a batch's context keys, from the operands. -/
def keyRow (c : Dev nD) (b : Fin 2) (k : Fin 512) (h : Fin 8) (l : Fin 128) : EReal :=
  keyRowOf (m ((c : Thread nD τ).loc main_arg3)) (V m c main_v6) (V m c main_v11) (V m c main_v10) b k h l

/-- One entry of a batch's context values, from the operands. -/
def valRow (c : Dev nD) (b : Fin 2) (n k : Fin 512) : EReal :=
  valRowOf (m ((c : Thread nD τ).loc main_arg3)) (V m c main_v8) b n k

/-- The first point of a batch leaves that batch's context keys. -/
theorem firstKeyRow (c : Dev nD) (t : Fin cfg0.N) (h0 : t.val % 4 = 0) (k : Fin 512) (h : Fin 8) (l : Fin 128) :
    (outsAt0 m c t.val t.isLt).2.2.1 (ix2 k (⟨128 * h.val + l.val, by omega⟩ : Fin 1024)) = keyRow m c (bat t) k h l := by
  rw [firstKeys m c t h0 k h l]
  simp only [keyAt, keyRow, keyRowOf, readCkv, readPe, readWk, readG]

/-- The first point of a batch leaves that batch's context values. -/
theorem firstValRow (c : Dev nD) (t : Fin cfg0.N) (h0 : t.val % 4 = 0) (n k : Fin 512) :
    (outsAt0 m c t.val t.isLt).2.2.2 (ix2 n k) = valRow m c (bat t) n k := by
  rw [firstValues m c t h0 n k]
  simp only [valAt, valRow, valRowOf, readCkv, readWv]

/-- Every point of a batch finds that batch's context keys. -/
theorem keysAtPoint (c : Dev nD) (k : Fin 512) (h : Fin 8) (l : Fin 128) : ∀ (n : Nat) (hn : n < cfg0.N),
    (outsAt0 m c n hn).2.2.1 (ix2 k (⟨128 * h.val + l.val, by omega⟩ : Fin 1024)) = keyRow m c (bat ⟨n, hn⟩) k h l
  | 0, hn => firstKeyRow m c ⟨0, hn⟩ rfl k h l
  | n + 1, hn => by
    by_cases h0 : (n + 1) % 4 = 0
    · exact firstKeyRow m c ⟨n + 1, hn⟩ h0 k h l
    · have e := keepK m c ⟨n + 1, hn⟩ h0
      have hb : bat ⟨n + 1, hn⟩ = bat ⟨n, Nat.lt_of_succ_lt hn⟩ := Fin.ext (by simp only [bat]; omega)
      rw [hb, ← keysAtPoint c k h l n (Nat.lt_of_succ_lt hn)]
      exact congrFun e _

/-- Every point of a batch finds that batch's context values. -/
theorem valuesAtPoint (c : Dev nD) (r k : Fin 512) : ∀ (n : Nat) (hn : n < cfg0.N),
    (outsAt0 m c n hn).2.2.2 (ix2 r k) = valRow m c (bat ⟨n, hn⟩) r k
  | 0, hn => firstValRow m c ⟨0, hn⟩ rfl r k
  | n + 1, hn => by
    by_cases h0 : (n + 1) % 4 = 0
    · exact firstValRow m c ⟨n + 1, hn⟩ h0 r k
    · have e := keepV m c ⟨n + 1, hn⟩ h0
      have hb : bat ⟨n + 1, hn⟩ = bat ⟨n, Nat.lt_of_succ_lt hn⟩ := Fin.ext (by simp only [bat]; omega)
      rw [hb, ← valuesAtPoint c r k n (Nat.lt_of_succ_lt hn)]
      exact congrFun e _

/-- The attention of a query and head, from the queries, the latent keys and values, and the context's keys and values. -/
def attnOf (x0 x1 : FVec Ideal S2x1024x1024 .bf16) (x2 : FVec Ideal S512x2048 .bf16) (kr : Fin 512 → Fin 8 → Fin 128 → EReal) (vr : Fin 512 → Fin 512 → EReal)
    (b : Fin 2) (i : Fin 1024) (h : Fin 8) (d : Fin 64) : EReal :=
  attn (fun k => ∑ l : Fin 128, kr k h l * x0 (ix3 b i (⟨128 * h.val + l.val, by omega⟩ : Fin 1024)))
    (fun k => ∑ l : Fin 128, x1 (ix3 b k (⟨128 * h.val + l.val, by omega⟩ : Fin 1024)) * x0 (ix3 b i (⟨128 * h.val + l.val, by omega⟩ : Fin 1024)))
    (fun k => vr ⟨64 * h.val + d.val, by omega⟩ k)
    (fun k => x2 (ix2 (⟨64 * h.val + d.val, by omega⟩ : Fin 512) (⟨b.val * 1024 + k.val, by omega⟩ : Fin 2048)))

/-- The point that writes query `i` of batch `b`. -/
def pt (b : Fin 2) (i : Fin 1024) : Fin cfg0.N := ⟨4 * b.val + i.val / 256, by rw [show cfg0.N = 8 from N_0]; omega⟩

/-- Its batch. -/
theorem bat_pt (b : Fin 2) (i : Fin 1024) : bat (pt b i) = b := Fin.ext (by simp only [bat, pt]; omega)

/-- Its query. -/
theorem row_pt (b : Fin 2) (i : Fin 1024) : row (pt b i) ⟨i.val % 256, by omega⟩ = i := Fin.ext (by simp only [row, pt]; omega)

/-- The first array at an index is its point's output block. -/
theorem array11 (c : Dev nD) (b : Fin 2) (i : Fin 1024) (n : Fin 512) :
    Value.G11 m c (ix3 b i n) = (outsAt0 m c (pt b i).val (pt b i).isLt).1 (ix3 0 (⟨i.val % 256, by omega⟩ : Fin 256) n) := by
  have hp : Value.pt11Of (ix3 b i n) = (pt b i).val := by
    show _ = 4 * b.val + i.val / 256
    simp [Value.pt11Of, Value.run11Of]
  have hl : Value.loc11Of (ix3 b i n) = ix3 0 (⟨i.val % 256, by omega⟩ : Fin 256) n := by
    funext a
    apply Fin.ext
    match a with
    | ⟨0, _⟩ => exact Nat.mod_one _
    | ⟨1, _⟩ => rfl
    | ⟨2, _⟩ => exact Nat.mod_eq_of_lt n.isLt
  unfold Value.G11
  rw [dif_pos (by rw [hp]; exact (pt b i).isLt), hl, Value.fold0_congr m c _ _ _ (by simp [(pt b i).isLt]) hp, Value.outsAt0_sweep]

/-- The first result at an index: the attention of its query and head over the context's and the latent keys. -/
theorem firstAt (c : Dev nD) (b : Fin 2) (i : Fin 1024) (h : Fin 8) (d : Fin 64) :
    Value.G11 m c (ix3 b i (⟨64 * h.val + d.val, by omega⟩ : Fin 512))
      = attnOf (m ((c : Thread nD τ).loc main_arg0)) (m ((c : Thread nD τ).loc main_arg1)) (m ((c : Thread nD τ).loc main_arg2))
        (keyRow m c b) (valRow m c b) b i h d := by
  rw [array11, oAt m c (pt b i) _ h d]
  have hk : ∀ k l, (outsAt0 m c (pt b i).val (pt b i).isLt).2.2.1 (ix2 k (⟨128 * h.val + l.val, by omega⟩ : Fin 1024)) = keyRow m c b k h l := fun k l =>
    (keysAtPoint m c k h l _ (pt b i).isLt).trans (congrArg (fun b => keyRow m c b k h l) (bat_pt b i))
  have hv : ∀ r k, (outsAt0 m c (pt b i).val (pt b i).isLt).2.2.2 (ix2 r k) = valRow m c b r k := fun r k =>
    (valuesAtPoint m c r k _ (pt b i).isLt).trans (congrArg (fun b => valRow m c b r k) (bat_pt b i))
  have hq := fun n => readQ m c (pt b i) ⟨i.val % 256, by omega⟩ n
  have hl := fun k n => readK m c (pt b i) k n
  have hw := fun n k => readV m c (pt b i) n k
  simp only [row_pt, bat_pt] at hq hl hw
  simp only [blkO, attnOf, hk, hv, hw]
  exact congrArg₂ (fun s1 s2 => attn s1 s2 _ _) (funext fun k => Finset.sum_congr rfl fun l _ => congrArg (_ * ·) (hq _))
    (funext fun k => Finset.sum_congr rfl fun l _ => congrArg₂ (· * ·) (hl _ _) (hq _))

/-- The second array at an index is its point's block. -/
theorem array12 (c : Dev nD) (b : Fin 2) (i : Fin 1024) (n : Fin 512) :
    Value.G12 m c (ix3 b i n) = (outsAt0 m c (pt b i).val (pt b i).isLt).2.1 (ix3 0 (⟨i.val % 256, by omega⟩ : Fin 256) n) := by
  have hp : Value.pt12Of (ix3 b i n) = (pt b i).val := by
    show _ = 4 * b.val + i.val / 256
    simp [Value.pt12Of, Value.run12Of]
  have hl : Value.loc12Of (ix3 b i n) = ix3 0 (⟨i.val % 256, by omega⟩ : Fin 256) n := by
    funext a
    apply Fin.ext
    match a with
    | ⟨0, _⟩ => exact Nat.mod_one _
    | ⟨1, _⟩ => rfl
    | ⟨2, _⟩ => exact Nat.mod_eq_of_lt n.isLt
  unfold Value.G12
  rw [dif_pos (by rw [hp]; exact (pt b i).isLt), hl, Value.fold0_congr m c _ _ _ (by simp [(pt b i).isLt]) hp, Value.outsAt0_sweep]

/-- The position transform of a batch at a position and column: the cosine and the sine rows on the two halves of the channel
transform. -/
def mixRow (x7 : FVec Ideal S2x1024x1024 .bf16) (x8 x9 : FVec Ideal S1024x1024 .bf16) (b : Fin 2) (i : Fin 1024) (n : Fin 512) : EReal :=
  ∑ k : Fin 1024, x8 (ix2 i k) * x7 (ix3 b k (⟨n.val, by omega⟩ : Fin 1024)) + ∑ k : Fin 1024, x9 (ix2 i k) * x7 (ix3 b k (⟨512 + n.val, by omega⟩ : Fin 1024))

/-- The second result at an index. -/
theorem secondAt (c : Dev nD) (b : Fin 2) (i : Fin 1024) (n : Fin 512) :
    Value.G12 m c (ix3 b i n)
      = mixRow (m ((c : Thread nD τ).loc main_arg7)) (m ((c : Thread nD τ).loc main_arg8)) (m ((c : Thread nD τ).loc main_arg9)) b i n := by
  rw [array12, mixAtPoint m c (pt b i) _ n]
  simp only [mixOf, mixRow, readF, readCs, readNs, row_pt, bat_pt]

end Cert.KernelIdeal.Attn

end
-- ==== Proof.RefDefs.lean ====
module

public import proofs.«01_k».proof.Proof.Gen.ReferenceIdeal.Run
public import Idealize.ShloMosaic.Lib.Pointwise

/-! The reference's two results, read at coordinates. -/

@[expose] public section

set_option maxRecDepth 16384

noncomputable section

namespace Cert.ReferenceIdeal.Attn

open Cert.ReferenceIdeal Cert.ReferenceIdeal.Gen Idealize.ShloMosaic Idealize.ShloMosaic.TcCoe Idealize.SL.Sem

variable (x0 : FVec Ideal S2x1024x1024 .bf16) (x1 : FVec Ideal S2x1024x1024 .bf16) (x2 : FVec Ideal S512x2048 .bf16)
  (x3 : FVec Ideal S2x512x256 .f32) (x4 : FVec Ideal S2x512x32 .f32) (x5 : FVec Ideal S256x1024 .f32) (x6 : FVec Ideal S96 .f32)

/-- The expanded context rows. -/
def kv : FVec Ideal S2x512x8x128 .f32 :=
  shapeCast _ (Host.dotGeneral dot_S2x512x256_S256x1024_S2x512x1024_2_0_01_1_n_n none x3 x5) shapeCasts_S2x512x1024_S2x512x8x128

/-- The unnormalised context keys: the expanded part, then the position part. -/
def cat : FVec Ideal S2x512x8x96 .f32 :=
  concatenate S2x512x8x96 3 [⟨S2x512x8x64, (extractStridedSlice S2x512x8x64 ![0, 0, 0, 0] (kv x3 x5) slices_S2x512x8x128_S2x512x8x64_0_0_0_0)⟩, ⟨S2x512x8x32, (broadcastInDim S2x512x8x32 ![0, 1, 2, 3] bcast_S2x512x1x32_S2x512x8x32_0_1_2_3 (broadcastInDim S2x512x1x32 ![0, 1, 3] bcast_S2x512x32_S2x512x1x32_0_1_3 x4))⟩] concatenates_S2x512x8x64_S2x512x8x32_S2x512x8x96_d3

/-- The reciprocal root mean square of every context key. -/
def rms : FVec Ideal S2x512x8x1 .f32 :=
  Host.rsqrt (addf (Host.divf (broadcastInDim S2x512x8x1 ![0, 1, 2] bcast_S2x512x8_S2x512x8x1_0_1_2 (Host.reduceAdd (mulf (cat x3 x4 x5) (cat x3 x4 x5)) (constant S_ .f32 0x00000000#32) reducesTo_S2x512x8x96_S2x512x8_d3 h_S_)) (broadcastInDim S2x512x8x1 ![] bcast_S_S2x512x8x1 (constant S_ .f32 0x42C00000#32))) (broadcastInDim S2x512x8x1 ![] bcast_S_S2x512x8x1 (constant S_ .f32 0x358637BD#32)))

/-- The context keys, each head's 96 lanes followed by 32 zeros. -/
def ctxKeys : FVec Ideal S2x512x8x128 .f32 :=
  pad S2x512x8x128 ![0, 0, 0, 0] ![0, 0, 0, 32] ![0, 0, 0, 0] (mulf (mulf (cat x3 x4 x5) (broadcastInDim S2x512x8x96 ![0, 1, 2, 3] bcast_S2x512x8x1_S2x512x8x96_0_1_2_3 (rms x3 x4 x5))) (broadcastInDim S2x512x8x96 ![0, 1, 2, 3] bcast_S1x1x1x96_S2x512x8x96_0_1_2_3 (broadcastInDim S1x1x1x96 ![3] bcast_S96_S1x1x1x96_3 x6))) (sitofp .f32 (constantI S_ 32 0#32)) pads_S2x512x8x96_S2x512x8x128_000_000_000_0320 h_S_

/-- All keys: the context's, then the latent ones. -/
def keys : FVec Ideal S2x1536x8x128 .f32 :=
  concatenate S2x1536x8x128 1 [⟨S2x512x8x128, ctxKeys x3 x4 x5 x6⟩, ⟨S2x1024x8x128, (shapeCast _ (extf .f32 x1 bitsLt_bf16_f32) shapeCasts_S2x1024x1024_S2x1024x8x128)⟩] concatenates_S2x512x8x128_S2x1024x8x128_S2x1536x8x128_d1

/-- All values: the context's, then the latent ones. -/
def vals : FVec Ideal S2x1536x8x64 .f32 :=
  concatenate S2x1536x8x64 1 [⟨S2x512x8x64, (extractStridedSlice S2x512x8x64 ![0, 0, 0, 64] (kv x3 x5) slices_S2x512x8x128_S2x512x8x64_0_0_0_64)⟩, ⟨S2x1024x8x64, (transpose S2x1024x8x64 [2, 3, 0, 1] (shapeCast _ (extf .f32 x2 bitsLt_bf16_f32) shapeCasts_S512x2048_S8x64x2x1024) transposes_S8x64x2x1024_S2x1024x8x64_2_3_0_1)⟩] concatenates_S2x512x8x64_S2x1024x8x64_S2x1536x8x64_d1

/-- The scores of every key for every query. -/
def scores : FVec Ideal S2x8x1024x1536 .f32 :=
  Host.dotGeneral dot_S2x1024x8x128_S2x1536x8x128_S2x8x1024x1536_3_3_1_1_02_02 none (shapeCast S2x1024x8x128 (extf .f32 x0 bitsLt_bf16_f32) shapeCasts_S2x1024x1024_S2x1024x8x128) (keys x1 x3 x4 x5 x6)

/-- The exponentials of the scores, each less its query's greatest. -/
def exps (s : FVec Ideal S2x8x1024x1536 .f32) : FVec Ideal S2x8x1024x1536 .f32 :=
  Host.exp (subf s (broadcastInDim S2x8x1024x1536 ![0, 1, 2, 3] bcast_S2x8x1024x1_S2x8x1024x1536_0_1_2_3 (broadcastInDim S2x8x1024x1 ![0, 1, 2] bcast_S2x8x1024_S2x8x1024x1_0_1_2 (maximumf (broadcastInDim S2x8x1024 ![] bcast_S_S2x8x1024 (constant S_ .f32 0xFF800000#32)) (Host.reduce FloatOps.maximumf s (constant S_ .f32 0xFF800000#32) reducesTo_S2x8x1024x1536_S2x8x1024_d3 h_S_)))))

/-- The probabilities. -/
def probs (e : FVec Ideal S2x8x1024x1536 .f32) : FVec Ideal S2x8x1024x1536 .f32 :=
  Host.divf e (broadcastInDim S2x8x1024x1536 ![0, 1, 2, 3] bcast_S2x8x1024x1_S2x8x1024x1536_0_1_2_3 (broadcastInDim S2x8x1024x1 ![0, 1, 2] bcast_S2x8x1024_S2x8x1024x1_0_1_2 (Host.reduceAdd e (constant S_ .f32 0x00000000#32) reducesTo_S2x8x1024x1536_S2x8x1024_d3 h_S_)))

/-- The attention's result from the values and the probabilities. -/
def outs (v : FVec Ideal S2x1536x8x64 .f32) (p : FVec Ideal S2x8x1024x1536 .f32) : FVec Ideal S2x1024x512 .bf16 :=
  truncf .bf16 (shapeCast _ (transpose S2x1024x8x64 [0, 3, 1, 2] (Host.dotGeneral dot_S2x1536x8x64_S2x8x1024x1536_S2x8x64x1024_1_3_3_2_02_01 none v p) transposes_S2x8x64x1024_S2x1024x8x64_0_3_1_2) shapeCasts_S2x1024x8x64_S2x1024x512) bitsLt_bf16_f32

/-- The reference's first result is these steps in order. -/
theorem first_eq (m : (ℓ : Loc nD τ sig) → Buf (Elt Ideal) ℓ) (c : Dev nD) :
    Value.res_main_v55 m c = outs (vals (m ((c.tc : Thread nD τ).loc main_arg2)) (m ((c.tc : Thread nD τ).loc main_arg3)) (m ((c.tc : Thread nD τ).loc main_arg5)))
      (probs (exps (scores (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))))) := rfl

end Cert.ReferenceIdeal.Attn

end
-- ==== Proof.RefAt.lean ====
module

public import proofs.«01_k».proof.Proof.RefDefs

/-! The reference's two results, read at coordinates. -/

@[expose] public section

set_option maxRecDepth 16384

noncomputable section

namespace Cert.ReferenceIdeal.Attn

open Cert.ReferenceIdeal Cert.ReferenceIdeal.Gen Idealize.ShloMosaic Idealize.ShloMosaic.TcCoe Idealize.SL.Sem

variable (x0 : FVec Ideal S2x1024x1024 .bf16) (x1 : FVec Ideal S2x1024x1024 .bf16) (x2 : FVec Ideal S512x2048 .bf16)
  (x3 : FVec Ideal S2x512x256 .f32) (x4 : FVec Ideal S2x512x32 .f32) (x5 : FVec Ideal S256x1024 .f32) (x6 : FVec Ideal S96 .f32)

/-- The word zero converts to zero. -/
theorem intZero : (FloatOps.sitofp FTy.f32 0#32 : Ideal .f32) = (0 : EReal) := by
  simp [FloatOps.sitofp]

/-- An entry of an expanded context row. -/
theorem kvAt (b : Fin 2) (k : Fin 512) (h : Fin 8) (n : Fin 128) :
    kv x3 x5 (ix4 b k h n) = ∑ a : Fin 256, x3 (ix3 b k a) * x5 (ix2 a (⟨128 * h.val + n.val, by omega⟩ : Fin 1024)) := by
  pointwise [kv]
  simp only [Nat.mul_comm h.val 128]

/-- An entry of an unnormalised context key: expanded on 64 lanes, the position row on 32. -/
theorem catAt (b : Fin 2) (k : Fin 512) (h : Fin 8) (l : Fin 96) :
    cat x3 x4 x5 (ix4 b k h l) = if hl : l.val < 64 then kv x3 x5 (ix4 b k h (⟨l.val, by omega⟩ : Fin 128)) else x4 (ix3 b k (⟨l.val - 64, by omega⟩ : Fin 32)) := by
  pointwise [cat]

/-- A context key's reciprocal root mean square. -/
theorem rmsAt (b : Fin 2) (k : Fin 512) (h : Fin 8) :
    rms x3 x4 x5 (ix4 b k h 0) = Ideal.rsqrt (Ideal.div (∑ l : Fin 96, cat x3 x4 x5 (ix4 b k h l) * cat x3 x4 x5 (ix4 b k h l)) (Ideal.ofBits .f32 0x42C00000#32)
      + Ideal.ofBits .f32 0x358637BD#32) := by
  pointwise [rms]

/-- An entry of a context key. -/
theorem ctxKeyAt (b : Fin 2) (k : Fin 512) (h : Fin 8) (l : Fin 128) :
    (ctxKeys x3 x4 x5 x6 (ix4 b k h l) : EReal)
      = if hl : l.val < 96 then cat x3 x4 x5 (ix4 b k h ⟨l.val, hl⟩) * rms x3 x4 x5 (ix4 b k h 0) * x6 (ix1 ⟨l.val, hl⟩) else (0 : EReal) := by
  pointwise [ctxKeys]
  rw [intZero]

/-- The first 512 keys are the context's. -/
theorem keyCtx (b : Fin 2) (k : Fin 512) (h : Fin 8) (l : Fin 128) :
    keys x1 x3 x4 x5 x6 (ix4 b (⟨k.val, by omega⟩ : Fin 1536) h l) = ctxKeys x3 x4 x5 x6 (ix4 b k h l) := by
  pointwise [keys]

/-- The remaining 1024 keys are the latent ones. -/
theorem keyLat (b : Fin 2) (k : Fin 1024) (h : Fin 8) (l : Fin 128) :
    keys x1 x3 x4 x5 x6 (ix4 b (⟨512 + k.val, by omega⟩ : Fin 1536) h l) = x1 (ix3 b k (⟨128 * h.val + l.val, by omega⟩ : Fin 1024)) := by
  pointwise [keys]
  simp only [Nat.mul_comm h.val 128]

/-- The first 512 values are the context's. -/
theorem valCtx (b : Fin 2) (k : Fin 512) (h : Fin 8) (d : Fin 64) :
    vals x2 x3 x5 (ix4 b (⟨k.val, by omega⟩ : Fin 1536) h d) = kv x3 x5 (ix4 b k h (⟨64 + d.val, by omega⟩ : Fin 128)) := by
  pointwise [vals]

/-- The remaining 1024 values are the latent ones. -/
theorem valLat (b : Fin 2) (k : Fin 1024) (h : Fin 8) (d : Fin 64) :
    vals x2 x3 x5 (ix4 b (⟨512 + k.val, by omega⟩ : Fin 1536) h d)
      = x2 (ix2 (⟨64 * h.val + d.val, by omega⟩ : Fin 512) (⟨b.val * 1024 + k.val, by omega⟩ : Fin 2048)) := by
  pointwise [vals]
  simp only [Nat.mul_comm h.val 64]

/-- A score is a query's product with a key over a head's 128 lanes. -/
theorem scoreAt (b : Fin 2) (h : Fin 8) (i : Fin 1024) (k : Fin 1536) :
    scores x0 x1 x3 x4 x5 x6 (ix4 b h i k) = ∑ l : Fin 128, x0 (ix3 b i (⟨128 * h.val + l.val, by omega⟩ : Fin 1024)) * keys x1 x3 x4 x5 x6 (ix4 b k h l) := by
  pointwise [scores]
  simp only [Nat.mul_comm h.val 128]

/-- A probability is its exponential over the sum of its query's. -/
theorem probAt (e : FVec Ideal S2x8x1024x1536 .f32) (b : Fin 2) (h : Fin 8) (i : Fin 1024) (k : Fin 1536) :
    probs e (ix4 b h i k) = Ideal.div (e (ix4 b h i k)) (∑ k : Fin 1536, e (ix4 b h i k)) := by
  pointwise [probs]

/-- An entry of the result is the probabilities' mean of the values. -/
theorem outAt (v : FVec Ideal S2x1536x8x64 .f32) (p : FVec Ideal S2x8x1024x1536 .f32) (b : Fin 2) (i : Fin 1024) (h : Fin 8) (d : Fin 64) :
    outs v p (ix3 b i (⟨64 * h.val + d.val, by omega⟩ : Fin 512)) = ∑ k : Fin 1536, v (ix4 b k h d) * p (ix4 b h i k) := by
  pointwise [outs]

/-- An entry of the position transform. -/
theorem fmAt (x7 : FVec Ideal S2x1024x1024 .bf16) (x8 x9 : FVec Ideal S1024x1024 .bf16) (b : Fin 2) (i : Fin 1024) (n : Fin 512) :
    (truncf .bf16 (addf (transpose S2x1024x512 [0, 2, 1] (Host.dotGeneral dot_S2x1024x512_S1024x1024_S2x512x1024_1_1_02_0_n_n none (extractStridedSlice S2x1024x512 ![0, 0, 0] (extf .f32 x7 bitsLt_bf16_f32) slices_S2x1024x1024_S2x1024x512_0_0_0) (extf .f32 x8 bitsLt_bf16_f32)) transposes_S2x512x1024_S2x1024x512_0_2_1) (transpose S2x1024x512 [0, 2, 1] (Host.dotGeneral dot_S2x1024x512_S1024x1024_S2x512x1024_1_1_02_0_n_n none (extractStridedSlice S2x1024x512 ![0, 0, 512] (extf .f32 x7 bitsLt_bf16_f32) slices_S2x1024x1024_S2x1024x512_0_0_512) (extf .f32 x9 bitsLt_bf16_f32)) transposes_S2x512x1024_S2x1024x512_0_2_1)) bitsLt_bf16_f32 : FVec Ideal S2x1024x512 .bf16) (ix3 b i n)
      = (∑ k : Fin 1024, x7 (ix3 b k (⟨n.val, by omega⟩ : Fin 1024)) * x8 (ix2 i k)) + ∑ k : Fin 1024, x7 (ix3 b k (⟨512 + n.val, by omega⟩ : Fin 1024)) * x9 (ix2 i k) := by
  pointwise

/-- The word the maxima start from denotes minus infinity. -/
theorem ofBits_negInf : Ideal.ofBits .f32 4286578688#32 = ⊥ := by
  simp [Ideal.ofBits, Ideal.ieee]

/-- A query's greatest score. -/
theorem greatestAt (s : FVec Ideal S2x8x1024x1536 .f32) (w : FVec Ideal S_ .f32) (b : Fin 2) (h : Fin 8) (i : Fin 1024) :
    Host.reduce FloatOps.maximumf s w reducesTo_S2x8x1024x1536_S2x8x1024_d3 h_S_ (ix3 b h i)
      = Finset.univ.fold max (w (Shape.Idx.first h_S_)) fun k : Fin 1536 => s (ix4 b h i k) := by
  pointwise

/-- The greatest scores are compared with the word the maxima start from. -/
theorem boundedAt (s : FVec Ideal S2x8x1024 .f32) (b : Fin 2) (h : Fin 8) (i : Fin 1024) :
    maximumf (broadcastInDim S2x8x1024 ![] bcast_S_S2x8x1024 (constant S_ .f32 0xFF800000#32)) s (ix3 b h i)
      = max (Ideal.ofBits .f32 0xFF800000#32) (s (ix3 b h i)) := by
  pointwise

/-- An exponential, of a score less its query's bound. -/
theorem expLess (s : FVec Ideal S2x8x1024x1536 .f32) (b : Fin 2) (h : Fin 8) (i : Fin 1024) (k : Fin 1536) :
    exps s (ix4 b h i k) = Ideal.exp (s (ix4 b h i k) - maximumf (broadcastInDim S2x8x1024 ![] bcast_S_S2x8x1024 (constant S_ .f32 0xFF800000#32)) (Host.reduce FloatOps.maximumf s (constant S_ .f32 0xFF800000#32) reducesTo_S2x8x1024x1536_S2x8x1024_d3 h_S_) (ix3 b h i)) := by
  unfold exps
  generalize maximumf (broadcastInDim S2x8x1024 ![] bcast_S_S2x8x1024 (constant S_ .f32 0xFF800000#32)) (Host.reduce FloatOps.maximumf s (constant S_ .f32 0xFF800000#32) reducesTo_S2x8x1024x1536_S2x8x1024_d3 h_S_) = u
  pointwise

/-- An exponential, of a score less its query's greatest. -/
theorem expAt (s : FVec Ideal S2x8x1024x1536 .f32) (b : Fin 2) (h : Fin 8) (i : Fin 1024) (k : Fin 1536) :
    exps s (ix4 b h i k) = Ideal.exp (s (ix4 b h i k) - Finset.univ.fold max ⊥ fun k : Fin 1536 => s (ix4 b h i k)) := by
  rw [expLess, boundedAt, greatestAt,
    show (constant S_ .f32 0xFF800000#32 : FVec Ideal S_ .f32) (Shape.Idx.first h_S_) = Ideal.ofBits .f32 0xFF800000#32 from rfl,
    ofBits_negInf, bot_sup_eq]

end Cert.ReferenceIdeal.Attn

end
-- ==== Proof.Compare.lean ====
module

public import proofs.«01_k».proof.Proof.KeyLanes
public import proofs.«01_k».proof.Proof.Softmax
public import proofs.«01_k».proof.Proof.Arrays
public import proofs.«01_k».proof.Proof.RefAt

/-! The kernel's keys, values, attention and position transform against the reference's. -/

@[expose] public section

set_option maxRecDepth 16384

noncomputable section

namespace Cert.Attn

open Idealize.ShloMosaic Cert.ReferenceIdeal.Attn
open Cert.KernelIdeal.Attn (keyRowOf valRowOf attnOf mixRow)
open Cert.ReferenceIdeal (S2x1024x1024 S512x2048 S2x512x256 S2x512x32 S256x1024 S96 S1024x1024)

variable (x0 : FVec Ideal S2x1024x1024 .bf16) (x1 : FVec Ideal S2x1024x1024 .bf16) (x2 : FVec Ideal S512x2048 .bf16)
  (x3 : FVec Ideal S2x512x256 .f32) (x4 : FVec Ideal S2x512x32 .f32) (x5 : FVec Ideal S256x1024 .f32) (x6 : FVec Ideal S96 .f32)

/-- The joined row of a head is the reference's unnormalised key. -/
theorem joined_eq (b : Fin 2) (k : Fin 512) (h : Fin 8) (l : Fin 96) :
    cat x3 x4 x5 (ix4 b k h l)
      = joined (fun l : Fin 64 => kv x3 x5 (ix4 b k h (⟨l.val, by omega⟩ : Fin 128))) (fun l : Fin 32 => x4 (ix3 b k l)) l := by
  rw [catAt]
  rfl

/-- The kernel's context keys are the reference's. -/
theorem keyRow_eq (w : FVec Ideal S256x1024 .bf16) (pe : FVec Ideal Cert.KernelIdeal.S2x512x128 .f32) (g : FVec Ideal Cert.KernelIdeal.S1x128 .f32)
    (b : Fin 2) (k : Fin 512) (h : Fin 8)
    (hw : ∀ (a : Fin 256) (l : Fin 128), (w (ix2 a (⟨128 * h.val + l.val, by omega⟩ : Fin 1024)) : EReal)
      = if hl : l.val < 64 then x5 (ix2 a (⟨128 * h.val + l.val, by omega⟩ : Fin 1024)) else (0 : EReal))
    (hpe : ∀ l : Fin 128, (pe (ix3 b k l) : EReal) = if hl : 64 ≤ l.val ∧ l.val < 96 then x4 (ix3 b k (⟨l.val - 64, by omega⟩ : Fin 32)) else (0 : EReal))
    (hg : ∀ l : Fin 128, (g (ix2 0 l) : EReal) = if hl : l.val < 96 then x6 (ix1 (⟨l.val, hl⟩ : Fin 96)) else (0 : EReal)) (l : Fin 128) :
    keyRowOf x3 w pe g b k h l = ctxKeys x3 x4 x5 x6 (ix4 b k h l) := by
  have e : keyRowOf x3 w pe g b k h l = _ := keyLane_eq (fun l : Fin 64 => kv x3 x5 (ix4 b k h (⟨l.val, by omega⟩ : Fin 128)))
    (fun l : Fin 32 => x4 (ix3 b k l)) (fun l : Fin 96 => x6 (ix1 l)) _ _ _ (fun l => ?_) hpe hg l
  · rw [e, ctxKeyAt, rmsAt]
    simp only [joined_eq]
  · simp only [hw]
    by_cases h1 : l.val < 64
    · simp only [dif_pos h1]
      exact (kvAt x3 x5 b k h ⟨l.val, by omega⟩).symm
    · simp only [dif_neg h1, mul_zero, Finset.sum_const_zero]

/-- The kernel's context values are the reference's. -/
theorem valRow_eq (w : FVec Ideal Cert.KernelIdeal.S512x256 .bf16) (b : Fin 2) (k : Fin 512) (h : Fin 8) (d : Fin 64)
    (hw : ∀ a : Fin 256, (w (ix2 (⟨64 * h.val + d.val, by omega⟩ : Fin 512) a) : EReal) = x5 (ix2 a (⟨128 * h.val + 64 + d.val, by omega⟩ : Fin 1024))) :
    valRowOf x3 w b ⟨64 * h.val + d.val, by omega⟩ k = kv x3 x5 (ix4 b k h (⟨64 + d.val, by omega⟩ : Fin 128)) := by
  rw [kvAt]
  unfold valRowOf
  refine Finset.sum_congr rfl fun a _ => ?_
  rw [hw, mul_comm]
  simp only [Nat.add_assoc]

section Real

variable (h0 : ∀ i, IsReal (x0 i)) (h1 : ∀ i, IsReal (x1 i)) (h3 : ∀ i, IsReal (x3 i)) (h4 : ∀ i, IsReal (x4 i)) (h5 : ∀ i, IsReal (x5 i)) (h6 : ∀ i, IsReal (x6 i))

include h3 h5 in
/-- The expanded context rows are real. -/
theorem kv_real (b : Fin 2) (k : Fin 512) (h : Fin 8) (n : Fin 128) : IsReal (kv x3 x5 (ix4 b k h n)) := by
  rw [kvAt]
  exact isReal_sum _ _ fun a _ => (h3 _).mul (h5 _)

include h3 h4 h5 in
/-- The unnormalised context keys are real. -/
theorem cat_real (b : Fin 2) (k : Fin 512) (h : Fin 8) (l : Fin 96) : IsReal (cat x3 x4 x5 (ix4 b k h l)) := by
  rw [catAt]
  split
  · exact kv_real x3 x5 h3 h5 b k h _
  · exact h4 _

/-- The word added to the mean squares denotes a positive real. -/
theorem eps_pos : ∃ r : ℝ, 0 < r ∧ Ideal.ofBits .f32 0x358637BD#32 = (r : EReal) := by
  refine ⟨8796093 * (2 ^ 43)⁻¹, by positivity, ?_⟩
  simp [Ideal.ofBits, Ideal.ieee]

include h3 h4 h5 in
/-- The reciprocal roots are real. -/
theorem rms_real (b : Fin 2) (k : Fin 512) (h : Fin 8) : IsReal (rms x3 x4 x5 (ix4 b k h 0)) := by
  rw [rmsAt, div_96]
  obtain ⟨r, hr, e⟩ := sum_sq Finset.univ (fun l : Fin 96 => cat x3 x4 x5 (ix4 b k h l)) fun l _ => cat_real x3 x4 x5 h3 h4 h5 b k h l
  obtain ⟨q, hq, e'⟩ := eps_pos
  rw [e, e', ← EReal.coe_mul, ← EReal.coe_add]
  exact isReal_rsqrt (by positivity)

include h1 h3 h4 h5 h6 in
/-- The keys are real. -/
theorem keys_real (b : Fin 2) (k : Fin 1536) (h : Fin 8) (l : Fin 128) : IsReal (keys x1 x3 x4 x5 x6 (ix4 b k h l)) := by
  by_cases hk : k.val < 512
  · rw [show k = (⟨(⟨k.val, hk⟩ : Fin 512).val, by omega⟩ : Fin 1536) from rfl, keyCtx, ctxKeyAt]
    split
    · exact ((cat_real x3 x4 x5 h3 h4 h5 b _ h _).mul (rms_real x3 x4 x5 h3 h4 h5 b _ h)).mul (h6 _)
    · exact isReal_zero
  · rw [show k = (⟨512 + (⟨k.val - 512, by omega⟩ : Fin 1024).val, by omega⟩ : Fin 1536) from Fin.ext (by simp only; omega), keyLat]
    exact h1 _

include h0 h1 h3 h4 h5 h6 in
/-- The scores are real. -/
theorem scores_real (b : Fin 2) (h : Fin 8) (i : Fin 1024) (k : Fin 1536) : IsReal (scores x0 x1 x3 x4 x5 x6 (ix4 b h i k)) := by
  rw [scoreAt]
  exact isReal_sum _ _ fun l _ => (h0 _).mul (keys_real x1 x3 x4 x5 x6 h1 h3 h4 h5 h6 b k h l)

include h0 h1 h3 h4 h5 h6 in
/-- The kernel's attention, with the reference's context keys and values, is the reference's. -/
theorem attn_eq (kr : Fin 512 → Fin 8 → Fin 128 → EReal) (vr : Fin 512 → Fin 512 → EReal) (b : Fin 2) (i : Fin 1024) (h : Fin 8) (d : Fin 64)
    (hk : ∀ k l, kr k h l = ctxKeys x3 x4 x5 x6 (ix4 b k h l))
    (hv : ∀ k, vr ⟨64 * h.val + d.val, by omega⟩ k = kv x3 x5 (ix4 b k h (⟨64 + d.val, by omega⟩ : Fin 128))) :
    attnOf x0 x1 x2 kr vr b i h d
      = outs (vals x2 x3 x5) (probs (exps (scores x0 x1 x3 x4 x5 x6))) (ix3 b i (⟨64 * h.val + d.val, by omega⟩ : Fin 512)) := by
  rw [outAt]
  simp only [probAt, expAt]
  refine Eq.trans ?_ (softmax_eq (fun k => scores x0 x1 x3 x4 x5 x6 (ix4 b h i k)) (fun k => vals x2 x3 x5 (ix4 b k h d)) fun k => scores_real x0 x1 x3 x4 x5 x6 h0 h1 h3 h4 h5 h6 b h i k).symm
  unfold attnOf
  congr 1
  · funext k
    refine Eq.trans ?_ (scoreAt x0 x1 x3 x4 x5 x6 b h i ⟨k.val, by omega⟩).symm
    simp only [keyCtx, hk]
    exact Finset.sum_congr rfl fun l _ => mul_comm _ _
  · funext k
    refine Eq.trans ?_ (scoreAt x0 x1 x3 x4 x5 x6 b h i ⟨512 + k.val, by omega⟩).symm
    simp only [keyLat]
    exact Finset.sum_congr rfl fun l _ => mul_comm _ _
  · funext k
    rw [hv]
    exact (valCtx x2 x3 x5 b k h d).symm
  · funext k
    exact (valLat x2 x3 x5 b k h d).symm

end Real

end Cert.Attn

end
-- ==== Proof.Inputs.lean ====
module

public import proofs.«01_k».proof.Proof.Softmax
public import proofs.«01_k».proof.Proof.Gen.Pre_finite_inputs
public import Idealize.ShloMosaic.Lib.ReduceAll
public import Idealize.ShloMosaic.Lib.Affine

/-! The precondition on the inputs, read entry by entry. -/

@[expose] public section

set_option maxRecDepth 16384

noncomputable section

namespace Cert.Attn

open Idealize.ShloMosaic Cert.Pre_finite_inputs Cert.Pre_finite_inputs.Gen

/-- The bits of infinity, as an extended real. -/
theorem ofBits_inf : Ideal.ofBits .f32 0x7F800000#32 = ⊤ := by
  simp [Ideal.ofBits, Ideal.ieee]

/-- An entry whose absolute value is less than infinity is real. -/
theorem isReal_of_lt (x : EReal) (h : max x (-x) < ⊤) : IsReal x := by
  induction x using EReal.rec with
  | bot => simp at h
  | coe r => exact ⟨r, rfl⟩
  | top => simp at h

/-- An array of which every entry is below infinity in absolute value has real entries. -/
theorem all_real {s : Shape} (x : FVec Ideal s .f32) {axes : List (Fin s.rank)} (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1) (i : s.Idx) :
    IsReal (x i) := by
  haveI : Subsingleton S_.Idx := ⟨fun a b => funext fun k => k.elim0⟩
  have := Host.reduce_andi_all _ _ hr hu j e i
  apply isReal_of_lt
  revert this
  pointwise [ofBits_inf]
  intro e
  by_contra hn
  rw [show decide (FloatOps.absf (x i) < ⊤) = false from decide_eq_false hn] at e
  exact absurd e (by decide)

/-- The precondition: every entry of the six arrays is real. -/
theorem inputs_real (x0 x1 : FVec Ideal S2x1024x1024 .bf16) (x2 : FVec Ideal S512x2048 .bf16) (x3 : FVec Ideal S2x512x256 .f32) (x4 : FVec Ideal S2x512x32 .f32)
    (x5 : FVec Ideal S256x1024 .f32) (x6 : FVec Ideal S96 .f32) (x7 : FVec Ideal S2x1024x1024 .bf16) (x8 x9 : FVec Ideal S1024x1024 .bf16)
    (h : Cert.Pre_finite_inputs.fn (F := Ideal) x0 x1 x2 x3 x4 x5 x6 x7 x8 x9 = fun _ => 1#1) :
    (∀ i, IsReal (x0 i)) ∧ (∀ i, IsReal (x1 i)) ∧ (∀ i, IsReal (x3 i)) ∧ (∀ i, IsReal (x4 i)) ∧ (∀ i, IsReal (x5 i)) ∧ ∀ i, IsReal (x6 i) := by
  have e := congrFun h (Shape.Idx.first h_S_)
  dsimp only [fn, fn_part1] at e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e0, e1⟩ := IntOp.andi_eq_one.mp e
  exact ⟨all_real (extf .f32 x0 _) _ _ _ _ e0, all_real (extf .f32 x1 _) _ _ _ _ e1, all_real x3 _ _ _ _ e3, all_real x4 _ _ _ _ e4, all_real x5 _ _ _ _ e5, all_real x6 _ _ _ _ e6⟩

end Cert.Attn

end
-- ==== Proof.Rows.lean ====
module

public import Idealize.ShloMosaic.Lib.Pipeline.ValueKit
public import Idealize.ShloMosaic.Lib.Pointwise
public import Idealize.ShloMosaic.Lib.Claim

/-! A row of the modulated input, its projections, gates and latent row, as functions of the row and the weights: the
values that both programs of the projection compute. -/

@[expose] public section

noncomputable section

namespace Cert.Ctx

open Idealize.ShloMosaic

/-- A row times its reciprocal root mean square: `w` is the word of the row's width. -/
def normed {n : ℕ} (w : BitVec 32) (x : Fin n → EReal) (k : Fin n) : EReal :=
  x k * Ideal.rsqrt (Ideal.div (∑ k, x k * x k) (Ideal.ofBits .f32 w) + Ideal.ofBits .f32 0x358637BD#32)

/-- A row of the input normalised, scaled, and modulated by a scale and a shift. -/
def modulated (x g sc sh : Fin 1024 → EReal) (k : Fin 1024) : EReal :=
  normed 0x44800000#32 x k * g k * (1 + sc k) + sh k

/-- A row's product with a row of the weights. -/
def proj (h w : Fin 1024 → EReal) : EReal := ∑ k : Fin 1024, h k * w k

/-- The logistic function, as both programs spell it. -/
def gate (z : EReal) : EReal := Ideal.div 1 (1 + Ideal.exp (-z))

/-- A latent row: normalised and scaled. -/
def latent (z g : Fin 256 → EReal) (j : Fin 256) : EReal := normed 0x43800000#32 z j * g j

/-- Multiplying by the word of 1/1024 divides by the word of 1024. -/
theorem mul_1024 (x : EReal) : x * Ideal.ofBits .f32 0x3A800000#32 = Ideal.div x (Ideal.ofBits .f32 0x44800000#32) := by
  have e : Ideal.ofBits .f32 0x44800000#32 = ((1024 : ℝ) : EReal) := by
    simp [Ideal.ofBits, Ideal.ieee]
    rw [← EReal.coe_mul]
    norm_num
  have e' : Ideal.ofBits .f32 0x3A800000#32 = ((1 / 1024 : ℝ) : EReal) := by
    simp [Ideal.ofBits, Ideal.ieee]
    rw [← EReal.coe_mul]
    norm_num
  rw [e, e', Ideal.div_coe (by norm_num)]

/-- Multiplying by the word of 1/256 divides by the word of 256. -/
theorem mul_256 (x : EReal) : x * Ideal.ofBits .f32 0x3B800000#32 = Ideal.div x (Ideal.ofBits .f32 0x43800000#32) := by
  have e : Ideal.ofBits .f32 0x43800000#32 = ((256 : ℝ) : EReal) := by
    simp [Ideal.ofBits, Ideal.ieee]
    rw [← EReal.coe_mul]
    norm_num
  have e' : Ideal.ofBits .f32 0x3B800000#32 = ((1 / 256 : ℝ) : EReal) := by
    simp [Ideal.ofBits, Ideal.ieee]
    rw [← EReal.coe_mul]
    norm_num
  rw [e, e', Ideal.div_coe (by norm_num)]

end Cert.Ctx

namespace Cert.Moe

open Idealize.ShloMosaic

/-- A hidden entry of an expert: the gated product of a token's row with two columns of the weights, times the token's
weight for the expert. -/
def hidden (h g u : Fin 1024 → EReal) (w : EReal) : EReal :=
  (∑ k : Fin 1024, h k * g k) * Cert.Ctx.gate (∑ k : Fin 1024, h k * g k) * (∑ k : Fin 1024, h k * u k) * w

/-- An expert's share of an entry of the mixture. -/
def share (h : Fin 1024 → EReal) (g u : Fin 1024 → Fin 512 → EReal) (d : Fin 512 → EReal) (w : EReal) : EReal :=
  ∑ f : Fin 512, hidden h (fun k => g k f) (fun k => u k f) w * d f

/-- An entry of the result: the residual stream plus the gated mixture. -/
def gated (x g a : EReal) : EReal := x + g * a

end Cert.Moe

end
-- ==== Proof.MoeReads.lean ====
module

public import proofs.«01_k».proof.Proof.Gen.Kernel2Ideal.Frame
public import proofs.«01_k».proof.Proof.Rows
public import Idealize.ShloMosaic.Lib.Pipeline.ValueKit
public import Idealize.ShloMosaic.Lib.Pointwise
public import Idealize.ShloMosaic.Lib.Claim

/-! Where the blocks that a grid point of the mixture of experts loads lie in the call's arrays, and what the operations
before the launch leave in the weights. Point `t` works on the 1024 tokens of tile `t / 16` and on expert `t % 16`. -/

@[expose] public section

set_option maxRecDepth 16384

noncomputable section

namespace Cert.Kernel2Ideal.Moe

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The block index of every input window at every point. -/
theorem idx : ∀ t : Fin grid0.N,
    win0_0.index t 0 = t.val / 16 ∧ win0_0.index t 1 = 0 ∧ win0_1.index t 0 = t.val / 16 ∧ win0_1.index t 1 = 0
    ∧ win0_2.index t 0 = t.val / 16 ∧ win0_2.index t 1 = 0
    ∧ win0_3.index t 0 = 0 ∧ win0_3.index t 1 = 0 ∧ win0_3.index t 2 = 0
    ∧ win0_4.index t 0 = t.val % 16 ∧ win0_4.index t 1 = 0 ∧ win0_4.index t 2 = 0
    ∧ win0_5.index t 0 = t.val % 16 ∧ win0_5.index t 1 = 0 ∧ win0_5.index t 2 = 0
    ∧ win0_6.index t 0 = t.val % 16 ∧ win0_6.index t 1 = 0 ∧ win0_6.index t 2 = 0
    ∧ (grid0.coords t 1).val = t.val % 16 := by
  decide +kernel

/-- There are 128 grid points. -/
theorem point_lt (t : Fin cfg0.N) : t.val < 128 := t.isLt

/-- Token `r` of a grid point's tile, among all tokens. -/
def row (t : Fin cfg0.N) (r : Fin 1024) : Fin 8192 := ⟨t.val / 16 * 1024 + r.val, by have := point_lt t; omega⟩

/-- The expert of a grid point. -/
def expert (t : Fin cfg0.N) : Fin 16 := ⟨t.val % 16, by omega⟩

/-- The residual stream's block holds the tile's rows. -/
theorem readX (c : Dev nD) (t : Fin cfg0.N) (r n : Fin 1024) :
    iblk m c 0 t (ix2 r n) = m ((c : Thread nD τ).loc main_arg0) (ix2 (row t r) n) := by
  blk_ext [iblk, V, idx t, row]

/-- The normalised tokens' block holds the tile's rows. -/
theorem readH (c : Dev nD) (t : Fin cfg0.N) (r n : Fin 1024) :
    iblk m c 1 t (ix2 r n) = m ((c : Thread nD τ).loc main_arg1) (ix2 (row t r) n) := by
  blk_ext [iblk, V, idx t, row]

/-- The combine weights' block holds the tile's rows. -/
theorem readComb (c : Dev nD) (t : Fin cfg0.N) (r : Fin 1024) (l : Fin 128) :
    iblk m c 2 t (ix2 r l) = m ((c : Thread nD τ).loc main_arg2) (ix2 (row t r) l) := by
  blk_ext [iblk, V, idx t, row]

/-- The modulation's block is its first row. -/
theorem readMod (c : Dev nD) (t : Fin cfg0.N) (k : Fin 6) (n : Fin 1024) :
    iblk m c 3 t (ix3 0 k n) = m ((c : Thread nD τ).loc main_arg3) (ix3 0 k n) := by
  blk_ext [iblk, V, idx t]

/-- The first weights' block is the expert's. -/
theorem readGate (c : Dev nD) (t : Fin cfg0.N) (k : Fin 1024) (f : Fin 512) :
    iblk m c 4 t (ix3 0 k f) = V m c main_v0 (ix3 (expert t) k f) := by
  blk_ext [iblk, idx t, expert]

/-- The second weights' block is the expert's. -/
theorem readUp (c : Dev nD) (t : Fin cfg0.N) (k : Fin 1024) (f : Fin 512) :
    iblk m c 5 t (ix3 0 k f) = V m c main_v1 (ix3 (expert t) k f) := by
  blk_ext [iblk, idx t, expert]

/-- The third weights' block is the expert's. -/
theorem readDown (c : Dev nD) (t : Fin cfg0.N) (f : Fin 512) (n : Fin 1024) :
    iblk m c 6 t (ix3 0 f n) = V m c main_v2 (ix3 (expert t) f n) := by
  blk_ext [iblk, idx t, expert]

/-- The launched first weights are the argument's. -/
theorem hostGate (c : Dev nD) (e : Fin 16) (k : Fin 1024) (f : Fin 512) :
    (V m c main_v0 (ix3 e k f) : EReal) = m ((c : Thread nD τ).loc main_arg4) (ix3 e k f) := by
  simp only [V, hostOps0, List.flatten_cons, List.flatten_nil, List.append_nil, List.cons_append, List.nil_append]
  entry_read
  pointwise

/-- The launched second weights are the argument's. -/
theorem hostUp (c : Dev nD) (e : Fin 16) (k : Fin 1024) (f : Fin 512) :
    (V m c main_v1 (ix3 e k f) : EReal) = m ((c : Thread nD τ).loc main_arg5) (ix3 e k f) := by
  simp only [V, hostOps0, List.flatten_cons, List.flatten_nil, List.append_nil, List.cons_append, List.nil_append]
  entry_read
  pointwise

/-- The launched third weights are the argument's. -/
theorem hostDown (c : Dev nD) (e : Fin 16) (f : Fin 512) (n : Fin 1024) :
    (V m c main_v2 (ix3 e f n) : EReal) = m ((c : Thread nD τ).loc main_arg6) (ix3 e f n) := by
  simp only [V, hostOps0, List.flatten_cons, List.flatten_nil, List.append_nil, List.cons_append, List.nil_append]
  entry_read
  pointwise

end Cert.Kernel2Ideal.Moe

end
-- ==== Proof.MoeBlock.lean ====
module

public import proofs.«01_k».proof.Proof.MoeReads
public import Idealize.ShloMosaic.Lib.WordCmp
public import Idealize.ShloMosaic.Lib.Pipeline.ReadBack

/-! One point's step of the mixture of experts, and what a tile's points add up to. -/

@[expose] public section

set_option maxRecDepth 16384

noncomputable section

namespace Cert.Kernel2Ideal.Moe

open Cert.Kernel2Ideal Cert.Kernel2Ideal.Gen Idealize.ShloMosaic Idealize.ShloMosaic.TcCoe Idealize.SL.Sem

variable (m : (ℓ : Loc nD τ sig) → Buf (Elt Ideal) ℓ)

/-- A choice on the equality of two small words is the choice on the equality of their numbers. -/
theorem select_ofNat (a b : ℕ) (ha : a < 2 ^ 32) (hb : b < 2 ^ 32) (x y : EReal) :
    Scalar.select (IntOp.cmpi .eq (BitVec.ofNat 32 a) (BitVec.ofNat 32 b)) x y = if a = b then x else y := by
  rw [WordCmp.cmpi_eq_ofNat ha hb]
  by_cases h : a = b <;> simp [Scalar.select, h]

/-- A hidden entry of the point's expert: the token's weight is the one that stands on the expert's lane. -/
theorem hiddenAt (t : Fin cfg0.N) (h : FVec Ideal S1024x1024 .bf16) (g u : FVec Ideal S1x1024x512 .bf16) (w : FVec Ideal S1024x128 .f32) (r : Fin 1024) (f : Fin 512) :
    k0_pay4 (F := Ideal) (grid0.coords t) h g u w (ix2 r f)
      = Cert.Moe.hidden (fun k => h (ix2 r k)) (fun k => g (ix3 0 k f)) (fun k => u (ix3 0 k f)) (w (ix2 r (⟨t.val % 16, by omega⟩ : Fin 128))) := by
  have hc : (grid0.coords t 1).val = t.val % 16 := by simp only [idx t]
  have hs : ∀ l : Fin 128, Scalar.select (IntOp.cmpi .eq (BitVec.ofNat 32 l.val) (BitVec.ofNat 32 (t.val % 16))) (w (ix2 r l)) (0 : EReal)
      = if l = (⟨t.val % 16, by omega⟩ : Fin 128) then w (ix2 r l) else 0 := fun l => by
    rw [select_ofNat _ _ (by omega) (by omega)]
    simp only [Fin.ext_iff]
  pointwise [k0_pay4]
  rw [hc, zero_sub]
  simp only [hs, Finset.sum_ite_eq', Finset.mem_univ, if_true]
  rfl

/-- The step adds the hidden entries' product with a column of the third weights. -/
theorem addAt (a : FVec Ideal S1024x1024 .f32) (h : FVec Ideal S1024x512 .bf16) (d : FVec Ideal S1x512x1024 .bf16) (r n : Fin 1024) :
    k0_pay1 (F := Ideal) a h (k0_pay5 d) (ix2 r n) = a (ix2 r n) + ∑ f : Fin 512, h (ix2 r f) * d (ix3 0 f n) := by
  pointwise [k0_pay1, k0_pay5]

/-- A tile starts from zero. -/
theorem zeroAt (r n : Fin 1024) : k0_pay3 (F := Ideal) (ix2 r n) = 0 := by
  pointwise [k0_pay3]

/-- The result is the residual stream plus the gated sum. -/
theorem resultAt (x a : FVec Ideal S1024x1024 .f32) (g : FVec Ideal S1x1x1024 .f32) (r n : Fin 1024) :
    k0_pay2 (F := Ideal) x g a (ix2 r n) = x (ix2 r n) + g (ix3 0 0 n) * a (ix2 r n) := by
  pointwise [k0_pay2]

/-- The gate that the last point loads is the sixth row of the modulation. -/
theorem gateRow (g : FVec Ideal S1x6x1024 .f32) (inb) (n : Fin 1024) :
    View.ld (Val := Elt Ideal) (e' := .f32) g (Rect.unit (s := S1x6x1024) ![0, 5, 0] ![1, 1, 1024] inb) (ix3 0 0 n) = g (ix3 0 5 n) := by
  rw [View.ld_apply]
  refine congrArg g ?_
  funext a
  apply Fin.ext
  fin_cases a <;> simp [Rect.unit]

/-- The share of the expert numbered `e` in an entry of token `r`'s mixture, from the call's arguments (nothing past the
last expert). -/
def shareOf (c : Dev nD) (r : Fin 8192) (n : Fin 1024) (e : ℕ) : EReal :=
  if he : e < 16 then
    Cert.Moe.share (fun k => m ((c : Thread nD τ).loc main_arg1) (ix2 r k)) (fun k f => m ((c : Thread nD τ).loc main_arg4) (ix3 (⟨e, he⟩ : Fin 16) k f))
      (fun k f => m ((c : Thread nD τ).loc main_arg5) (ix3 (⟨e, he⟩ : Fin 16) k f)) (fun f => m ((c : Thread nD τ).loc main_arg6) (ix3 (⟨e, he⟩ : Fin 16) f n))
      (m ((c : Thread nD τ).loc main_arg2) (ix2 r (⟨e, by omega⟩ : Fin 128)))
  else 0

/-- A point adds its expert's share. -/
theorem stepAt (c : Dev nD) (t : Fin cfg0.N) (a : FVec Ideal S1024x1024 .f32) (r n : Fin 1024) :
    k0_pay1 (F := Ideal) a (k0_pay4 (grid0.coords t) (iblk m c 1 t) (iblk m c 4 t) (iblk m c 5 t) (iblk m c 2 t)) (k0_pay5 (iblk m c 6 t)) (ix2 r n)
      = a (ix2 r n) + shareOf m c (row t r) n (t.val % 16) := by
  rw [addAt, shareOf, dif_pos (by omega)]
  simp only [hiddenAt, readH, readComb, Cert.Moe.share]
  refine congrArg (_ + ·) (Finset.sum_congr rfl fun f _ => ?_)
  exact congrArg₂ (· * ·)
    (congrArg₂ (fun g u => Cert.Moe.hidden _ g u _) (funext fun k => (readGate m c t k f).trans (hostGate m c _ k f)) (funext fun k => (readUp m c t k f).trans (hostUp m c _ k f)))
    ((readDown m c t f n).trans (hostDown m c _ f n))

/-- What a point before its tile's last, or the first, leaves in the accumulator. -/
theorem firstStep (c : Dev nD) (t : Fin cfg0.N) (h0 : t.val % 16 = 0) (r n : Fin 1024) :
    (outsAt0 m c t.val t.isLt).2 (ix2 r n) = shareOf m c (row t r) n (t.val % 16) := by
  rw [outsAt0_A m c t h0 (by omega)]
  frame_out
  rw [stepAt, zeroAt, zero_add]

/-- A later point adds its expert's share to what the point before left. -/
theorem nextStep (c : Dev nD) (t : Fin cfg0.N) (h0 : ¬ t.val % 16 = 0) (r n : Fin 1024) :
    (outsAt0 m c t.val t.isLt).2 (ix2 r n)
      = (outsAt0 m c (t.val - 1) (Nat.lt_of_le_of_lt (Nat.sub_le _ _) t.isLt)).2 (ix2 r n) + shareOf m c (row t r) n (t.val % 16) := by
  by_cases h1 : t.val % 16 = 15
  on_goal 1 => rw [outsAt0_C m c t h0 h1]
  on_goal 2 => rw [outsAt0_B m c t h0 h1]
  all_goals
    frame_out
    rw [stepAt]
    simp only [read_unread_whole]

/-- After a point, the accumulator holds the shares of its tile's experts so far. -/
theorem sumAtPoint (c : Dev nD) (r n : Fin 1024) : ∀ (k : ℕ) (hk : k < cfg0.N),
    (outsAt0 m c k hk).2 (ix2 r n) = ∑ e ∈ Finset.range (k % 16 + 1), shareOf m c (row ⟨k, hk⟩ r) n e
  | 0, hk => by
    rw [firstStep m c ⟨0, hk⟩ rfl r n]
    simp
  | k + 1, hk => by
    by_cases h0 : (k + 1) % 16 = 0
    · rw [firstStep m c ⟨k + 1, hk⟩ h0 r n]
      simp [h0]
    · rw [nextStep m c ⟨k + 1, hk⟩ h0 r n, Finset.sum_range_succ]
      have e : (k + 1) % 16 = k % 16 + 1 := by omega
      have hr : row ⟨k + 1, hk⟩ r = row ⟨k, Nat.lt_of_succ_lt hk⟩ r := Fin.ext (by simp only [row]; omega)
      refine congrArg (· + _) ?_
      refine (sumAtPoint c r n k (Nat.lt_of_succ_lt hk)).trans ?_
      rw [hr, e]

/-- What the last point of a tile writes: the residual stream plus the gated mixture. -/
theorem lastPoint (c : Dev nD) (t : Fin cfg0.N) (h1 : t.val % 16 = 15) (r n : Fin 1024) :
    (outsAt0 m c t.val t.isLt).1 (ix2 r n)
      = Cert.Moe.gated (m ((c : Thread nD τ).loc main_arg0) (ix2 (row t r) n)) (m ((c : Thread nD τ).loc main_arg3) (ix3 0 5 n)) ((outsAt0 m c t.val t.isLt).2 (ix2 r n)) := by
  rw [outsAt0_C m c t (by omega) h1]
  frame_out
  rw [resultAt, gateRow, readX, readMod, Cert.Moe.gated]

end Cert.Kernel2Ideal.Moe

end
-- ==== Proof.MoeRef.lean ====
module

public import proofs.«01_k».proof.Proof.Rows
public import proofs.«01_k».proof.Proof.Gen.Reference2Ideal
public import Idealize.ShloMosaic.Lib.Pointwise
public import Idealize.ShloMosaic.Lib.Claim

/-! The reference mixture of experts, read at coordinates. -/

@[expose] public section

set_option maxRecDepth 16384

noncomputable section

namespace Cert.Reference2Ideal.Moe

open Cert.Reference2Ideal Cert.Reference2Ideal.Gen Idealize.ShloMosaic Idealize.ShloMosaic.TcCoe

/-- The tokens' products with every expert's weights. -/
def dots (h : FVec Ideal S8192x1024 .bf16) (w : FVec Ideal S16x1024x512 .f32) : FVec Ideal S8192x16x512 .f32 :=
  Host.dotGeneral dot_S8192x1024_S16x1024x512_S8192x16x512_1_1_0_02_n_n none (extf .f32 h bitsLt_bf16_f32) w

/-- A product's entry. -/
theorem dotsAt (h : FVec Ideal S8192x1024 .bf16) (w : FVec Ideal S16x1024x512 .f32) (r : Fin 8192) (e : Fin 16) (f : Fin 512) :
    dots h w (ix3 r e f) = ∑ k : Fin 1024, h (ix2 r k) * w (ix3 e k f) := by
  pointwise [dots]

/-- The gated hidden entries, weighted, from the two products. -/
def acts (a u : FVec Ideal S8192x16x512 .f32) (comb : FVec Ideal S8192x128 .f32) : FVec Ideal S8192x16x512 .f32 :=
  mulf (mulf (mulf a (Host.divf (broadcastInDim S8192x16x512 ![] bcast_S_S8192x16x512 (constant S_ .f32 0x3F800000#32)) (addf (broadcastInDim S8192x16x512 ![] bcast_S_S8192x16x512 (constant S_ .f32 0x3F800000#32)) (Host.exp (Host.negf a))))) u) (broadcastInDim S8192x16x512 ![0, 1, 2] bcast_S8192x16x1_S8192x16x512_0_1_2 (broadcastInDim S8192x16x1 ![0, 1] bcast_S8192x16_S8192x16x1_0_1 (extractStridedSlice S8192x16 ![0, 0] comb slices_S8192x128_S8192x16_0_0)))

/-- A hidden entry. -/
theorem actsAt (a u : FVec Ideal S8192x16x512 .f32) (comb : FVec Ideal S8192x128 .f32) (r : Fin 8192) (e : Fin 16) (f : Fin 512) :
    acts a u comb (ix3 r e f) = a (ix3 r e f) * Cert.Ctx.gate (a (ix3 r e f)) * u (ix3 r e f) * comb (ix2 r (⟨e.val, by omega⟩ : Fin 128)) := by
  pointwise [acts, Cert.Ctx.gate]

/-- The result, from the residual stream, the modulation, the hidden entries and the third weights. -/
def result (x : FVec Ideal S8192x1024 .f32) (md : FVec Ideal S8x6x1024 .f32) (h : FVec Ideal S8192x16x512 .f32) (d : FVec Ideal S16x512x1024 .f32) : FVec Ideal S8192x1024 .f32 :=
  addf x (mulf (broadcastInDim S8192x1024 ![0, 1] bcast_S1x1024_S8192x1024_0_1 (broadcastInDim S1x1024 ![1] bcast_S1024_S1x1024_1 (shapeCast _ (extractStridedSlice S1x1x1024 ![0, 5, 0] md slices_S8x6x1024_S1x1x1024_0_5_0) shapeCasts_S1x1x1024_S1024))) (Host.dotGeneral dot_S8192x16x512_S16x512x1024_S8192x1024_12_01_0_2_n_n none h d))

/-- The result's entry: the residual stream plus the gated sum over experts and hidden entries. -/
theorem resultAt (x : FVec Ideal S8192x1024 .f32) (md : FVec Ideal S8x6x1024 .f32) (h : FVec Ideal S8192x16x512 .f32) (d : FVec Ideal S16x512x1024 .f32) (r : Fin 8192) (n : Fin 1024) :
    result x md h d (ix2 r n) = x (ix2 r n) + md (ix3 0 5 n) * ∑ e : Fin 16, ∑ f : Fin 512, h (ix3 r e f) * d (ix3 e f n) := by
  pointwise [result]

end Cert.Reference2Ideal.Moe

end
-- ==== Proof.MoeCompare.lean ====
module

public import proofs.«01_k».proof.Proof.MoeBlock
public import proofs.«01_k».proof.Proof.MoeRef
public import proofs.«01_k».proof.Proof.Gen.Kernel2Ideal.Value

/-! The mixture of experts' result array, read at coordinates, and the reference's beside it. -/

@[expose] public section

set_option maxRecDepth 16384

noncomputable section

namespace Cert.Kernel2Ideal.Moe

open Cert.Kernel2Ideal Cert.Kernel2Ideal.Gen Idealize.ShloMosaic Idealize.ShloMosaic.TcCoe Idealize.SL.Sem

variable (m : (ℓ : Loc nD τ sig) → Buf (Elt Ideal) ℓ)

/-- The point that writes token `i`. -/
def pt (i : Fin 8192) : Fin cfg0.N := ⟨16 * (i.val / 1024) + 15, by rw [show cfg0.N = 128 from N_0]; omega⟩

/-- Its row. -/
theorem row_pt (i : Fin 8192) : row (pt i) ⟨i.val % 1024, by omega⟩ = i := Fin.ext (by simp only [row, pt]; omega)

/-- The array at an index is its point's output block. -/
theorem arrayAt (c : Dev nD) (i : Fin 8192) (n : Fin 1024) :
    Value.G7 m c (ix2 i n) = (outsAt0 m c (pt i).val (pt i).isLt).1 (ix2 (⟨i.val % 1024, by omega⟩ : Fin 1024) n) := by
  have hp : Value.pt7Of (ix2 i n) = (pt i).val := by
    show _ = 16 * (i.val / 1024) + 15
    simp [Value.pt7Of, Value.run7Of]
  have hl : Value.loc7Of (ix2 i n) = ix2 (⟨i.val % 1024, by omega⟩ : Fin 1024) n := by
    funext a
    apply Fin.ext
    match a with
    | ⟨0, _⟩ => rfl
    | ⟨1, _⟩ => exact Nat.mod_eq_of_lt n.isLt
  unfold Value.G7
  rw [dif_pos (by rw [hp]; exact (pt i).isLt), hl, Value.fold0_congr m c _ _ _ (by simp [(pt i).isLt]) hp, Value.outsAt0_sweep]

/-- The result at an index: the residual stream plus the gated sum of the sixteen experts' shares. -/
theorem resultArray (c : Dev nD) (i : Fin 8192) (n : Fin 1024) :
    Value.G7 m c (ix2 i n)
      = Cert.Moe.gated (m ((c : Thread nD τ).loc main_arg0) (ix2 i n)) (m ((c : Thread nD τ).loc main_arg3) (ix3 0 5 n)) (∑ e : Fin 16, shareOf m c i n e.val) := by
  have h15 : (pt i).val % 16 = 15 := by simp only [pt]; omega
  rw [arrayAt, lastPoint m c (pt i) h15, sumAtPoint, h15, row_pt, Finset.sum_range]

/-- The reference's result, of the same arguments, is the array. -/
theorem result_eq (c : Dev nD) :
    Cert.Reference2Ideal.Moe.result (m ((c : Thread nD τ).loc main_arg0)) (m ((c : Thread nD τ).loc main_arg3))
        (Cert.Reference2Ideal.Moe.acts (Cert.Reference2Ideal.Moe.dots (m ((c : Thread nD τ).loc main_arg1)) (m ((c : Thread nD τ).loc main_arg4)))
          (Cert.Reference2Ideal.Moe.dots (m ((c : Thread nD τ).loc main_arg1)) (m ((c : Thread nD τ).loc main_arg5))) (m ((c : Thread nD τ).loc main_arg2)))
        (m ((c : Thread nD τ).loc main_arg6))
      = Value.G7 m c := by
  funext y
  obtain ⟨i, n, rfl⟩ : ∃ (i : Fin 8192) (n : Fin 1024), y = ix2 i n := ⟨y 0, y 1, by funext k; fin_cases k <;> rfl⟩
  rw [resultArray, Cert.Reference2Ideal.Moe.resultAt]
  refine congrArg (Cert.Moe.gated _ _) (Finset.sum_congr rfl fun e _ => ?_)
  rw [shareOf, dif_pos e.isLt, Cert.Moe.share]
  refine Finset.sum_congr rfl fun f _ => ?_
  rw [Cert.Reference2Ideal.Moe.actsAt, Cert.Reference2Ideal.Moe.dotsAt, Cert.Reference2Ideal.Moe.dotsAt]
  rfl

end Cert.Kernel2Ideal.Moe

end
-- ==== Proof.CtxReads.lean ====
module

public import proofs.«01_k».proof.Proof.Gen.Kernel3Ideal.Frame
public import proofs.«01_k».proof.Proof.Rows
public import Idealize.ShloMosaic.Lib.Pipeline.ValueKit
public import Idealize.ShloMosaic.Lib.Pointwise
public import Idealize.ShloMosaic.Lib.Claim

/-! Where the blocks that a grid point of the input projection loads lie in the call's arrays, and what the operations
before the launch leave in the weights. Point `t` works on the 256 tokens of tile `t`. -/

@[expose] public section

set_option maxRecDepth 16384

noncomputable section

namespace Cert.Kernel3Ideal.Ctx

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The block index of every input window at every point. -/
theorem idx : ∀ t : Fin grid0.N,
    win0_0.index t 0 = t.val ∧ win0_0.index t 1 = 0
    ∧ win0_1.index t 0 = 0 ∧ win0_1.index t 1 = 0 ∧ win0_1.index t 2 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0
    ∧ win0_6.index t 0 = 0 ∧ win0_6.index t 1 = 0 ∧ win0_7.index t 0 = 0 ∧ win0_7.index t 1 = 0
    ∧ win0_8.index t 0 = 0 ∧ win0_8.index t 1 = 0 ∧ win0_9.index t 0 = 0 ∧ win0_9.index t 1 = 0
    ∧ win0_10.index t 0 = 0 ∧ win0_10.index t 1 = 0 ∧ win0_11.index t 0 = 0 ∧ win0_11.index t 1 = 0 := by
  decide +kernel

/-- There are 32 grid points. -/
theorem point_lt (t : Fin cfg0.N) : t.val < 32 := t.isLt

/-- Token `r` of a grid point's tile, among all tokens. -/
def row (t : Fin cfg0.N) (r : Fin 256) : Fin 8192 := ⟨t.val * 256 + r.val, by have := point_lt t; omega⟩

/-- The input's block holds the tile's rows. -/
theorem readX (c : Dev nD) (t : Fin cfg0.N) (r : Fin 256) (n : Fin 1024) :
    iblk m c 0 t (ix2 r n) = m ((c : Thread nD τ).loc main_arg0) (ix2 (row t r) n) := by
  blk_ext [iblk, V, idx t, row]

/-- The modulation's block is its first row. -/
theorem readMod (c : Dev nD) (t : Fin cfg0.N) (k : Fin 6) (n : Fin 1024) :
    iblk m c 1 t (ix3 0 k n) = m ((c : Thread nD τ).loc main_arg1) (ix3 0 k n) := by
  blk_ext [iblk, V, idx t]

/-- The first norm's scale. -/
theorem readG1 (c : Dev nD) (t : Fin cfg0.N) (n : Fin 1024) : iblk m c 2 t (ix2 0 n) = V m c main_v14 (ix2 0 n) := by
  blk_ext [iblk, idx t]

/-- The projection's weights. -/
theorem readWin (c : Dev nD) (t : Fin cfg0.N) (k : Fin 1024) (n : Fin 3456) : iblk m c 3 t (ix2 k n) = V m c main_v15 (ix2 k n) := by
  blk_ext [iblk, idx t]

/-- The latent norm's scale. -/
theorem readKvg (c : Dev nD) (t : Fin cfg0.N) (n : Fin 256) : iblk m c 6 t (ix2 0 n) = V m c main_v18 (ix2 0 n) := by
  blk_ext [iblk, idx t]

/-- The word zero converts to zero. -/
theorem intZero : (FloatOps.sitofp FTy.f32 0#32 : Ideal .f32) = (0 : EReal) := by
  simp [FloatOps.sitofp]

/-- The first norm's scale is the argument. -/
theorem hostG1 (c : Dev nD) (n : Fin 1024) : (V m c main_v14 (ix2 0 n) : EReal) = m ((c : Thread nD τ).loc main_arg3) (ix1 n) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  pointwise

/-- The latent norm's scale is the argument. -/
theorem hostKvg (c : Dev nD) (n : Fin 256) : (V m c main_v18 (ix2 0 n) : EReal) = m ((c : Thread nD τ).loc main_arg6) (ix1 n) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  pointwise

end Cert.Kernel3Ideal.Ctx

end
-- ==== Proof.CtxBlock.lean ====
module

public import proofs.«01_k».proof.Proof.CtxReads

/-! One grid point of the input projection as arithmetic: the modulated rows, the two gates, the latent row and its
position key. -/

@[expose] public section

set_option maxRecDepth 16384

noncomputable section

namespace Cert.Kernel3Ideal.Ctx

open Cert.Kernel3Ideal Cert.Kernel3Ideal.Gen Idealize.ShloMosaic Idealize.ShloMosaic.TcCoe Idealize.SL.Sem

/-- A row of the block, normalised, scaled and modulated. -/
theorem rowAt (x : Vec Ideal S256x1024 .f32) (sh sc : Vec Ideal S1x1x1024 .f32) (g : Vec Ideal S1x1024 .f32)
    (r : Fin 256) (k : Fin 1024) :
    (k0_pay2 x sh sc g (ix2 r k) : EReal)
      = Cert.Ctx.modulated (fun k => x (ix2 r k)) (fun k => g (ix2 0 k)) (fun k => sc (ix3 0 0 k)) (fun k => sh (ix3 0 0 k)) k := by
  unfold Cert.Ctx.modulated Cert.Ctx.normed
  pointwise [k0_pay2]
  rw [Cert.Ctx.mul_1024]

/-- An entry of the attention gate. -/
theorem gateAt (h : FVec Ideal S256x1024 .bf16) (w : FVec Ideal S1024x1024 .bf16) (r : Fin 256) (n : Fin 1024) :
    (k0_pay51 h w (ix2 r n) : EReal) = Cert.Ctx.gate (Cert.Ctx.proj (fun k => h (ix2 r k)) (fun k => w (ix2 k n))) := by
  unfold Cert.Ctx.gate Cert.Ctx.proj
  pointwise [k0_pay51]
  rw [zero_sub]

/-- The Fourier gate is the same arithmetic. -/
theorem gate_eq (h : FVec Ideal S256x1024 .bf16) (w : FVec Ideal S1024x1024 .bf16) : k0_pay1 h w = k0_pay51 h w := by
  rfl

/-- An entry of the latent row. -/
theorem latentAt (h : FVec Ideal S256x1024 .bf16) (w : FVec Ideal S1024x256 .bf16) (g : FVec Ideal S1x256 .f32) (r : Fin 256) (j : Fin 256) :
    (k0_pay17 h w g (ix2 r j) : EReal)
      = Cert.Ctx.latent (fun j => Cert.Ctx.proj (fun k => h (ix2 r k)) (fun k => w (ix2 k j))) (fun j => g (ix2 0 j)) j := by
  unfold Cert.Ctx.latent Cert.Ctx.normed Cert.Ctx.proj
  pointwise [k0_pay17]
  rw [Cert.Ctx.mul_256]

/-- An entry of the position key: lanes 64 to 95 of its projection. -/
theorem peAt (h : FVec Ideal S256x1024 .bf16) (w : FVec Ideal S1024x128 .bf16) (r : Fin 256) (j : Fin 32) :
    (k0_pay19 h w (ix2 r j) : EReal) = Cert.Ctx.proj (fun k => h (ix2 r k)) (fun k => w (ix2 k ⟨64 + j.val, by omega⟩)) := by
  unfold Cert.Ctx.proj
  pointwise [k0_pay19, k0_pay18]

end Cert.Kernel3Ideal.Ctx

end
-- ==== Proof.CtxHost.lean ====
module

public import proofs.«01_k».proof.Proof.CtxReads
public import proofs.«01_k».proof.Proof.Rows
public import Idealize.ShloMosaic.Lib.Pipeline.ValueKit
public import Idealize.ShloMosaic.Lib.Pointwise
public import Idealize.ShloMosaic.Lib.Claim

/-! What the operations before the launch leave in the packed weights of the input projection. -/

@[expose] public section

set_option maxRecDepth 16384

noncomputable section

namespace Cert.Kernel3Ideal.Ctx

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- Three pieces side by side. -/
def packed (x : FVec Ideal S1024x768 .f32) (y : FVec Ideal S1024x128 .f32) (z : FVec Ideal S1024x2560 .f32) : FVec Ideal S1024x3456 .f32 :=
  concatenate S1024x3456 1 [⟨S1024x768, x⟩, ⟨S1024x128, y⟩, ⟨S1024x2560, z⟩] concatenates_S1024x768_S1024x128_S1024x2560_S1024x3456_d1

/-- The first piece. -/
theorem packed_low (x : FVec Ideal S1024x768 .f32) (y : FVec Ideal S1024x128 .f32) (z : FVec Ideal S1024x2560 .f32) (k : Fin 1024) (n : Fin 768) :
    packed x y z (ix2 k (⟨n.val, by omega⟩ : Fin 3456)) = x (ix2 k n) := by
  pointwise [packed]

/-- The second piece. -/
theorem packed_mid (x : FVec Ideal S1024x768 .f32) (y : FVec Ideal S1024x128 .f32) (z : FVec Ideal S1024x2560 .f32) (k : Fin 1024) (n : Fin 128) :
    packed x y z (ix2 k (⟨768 + n.val, by omega⟩ : Fin 3456)) = y (ix2 k n) := by
  pointwise [packed]

/-- The third piece. -/
theorem packed_high (x : FVec Ideal S1024x768 .f32) (y : FVec Ideal S1024x128 .f32) (z : FVec Ideal S1024x2560 .f32) (k : Fin 1024) (n : Fin 2560) :
    packed x y z (ix2 k (⟨896 + n.val, by omega⟩ : Fin 3456)) = z (ix2 k n) := by
  pointwise [packed]
  rw [dif_neg (by omega), dif_neg (by omega)]
  exact congrArg (fun j : Fin 2560 => z (ix2 k j)) (Fin.ext (by simp only []; omega))

/-- The concatenation packs the argument's first columns, the padded position columns, and the argument's later columns. -/
theorem concat_eq (σ : Valuation τ sig (Elt Ideal)) :
    StableHlo.after hostOps0_2 σ (Proc.devRef .tc main_v4)
      = packed (extractStridedSlice S1024x768 ![0, 0] (σ (Proc.devRef .tc main_arg2)) slices_S1024x3360_S1024x768_0_0) (σ (Proc.devRef .tc main_v1))
          (extractStridedSlice S1024x2560 ![0, 800] (σ (Proc.devRef .tc main_arg2)) slices_S1024x3360_S1024x2560_0_800) := by
  simp only [hostOps0_2, StableHlo.after_cons, StableHlo.after_nil]
  rw [StableHlo.nullary_result_ne, StableHlo.reshape_result_ne, StableHlo.nary_result]
  rotate_left
  · decide
  · decide
  rfl

/-- The padded position columns: lanes 64 to 95 are the argument's columns 768 to 799. -/
theorem padPe (c : Dev nD) (k : Fin 1024) (n : Fin 32) :
    StableHlo.after (hostOps0 ++ hostOps0_1) (fun b => m (c, b)) (Proc.devRef .tc main_v1) (ix2 k (⟨64 + n.val, by omega⟩ : Fin 128))
      = m ((c : Thread nD τ).loc main_arg2) (ix2 k (⟨768 + n.val, by omega⟩ : Fin 3360)) := by
  simp only [hostOps0, hostOps0_1, List.cons_append, List.nil_append]
  entry_read
  simp -implicitDefEqProofs only [StableHlo.TRef.toBuf, StableHlo.TRef.ofBuf, cast_cast, cast_eq]
  pointwise

/-- Nothing before the concatenation writes the argument. -/
theorem argSame (c : Dev nD) :
    StableHlo.after (hostOps0 ++ hostOps0_1) (fun b => m (c, b)) (Proc.devRef .tc main_arg2) = m ((c : Thread nD τ).loc main_arg2) := by
  simp only [hostOps0, hostOps0_1, List.cons_append, List.nil_append]
  entry_read
  rfl

/-- The packed weights, after the concatenation. -/
theorem hostWin (c : Dev nD) (k : Fin 1024) (n : Fin 3456) :
    V m c main_v15 (ix2 k n)
      = StableHlo.after hostOps0_2 (StableHlo.after (hostOps0 ++ hostOps0_1) (fun b => m (c, b))) (Proc.devRef .tc main_v4) (ix2 k n) := by
  unfold V
  rw [show List.flatten [hostOps0, hostOps0_1, hostOps0_2, hostOps0_3, hostOps0_4, hostOps0_5, hostOps0_6, hostOps0_7, hostOps0_8, hostOps0_9, hostOps0_10]
      = (hostOps0 ++ hostOps0_1) ++ (hostOps0_2 ++ List.flatten [hostOps0_3, hostOps0_4, hostOps0_5, hostOps0_6, hostOps0_7, hostOps0_8, hostOps0_9, hostOps0_10]) from rfl,
    StableHlo.after_append, StableHlo.after_append]
  generalize StableHlo.after hostOps0_2 (StableHlo.after (hostOps0 ++ hostOps0_1) (fun b => m (c, b))) = σ
  simp only [hostOps0_3, hostOps0_4, hostOps0_5, hostOps0_6, hostOps0_7, hostOps0_8, hostOps0_9, hostOps0_10, List.flatten_cons, List.flatten_nil, List.append_nil, List.cons_append, List.nil_append]
  entry_read
  pointwise

/-- The first 768 columns of the packed weights are the argument's. -/
theorem hostLow (c : Dev nD) (k : Fin 1024) (n : Fin 768) :
    V m c main_v15 (ix2 k (⟨n.val, by omega⟩ : Fin 3456)) = m ((c : Thread nD τ).loc main_arg2) (ix2 k (⟨n.val, by omega⟩ : Fin 3360)) := by
  rw [hostWin, concat_eq, packed_low, argSame]
  pointwise

/-- Lanes 64 to 95 of the next 128 columns are the argument's columns 768 to 799. -/
theorem hostPe (c : Dev nD) (k : Fin 1024) (n : Fin 32) :
    V m c main_v15 (ix2 k (⟨768 + (64 + n.val), by omega⟩ : Fin 3456)) = m ((c : Thread nD τ).loc main_arg2) (ix2 k (⟨768 + n.val, by omega⟩ : Fin 3360)) :=
  (hostWin m c k _).trans (((congrFun (concat_eq _) _).trans (packed_mid _ _ _ k ⟨64 + n.val, by omega⟩)).trans (padPe m c k n))

/-- The columns from 896 on are the argument's from 800 on. -/
theorem hostHigh (c : Dev nD) (k : Fin 1024) (n : Fin 2560) :
    V m c main_v15 (ix2 k (⟨896 + n.val, by omega⟩ : Fin 3456)) = m ((c : Thread nD τ).loc main_arg2) (ix2 k (⟨800 + n.val, by omega⟩ : Fin 3360)) := by
  rw [hostWin, concat_eq, packed_high, argSame]
  pointwise

end Cert.Kernel3Ideal.Ctx

end
-- ==== Proof.CtxArrays.lean ====
module

public import proofs.«01_k».proof.Proof.CtxBlock
public import proofs.«01_k».proof.Proof.CtxHost
public import proofs.«01_k».proof.Proof.Gen.Kernel3Ideal.Value
public import proofs.«01_k».proof.Proof.Rows
public import Idealize.ShloMosaic.Lib.Pipeline.ValueKit
public import Idealize.ShloMosaic.Lib.Pointwise
public import Idealize.ShloMosaic.Lib.Claim

/-! The four arrays of the input projection that are compared, each read at coordinates from the call's arguments: the two
gates, the latent rows and the position keys. -/

@[expose] public section

set_option maxRecDepth 16384

noncomputable section

namespace Cert.Kernel3Ideal.Ctx

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The modulated row of token `i`. -/
def tokenRow (c : Dev nD) (i : Fin 8192) (k : Fin 1024) : EReal :=
  Cert.Ctx.modulated (fun k => m ((c : Thread nD τ).loc main_arg0) (ix2 i k)) (fun k => m ((c : Thread nD τ).loc main_arg3) (ix1 k))
    (fun k => m ((c : Thread nD τ).loc main_arg1) (ix3 0 1 k)) (fun k => m ((c : Thread nD τ).loc main_arg1) (ix3 0 0 k)) k

/-- Its product with a column of the weights. -/
def tokenProj (c : Dev nD) (i : Fin 8192) (n : Fin 3360) : EReal :=
  Cert.Ctx.proj (tokenRow m c i) fun k => m ((c : Thread nD τ).loc main_arg2) (ix2 k n)

/-- The gate at a token, with its weights' columns from `o` on. -/
def gateEntry (c : Dev nD) (o : ℕ) (ho : o + 1024 ≤ 3360) (i : Fin 8192) (n : Fin 1024) : EReal :=
  Cert.Ctx.gate (tokenProj m c i ⟨o + n.val, by omega⟩)

/-- The latent row of a token. -/
def latentEntry (c : Dev nD) (i : Fin 8192) (j : Fin 256) : EReal :=
  Cert.Ctx.latent (fun j => tokenProj m c i ⟨512 + j.val, by omega⟩) (fun j => m ((c : Thread nD τ).loc main_arg6) (ix1 j)) j

/-- The position key of a token. -/
def peEntry (c : Dev nD) (i : Fin 8192) (j : Fin 32) : EReal := tokenProj m c i ⟨768 + j.val, by omega⟩

/-- The block index of the four outputs. -/
theorem outIdx : ∀ t : Fin grid0.N,
    win0_16.index t 0 = t.val ∧ win0_16.index t 1 = 0 ∧ win0_17.index t 0 = t.val ∧ win0_17.index t 1 = 0
    ∧ win0_18.index t 0 = t.val ∧ win0_18.index t 1 = 0 ∧ win0_19.index t 0 = t.val ∧ win0_19.index t 1 = 0 := by
  decide +kernel

/-- A row of the modulation's block, loaded by itself. -/
theorem modRow (c : Dev nD) (t : Fin cfg0.N) (a : Fin 6) (inb) (k : Fin 1024) :
    View.ld (iblk m c 1 t) (Rect.unit (s := S1x6x1024) ![0, a.val, 0] ![1, 1, 1024] inb) (ix3 0 0 k) = iblk m c 1 t (ix3 0 a k) := by
  rw [View.ld_apply]
  refine congrArg (iblk m c 1 t) ?_
  funext b
  apply Fin.ext
  fin_cases b <;> simp [Rect.unit]

/-- Some columns of the weights' block, loaded by themselves. -/
theorem winCols (c : Dev nD) (t : Fin cfg0.N) (o w : ℕ) (ho : o + w ≤ 3456) (inb) (k : Fin 1024) (n : Fin w) :
    View.ld (iblk m c 3 t) (Rect.unit (s := S1024x3456) ![0, o] ![1024, w] inb) (ix2 k n) = iblk m c 3 t (ix2 k (⟨o + n.val, by omega⟩ : Fin 3456)) := by
  rw [View.ld_apply]
  refine congrArg (iblk m c 3 t) ?_
  funext b
  apply Fin.ext
  fin_cases b <;> simp [Rect.unit]

/-- The rows that a grid point computes are the tile's modulated rows. -/
theorem rowsAt (c : Dev nD) (t : Fin cfg0.N) (r : Fin 256) (k : Fin 1024) :
    (k0_pay52 (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (ix2 r k) : EReal)
      = tokenRow m c (row t r) k := by
  unfold k0_pay52 tokenRow
  rw [rowAt]
  have hx : (fun k => View.ld (iblk m c 0 t) r0_0 (ix2 r k)) = fun k => m ((c : Thread nD τ).loc main_arg0) (ix2 (row t r) k) :=
    funext fun k => (congrFun (View.ld_unit_zero (by funext a; fin_cases a <;> rfl) _ (iblk m c 0 t)) _).trans (readX m c t r k)
  have hg : (fun k => View.ld (iblk m c 2 t) r0_3 (ix2 0 k)) = fun k => m ((c : Thread nD τ).loc main_arg3) (ix1 k) :=
    funext fun k => (congrFun (View.ld_unit_zero (by funext a; fin_cases a <;> rfl) _ (iblk m c 2 t)) _).trans ((readG1 m c t k).trans (hostG1 m c k))
  have hsc : (fun k => View.ld (iblk m c 1 t) r0_2 (ix3 0 0 k)) = fun k => m ((c : Thread nD τ).loc main_arg1) (ix3 0 1 k) :=
    funext fun k => (modRow m c t 1 _ k).trans (readMod m c t 1 k)
  have hsh : (fun k => View.ld (iblk m c 1 t) r0_1 (ix3 0 0 k)) = fun k => m ((c : Thread nD τ).loc main_arg1) (ix3 0 0 k) :=
    funext fun k => (modRow m c t 0 _ k).trans (readMod m c t 0 k)
  rw [hx, hg, hsc, hsh]

/-- A column of the weights' block is the argument's column: unmoved below 768, moved by 64 up to 800, and by 96 beyond. -/
theorem winAt (c : Dev nD) (t : Fin cfg0.N) (k : Fin 1024) (a : Fin 3456) (b : Fin 3360)
    (h : (a.val = b.val ∧ b.val < 768) ∨ (a.val = b.val + 64 ∧ 768 ≤ b.val ∧ b.val < 800) ∨ (a.val = b.val + 96 ∧ 800 ≤ b.val)) :
    iblk m c 3 t (ix2 k a) = m ((c : Thread nD τ).loc main_arg2) (ix2 k b) := by
  refine (readWin m c t k a).trans ?_
  rcases h with ⟨h, hb⟩ | ⟨h, hb, hb'⟩ | ⟨h, hb⟩
  · rw [show a = (⟨b.val, by omega⟩ : Fin 3456) from Fin.ext h]
    exact hostLow m c k ⟨b.val, hb⟩
  · have e := hostPe m c k ⟨b.val - 768, by omega⟩
    rw [show a = (⟨768 + (64 + (b.val - 768)), by omega⟩ : Fin 3456) from Fin.ext (by simp only []; omega)]
    exact e.trans (congrArg (fun n : Fin 3360 => m ((c : Thread nD τ).loc main_arg2) (ix2 k n)) (Fin.ext (by simp only []; omega)))
  · have e := hostHigh m c k ⟨b.val - 800, by omega⟩
    rw [show a = (⟨896 + (b.val - 800), by omega⟩ : Fin 3456) from Fin.ext (by simp only []; omega)]
    exact e.trans (congrArg (fun n : Fin 3360 => m ((c : Thread nD τ).loc main_arg2) (ix2 k n)) (Fin.ext (by simp only []; omega)))

/-- A block row's product with a column that is one of the argument's. -/
theorem blockProj (c : Dev nD) (t : Fin cfg0.N) (r : Fin 256) (n : Fin 3360) (f : Fin 1024 → EReal)
    (hf : ∀ k, f k = m ((c : Thread nD τ).loc main_arg2) (ix2 k n)) :
    Cert.Ctx.proj (fun k => k0_pay52 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (ix2 r k)) f
      = tokenProj m c (row t r) n := by
  unfold tokenProj Cert.Ctx.proj
  exact Finset.sum_congr rfl fun k _ => congrArg₂ (· * ·) (rowsAt m c t r k) (hf k)

/-- The array of the attention gates. -/
theorem gateArray (c : Dev nD) :
    (dats m 0 c).arrAt 16 cfg0.N = fun y => gateEntry m c 1312 (by omega) (y 0) (y 1) := by
  refine (dats m 0 c).arrAt_eq_of_covers 16 _ (by decide +kernel) fun t hf y => ?_
  obtain ⟨r, n, rfl⟩ : ∃ (r : Fin 256) (n : Fin 1024), y = ix2 r n := ⟨y 0, y 1, by funext k; fin_cases k <;> rfl⟩
  rw [show ((cfg0.win 16).blk t).view.emb (ix2 r n) = ix2 (row t r) n by blk_ext [outIdx t, row]]
  blk_simp
  rw [after0_16]
  frame_out
  exact (gateAt _ _ r n).trans (congrArg Cert.Ctx.gate (blockProj m c t r (⟨1312 + n.val, by omega⟩ : Fin 3360) _ fun k =>
    (winCols m c t 1408 1024 (by omega) _ k n).trans (winAt m c t k _ _ (.inr (.inr ⟨by simp only []; omega, by simp only []; omega⟩)))))

/-- The array of the Fourier gates. -/
theorem fourierArray (c : Dev nD) :
    (dats m 0 c).arrAt 17 cfg0.N = fun y => gateEntry m c 2336 (by omega) (y 0) (y 1) := by
  refine (dats m 0 c).arrAt_eq_of_covers 17 _ (by decide +kernel) fun t hf y => ?_
  obtain ⟨r, n, rfl⟩ : ∃ (r : Fin 256) (n : Fin 1024), y = ix2 r n := ⟨y 0, y 1, by funext k; fin_cases k <;> rfl⟩
  rw [show ((cfg0.win 17).blk t).view.emb (ix2 r n) = ix2 (row t r) n by blk_ext [outIdx t, row]]
  blk_simp
  rw [after0_17]
  frame_out
  rw [gate_eq]
  exact (gateAt _ _ r n).trans (congrArg Cert.Ctx.gate (blockProj m c t r (⟨2336 + n.val, by omega⟩ : Fin 3360) _ fun k =>
    (winCols m c t 2432 1024 (by omega) _ k n).trans (winAt m c t k _ _ (.inr (.inr ⟨by simp only []; omega, by simp only []; omega⟩)))))

/-- The array of the latent rows. -/
theorem latentArray (c : Dev nD) :
    (dats m 0 c).arrAt 18 cfg0.N = fun y => latentEntry m c (y 0) (y 1) := by
  refine (dats m 0 c).arrAt_eq_of_covers 18 _ (by decide +kernel) fun t hf y => ?_
  obtain ⟨r, n, rfl⟩ : ∃ (r : Fin 256) (n : Fin 256), y = ix2 r n := ⟨y 0, y 1, by funext k; fin_cases k <;> rfl⟩
  rw [show ((cfg0.win 18).blk t).view.emb (ix2 r n) = ix2 (row t r) n by blk_ext [outIdx t, row]]
  blk_simp
  rw [after0_18]
  frame_out
  exact (latentAt _ _ _ r n).trans (congrArg₂ (fun z g => Cert.Ctx.latent z g n)
    (funext fun j => blockProj m c t r _ _ fun k => (winCols m c t 512 256 (by omega) _ k j).trans (winAt m c t k _ _ (.inl ⟨rfl, by simp only []; omega⟩)))
    (funext fun j => (readKvg m c t j).trans (hostKvg m c j)))

/-- The array of the position keys. -/
theorem peArray (c : Dev nD) :
    (dats m 0 c).arrAt 19 cfg0.N = fun y => peEntry m c (y 0) (y 1) := by
  refine (dats m 0 c).arrAt_eq_of_covers 19 _ (by decide +kernel) fun t hf y => ?_
  obtain ⟨r, n, rfl⟩ : ∃ (r : Fin 256) (n : Fin 32), y = ix2 r n := ⟨y 0, y 1, by funext k; fin_cases k <;> rfl⟩
  rw [show ((cfg0.win 19).blk t).view.emb (ix2 r n) = ix2 (row t r) n by blk_ext [outIdx t, row]]
  blk_simp
  rw [after0_19]
  frame_out
  exact (peAt _ _ r n).trans (blockProj m c t r (⟨768 + n.val, by omega⟩ : Fin 3360) _ fun k =>
    (winCols m c t 768 128 (by omega) _ k (⟨64 + n.val, by omega⟩ : Fin 128)).trans (winAt m c t k _ _ (.inr (.inl ⟨by simp only []; omega, by simp only []; omega, by simp only []; omega⟩))))

end Cert.Kernel3Ideal.Ctx

end
-- ==== Proof.CtxSpec.lean ====
module

public import proofs.«01_k».proof.Proof.CtxArrays

/-! Two more arrays of the input projection, each read at coordinates from the call's arguments: the heads' values, which are
expanded from the latent rows, and the channel half of the Fourier mixing, a product with a table for each group. -/

@[expose] public section

set_option maxRecDepth 16384

noncomputable section

namespace Cert.Kernel3Ideal.Ctx

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The block index of the two outputs. -/
theorem specIdx : ∀ t : Fin grid0.N,
    win0_14.index t 0 = t.val ∧ win0_14.index t 1 = 0 ∧ win0_15.index t 0 = t.val ∧ win0_15.index t 1 = 0 := by
  decide +kernel

/-- The weights that expand a latent row to the heads' values. -/
theorem readWv (c : Dev nD) (t : Fin cfg0.N) (j : Fin 256) (n : Fin 512) : iblk m c 8 t (ix2 j n) = V m c main_v20 (ix2 j n) := by
  blk_ext [iblk, idx t]

/-- The channel transform's table. -/
theorem readTable (c : Dev nD) (t : Fin cfg0.N) (k : Fin 128) (n : Fin 256) :
    iblk m c 11 t (ix2 k n) = m ((c : Thread nD τ).loc main_arg10) (ix2 k n) := by
  blk_ext [iblk, V, idx t]

/-- They are the later half of each head's columns of the argument. -/
theorem hostWv (c : Dev nD) (j : Fin 256) (n : Fin 512) :
    (V m c main_v20 (ix2 j n) : EReal)
      = m ((c : Thread nD τ).loc main_arg7) (ix2 j (⟨n.val / 64 * 128 + (64 + n.val % 64), by omega⟩ : Fin 1024)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  pointwise

/-- An entry of the heads' values. -/
theorem valueAt (h : FVec Ideal S256x1024 .bf16) (w : FVec Ideal S1024x256 .bf16) (g : FVec Ideal S1x256 .f32) (wv : FVec Ideal S256x512 .bf16)
    (r : Fin 256) (n : Fin 512) :
    (k0_pay22 h w g wv (ix2 r n) : EReal) = ∑ j : Fin 256, k0_pay17 h w g (ix2 r j) * wv (ix2 j n) := by
  pointwise [k0_pay22, k0_pay20]

/-- An entry of the Fourier columns' products. -/
theorem fourierAt (h : FVec Ideal S256x1024 .bf16) (w : FVec Ideal S1024x512 .bf16) (r : Fin 256) (j : Fin 512) :
    (k0_pay38 h w (ix2 r j) : EReal) = Cert.Ctx.proj (fun k => h (ix2 r k)) (fun k => w (ix2 k j)) := by
  unfold Cert.Ctx.proj
  pointwise [k0_pay38]

/-- A group's product with the table, cut out of both: the group's columns from `a` on, the table's from `b` on. -/
def groupProd (z : FVec Ideal S256x512 .bf16) (d : FVec Ideal S128x256 .bf16) (a b : ℕ) (ha : a + 128 ≤ 512) (hb : b + 128 ≤ 256)
    (r : Fin 256) (n : Fin 128) : EReal :=
  ∑ k : Fin 128, (z (ix2 r (⟨a + k.val, by omega⟩ : Fin 512)) : EReal) * d (ix2 k (⟨b + n.val, by omega⟩ : Fin 256))

section Groups
variable (h : FVec Ideal S256x1024 .bf16) (w : FVec Ideal S1024x512 .bf16) (z : FVec Ideal S256x512 .bf16) (d : FVec Ideal S128x256 .bf16)
  (r : Fin 256) (n : Fin 128)

/-- The first group against the table's first half. -/
theorem cos0 : (k0_pay40 h w d (ix2 r n) : EReal) = groupProd (k0_pay38 h w) d 0 0 (by omega) (by omega) r n := by
  unfold groupProd
  generalize hz : k0_pay38 h w = z
  pointwise [k0_pay40, k0_pay39, hz]

/-- The first group against its second half. -/
theorem sin0 : (k0_pay41 h w d (ix2 r n) : EReal) = groupProd (k0_pay38 h w) d 0 128 (by omega) (by omega) r n := by
  unfold groupProd
  generalize hz : k0_pay38 h w = z
  pointwise [k0_pay41, k0_pay39, hz]

/-- The second group against the first half. -/
theorem cos1 : (k0_pay43 h w d (ix2 r n) : EReal) = groupProd (k0_pay38 h w) d 128 0 (by omega) (by omega) r n := by
  unfold groupProd
  generalize hz : k0_pay38 h w = z
  pointwise [k0_pay43, k0_pay42, hz]

/-- The second group against the second half. -/
theorem sin1 : (k0_pay44 h w d (ix2 r n) : EReal) = groupProd (k0_pay38 h w) d 128 128 (by omega) (by omega) r n := by
  unfold groupProd
  generalize hz : k0_pay38 h w = z
  pointwise [k0_pay44, k0_pay42, hz]

/-- The third group against the first half. -/
theorem cos2 : (k0_pay46 z d (ix2 r n) : EReal) = groupProd z d 256 0 (by omega) (by omega) r n := by
  unfold groupProd
  pointwise [k0_pay46, k0_pay45]

/-- The third group against the second half. -/
theorem sin2 : (k0_pay47 z d (ix2 r n) : EReal) = groupProd z d 256 128 (by omega) (by omega) r n := by
  unfold groupProd
  pointwise [k0_pay47, k0_pay45]

/-- The fourth group against the first half. -/
theorem cos3 : (k0_pay49 z d (ix2 r n) : EReal) = groupProd z d 384 0 (by omega) (by omega) r n := by
  unfold groupProd
  pointwise [k0_pay49, k0_pay48]

/-- The fourth group against the second half. -/
theorem sin3 : (k0_pay50 z d (ix2 r n) : EReal) = groupProd z d 384 128 (by omega) (by omega) r n := by
  unfold groupProd
  pointwise [k0_pay50, k0_pay48]
end Groups

/-- The heads' values of a token. -/
def valueEntry (c : Dev nD) (i : Fin 8192) (n : Fin 512) : EReal :=
  ∑ j : Fin 256, latentEntry m c i j * m ((c : Thread nD τ).loc main_arg7) (ix2 j (⟨n.val / 64 * 128 + (64 + n.val % 64), by omega⟩ : Fin 1024))

/-- The channel transform of a token: column `q` is of group `q / 128` modulo 4, against the table's first half below 512, its
second half from there on. -/
def specEntry (c : Dev nD) (i : Fin 8192) (q : Fin 1024) : EReal :=
  ∑ k : Fin 128, tokenProj m c i (⟨800 + (q.val / 128 % 4 * 128 + k.val), by omega⟩ : Fin 3360)
    * m ((c : Thread nD τ).loc main_arg10) (ix2 k (⟨q.val / 512 * 128 + q.val % 128, by omega⟩ : Fin 256))

/-- A latent row's entry, in a block. -/
theorem blockLatent (c : Dev nD) (t : Fin cfg0.N) (r j : Fin 256) (inb) :
    (k0_pay17 (k0_pay52 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t))
        (View.ld (iblk m c 3 t) (Rect.unit (s := S1024x3456) ![0, 512] S1024x256.size inb)) (iblk m c 6 t) (ix2 r j) : EReal)
      = latentEntry m c (row t r) j :=
  (latentAt _ _ _ r j).trans (congrArg₂ (fun z g => Cert.Ctx.latent z g j)
    (funext fun j => blockProj m c t r _ _ fun k => (winCols m c t 512 256 (by omega) _ k j).trans (winAt m c t k _ _ (.inl ⟨rfl, by simp only []; omega⟩)))
    (funext fun j => (readKvg m c t j).trans (hostKvg m c j)))

/-- The array of the heads' values. -/
theorem valueArray (c : Dev nD) : (dats m 0 c).arrAt 14 cfg0.N = fun y => valueEntry m c (y 0) (y 1) := by
  refine (dats m 0 c).arrAt_eq_of_covers 14 _ (by decide +kernel) fun t hf y => ?_
  obtain ⟨r, n, rfl⟩ : ∃ (r : Fin 256) (n : Fin 512), y = ix2 r n := ⟨y 0, y 1, by funext k; fin_cases k <;> rfl⟩
  rw [show ((cfg0.win 14).blk t).view.emb (ix2 r n) = ix2 (row t r) n by blk_ext [specIdx t, row]]
  blk_simp
  rw [after0_14]
  frame_out
  exact (valueAt _ _ _ _ r n).trans (Finset.sum_congr rfl fun j _ =>
    congrArg₂ (· * ·) (blockLatent m c t r j _) ((readWv m c t j n).trans (hostWv m c j n)))

/-- The Fourier columns' products, in a block. -/
theorem blockFourier (c : Dev nD) (t : Fin cfg0.N) (r : Fin 256) (j : Fin 512) :
    (k0_pay38 (k0_pay52 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t)) (View.ld (iblk m c 3 t) r0_22) (ix2 r j) : EReal)
      = tokenProj m c (row t r) (⟨800 + j.val, by omega⟩ : Fin 3360) :=
  (fourierAt _ _ r j).trans (blockProj m c t r (⟨800 + j.val, by omega⟩ : Fin 3360) _ fun k =>
    (winCols m c t 896 512 (by omega) _ k j).trans (winAt m c t k _ _ (.inr (.inr ⟨by simp only []; omega, by simp only []; omega⟩))))

/-- A group's product in a block is the transform's entry at the column where it is written, `o` on. -/
theorem groupEntry (c : Dev nD) (t : Fin cfg0.N) (z : FVec Ideal S256x512 .bf16)
    (hz : ∀ r j, (z (ix2 r j) : EReal) = tokenProj m c (row t r) (⟨800 + j.val, by omega⟩ : Fin 3360))
    (a b o : ℕ) (ha : a + 128 ≤ 512) (hb : b + 128 ≤ 256) (ho : o + 128 ≤ 1024) (hoa : o / 128 % 4 * 128 = a) (hob : o / 512 * 128 = b)
    (h0 : o % 128 = 0) (r : Fin 256) (n : Fin 128) :
    groupProd z (iblk m c 11 t) a b ha hb r n = specEntry m c (row t r) (⟨o + n.val, by omega⟩ : Fin 1024) := by
  unfold groupProd specEntry
  refine Finset.sum_congr rfl fun k _ => congrArg₂ (· * ·) ((hz r _).trans (congrArg (tokenProj m c (row t r)) (Fin.ext ?_)))
    ((readTable m c t k _).trans (congrArg (fun q : Fin 256 => m ((c : Thread nD τ).loc main_arg10) (ix2 k q)) (Fin.ext ?_)))
  · simp only []
    omega
  · simp only []
    omega

/-- Where a piece of 128 columns lies. -/
theorem pieceAt (o : ℕ) (ho : o + 128 ≤ 1024) (inb) (r : Fin 256) (n : Fin 128) :
    (Rect.unit (s := S256x1024) ![0, o] S256x128.size inb).emb (ix2 r n) = ix2 r (⟨o + n.val, by omega⟩ : Fin 1024) := by
  funext b
  apply Fin.ext
  fin_cases b <;> simp [Rect.unit, Rect.emb]

/-- A piece that agrees with the transform's entries at its own columns agrees with them where it is written. -/
theorem pieceEq (c : Dev nD) (t : Fin cfg0.N) (o : ℕ) (ho : o + 128 ≤ 1024) (inb) (p : FVec Ideal S256x128 .bf16)
    (hp : ∀ r n, (p (ix2 r n) : EReal) = specEntry m c (row t r) (⟨o + n.val, by omega⟩ : Fin 1024)) (x : S256x128.Idx) :
    (p x : EReal) = (fun y : S256x1024.Idx => specEntry m c (row t (y 0)) (y 1)) ((Rect.unit (s := S256x1024) ![0, o] S256x128.size inb).emb x) := by
  obtain ⟨r, n, rfl⟩ : ∃ (r : Fin 256) (n : Fin 128), x = ix2 r n := ⟨x 0, x 1, by funext k; fin_cases k <;> rfl⟩
  rw [pieceAt o ho inb r n]
  exact hp r n

/-- The array of the channel transforms. -/
theorem specArray (c : Dev nD) : (dats m 0 c).arrAt 15 cfg0.N = fun y => specEntry m c (y 0) (y 1) := by
  refine (dats m 0 c).arrAt_eq_of_covers 15 _ (by decide +kernel) fun t hf y => ?_
  obtain ⟨r, n, rfl⟩ : ∃ (r : Fin 256) (n : Fin 1024), y = ix2 r n := ⟨y 0, y 1, by funext k; fin_cases k <;> rfl⟩
  rw [show ((cfg0.win 15).blk t).view.emb (ix2 r n) = ix2 (row t r) n by blk_ext [specIdx t, row]]
  blk_simp
  rw [after0_15]
  frame_out
  refine View.canon_apply_of_pieces (Val := Elt Ideal) (fun y : S256x1024.Idx => specEntry m c (row t (y 0)) (y 1)) _ ?_ (ix2 r n) (cover0_15 _ _ _ _ _ _ _ _ _)
  have hz := blockFourier m c t
  intro p hp
  simp only [List.mem_cons, List.not_mem_nil, or_false] at hp
  rcases hp with rfl | rfl | rfl | rfl | rfl | rfl | rfl | rfl
  · exact pieceEq m c t 896 (by omega) inb_S256x1024_S256x128_0_896 _ fun r n => (sin3 _ _ r n).trans (groupEntry m c t _ hz 384 128 896 _ _ (by omega) rfl rfl rfl r n)
  · exact pieceEq m c t 384 (by omega) inb_S256x1024_S256x128_0_384 _ fun r n => (cos3 _ _ r n).trans (groupEntry m c t _ hz 384 0 384 _ _ (by omega) rfl rfl rfl r n)
  · exact pieceEq m c t 768 (by omega) inb_S256x1024_S256x128_0_768 _ fun r n => (sin2 _ _ r n).trans (groupEntry m c t _ hz 256 128 768 _ _ (by omega) rfl rfl rfl r n)
  · exact pieceEq m c t 256 (by omega) inb_S256x1024_S256x128_0_256 _ fun r n => (cos2 _ _ r n).trans (groupEntry m c t _ hz 256 0 256 _ _ (by omega) rfl rfl rfl r n)
  · exact pieceEq m c t 640 (by omega) inb_S256x1024_S256x128_0_640 _ fun r n => (sin1 _ _ _ r n).trans (groupEntry m c t _ hz 128 128 640 _ _ (by omega) rfl rfl rfl r n)
  · exact pieceEq m c t 128 (by omega) inb_S256x1024_S256x128_0_128 _ fun r n => (cos1 _ _ _ r n).trans (groupEntry m c t _ hz 128 0 128 _ _ (by omega) rfl rfl rfl r n)
  · exact pieceEq m c t 512 (by omega) inb_S256x1024_S256x128_0_512 _ fun r n => (sin0 _ _ _ r n).trans (groupEntry m c t _ hz 0 128 512 _ _ (by omega) rfl rfl rfl r n)
  · exact pieceEq m c t 0 (by omega) inb_S256x1024_S256x128_0_0 _ fun r n => (cos0 _ _ _ r n).trans (groupEntry m c t _ hz 0 0 0 _ _ (by omega) rfl rfl rfl r n)

end Cert.Kernel3Ideal.Ctx

end
-- ==== Proof.CtxLanes.lean ====
module

public import proofs.«01_k».proof.Proof.KeyLanes
public import proofs.«01_k».proof.Proof.Rows

/-! A head's slot of 128 lanes, of which 96 are used: a query's lane as the kernel computes it, against the head's row
normalised and scaled. -/

@[expose] public section

noncomputable section

namespace Cert.Ctx

open Idealize.ShloMosaic

/-- Multiplying by the word of 1/512 divides by the word of 512. -/
theorem mul_512 (x : EReal) : x * Ideal.ofBits .f32 0x3B000000#32 = Ideal.div x (Ideal.ofBits .f32 0x44000000#32) := by
  have e : Ideal.ofBits .f32 0x44000000#32 = ((512 : ℝ) : EReal) := by
    simp [Ideal.ofBits, Ideal.ieee]
    rw [← EReal.coe_mul]
    norm_num
  have e' : Ideal.ofBits .f32 0x3B000000#32 = ((1 / 512 : ℝ) : EReal) := by
    simp [Ideal.ofBits, Ideal.ieee]
    rw [← EReal.coe_mul]
    norm_num
  rw [e, e', Ideal.div_coe (by norm_num)]

/-- A head's row in its slot: 96 lanes, then zeros. -/
def slot (x : Fin 96 → EReal) (l : Fin 128) : EReal := if hl : l.val < 96 then x ⟨l.val, hl⟩ else 0

/-- A row's product with weights that lie in a slot lies in the slot. -/
theorem sum_slot {n : ℕ} (x : Fin n → EReal) (w : Fin n → Fin 96 → EReal) (l : Fin 128) :
    ∑ a, x a * slot (w a) l = slot (fun l => ∑ a, x a * w a l) l := by
  unfold slot
  split_ifs with hl
  · rfl
  · simp

/-- The sum of the squares over a slot. -/
theorem square_slot (u : Fin 96 → EReal) : ∑ l, slot u l * slot u l = ∑ l, u l * u l := by
  refine (Fin.sum_univ_add (a := 96) (b := 32) fun l : Fin (96 + 32) => slot u l * slot u l).trans ?_
  simp [slot]

/-- One lane of a query, from the head's lanes and the scales. -/
def queryLane (f g : Fin 128 → EReal) (l : Fin 128) : EReal :=
  f l * Ideal.rsqrt ((∑ a, f a * f a) * ((1 / 96 : ℝ) : EReal) + Ideal.ofBits .f32 0x358637BD#32) * g l

/-- An entry of a head's query: normalised, scaled, and times the attention's scale. -/
def query (u c : Fin 96 → EReal) (l : Fin 96) : EReal := normed 0x42C00000#32 u l * c l * Ideal.ofBits .f32 0x3DD105EC#32

/-- An entry of a head's key: the joined row normalised and scaled. -/
def key (u : Fin 64 → EReal) (p : Fin 32 → EReal) (c : Fin 96 → EReal) (l : Fin 96) : EReal :=
  normed 0x42C00000#32 (Cert.Attn.joined u p) l * c l

/-- A query's lane is the head's entry in its slot. -/
theorem queryLane_eq (u c : Fin 96 → EReal) (f g : Fin 128 → EReal) (hf : ∀ l, f l = slot u l)
    (hg : ∀ l, g l = slot c l * Ideal.ofBits .f32 0x3DD105EC#32) (l : Fin 128) : queryLane f g l = slot (query u c) l := by
  obtain rfl : f = slot u := funext hf
  unfold queryLane
  rw [hg, square_slot, ← Cert.Attn.div_96]
  unfold query normed slot
  split_ifs with hl
  · exact (mul_assoc _ _ _).symm
  · rw [zero_mul, zero_mul]

end Cert.Ctx

end
-- ==== Proof.CtxSlots.lean ====
module

public import proofs.«01_k».proof.Proof.CtxHost
public import proofs.«01_k».proof.Proof.CtxLanes

/-! What the operations before the launch leave in the operands of the queries and keys: each head's columns in a slot of
128, zeros where the slot is not used. -/

@[expose] public section

set_option maxRecDepth 16384

noncomputable section

namespace Cert.Kernel3Ideal.Ctx

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The scale of the queries' norm. -/
theorem readQag (c : Dev nD) (t : Fin cfg0.N) (n : Fin 512) : iblk m c 4 t (ix2 0 n) = V m c main_v16 (ix2 0 n) := by
  blk_ext [iblk, idx t]

/-- The weights that expand the queries. -/
theorem readWq (c : Dev nD) (t : Fin cfg0.N) (a : Fin 512) (n : Fin 1024) : iblk m c 5 t (ix2 a n) = V m c main_v17 (ix2 a n) := by
  blk_ext [iblk, idx t]

/-- The weights that expand a latent row to the heads' keys. -/
theorem readWk (c : Dev nD) (t : Fin cfg0.N) (j : Fin 256) (n : Fin 1024) : iblk m c 7 t (ix2 j n) = V m c main_v19 (ix2 j n) := by
  blk_ext [iblk, idx t]

/-- The queries' scales. -/
theorem readQg (c : Dev nD) (t : Fin cfg0.N) (l : Fin 128) : iblk m c 9 t (ix2 0 l) = V m c main_v22 (ix2 0 l) := by
  blk_ext [iblk, idx t]

/-- The keys' scales. -/
theorem readKg (c : Dev nD) (t : Fin cfg0.N) (l : Fin 128) : iblk m c 10 t (ix2 0 l) = V m c main_v24 (ix2 0 l) := by
  blk_ext [iblk, idx t]

/-- The scale of the queries' norm is the argument. -/
theorem hostQag (c : Dev nD) (n : Fin 512) : (V m c main_v16 (ix2 0 n) : EReal) = m ((c : Thread nD τ).loc main_arg4) (ix1 n) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  pointwise

/-- The queries' scales in a slot. -/
theorem hostQg (c : Dev nD) (l : Fin 128) :
    (V m c main_v22 (ix2 0 l) : EReal) = Cert.Ctx.slot (fun l => m ((c : Thread nD τ).loc main_arg8) (ix1 l)) l := by
  unfold Cert.Ctx.slot
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  simp -implicitDefEqProofs only [StableHlo.TRef.toBuf, StableHlo.TRef.ofBuf, cast_cast, cast_eq]
  pointwise
  rw [intZero]

/-- The keys' scales in a slot. -/
theorem hostKg (c : Dev nD) (l : Fin 128) :
    (V m c main_v24 (ix2 0 l) : EReal) = Cert.Ctx.slot (fun l => m ((c : Thread nD τ).loc main_arg9) (ix1 l)) l := by
  unfold Cert.Ctx.slot
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  simp -implicitDefEqProofs only [StableHlo.TRef.toBuf, StableHlo.TRef.ofBuf, cast_cast, cast_eq]
  pointwise
  rw [intZero]

/-- The queries' weights with each head's 96 columns in a slot. -/
def slotted (w : FVec Ideal S512x768 .f32) : FVec Ideal S512x1024 .f32 :=
  shapeCast S512x1024 (pad S512x8x128 ![0, 0, 0] ![0, 0, 32] ![0, 0, 0] (shapeCast S512x8x96 w shapeCasts_S512x768_S512x8x96) (sitofp .f32 (constantI S_ 32 0#32)) pads_S512x8x96_S512x8x128_000_000_0320 h_S_) shapeCasts_S512x8x128_S512x1024

/-- An entry of them. -/
theorem slottedAt (w : FVec Ideal S512x768 .f32) (a : Fin 512) (n : Fin 1024) :
    (slotted w (ix2 a n) : EReal) = Cert.Ctx.slot (fun l => w (ix2 a (⟨n.val / 128 * 96 + l.val, by omega⟩ : Fin 768))) ⟨n.val % 128, by omega⟩ := by
  unfold Cert.Ctx.slot
  pointwise [slotted]
  rw [intZero]
  by_cases hl : n.val % 128 < 96
  · rw [dif_pos hl, dif_pos ⟨by omega, hl⟩]
  · rw [dif_neg hl, dif_neg (by omega)]

/-- The keys' weights: each head's first 64 columns, then zeros. -/
def halved (w : FVec Ideal S256x1024 .f32) : FVec Ideal S256x1024 .f32 :=
  shapeCast S256x1024 (pad S256x8x128 ![0, 0, 0] ![0, 0, 64] ![0, 0, 0] (extractStridedSlice S256x8x64 ![0, 0, 0] (shapeCast S256x8x128 w shapeCasts_S256x1024_S256x8x128) slices_S256x8x128_S256x8x64_0_0_0) (sitofp .f32 (constantI S_ 32 0#32)) pads_S256x8x64_S256x8x128_000_000_0640 h_S_) shapeCasts_S256x8x128_S256x1024

/-- An entry of them. -/
theorem halvedAt (w : FVec Ideal S256x1024 .f32) (j : Fin 256) (n : Fin 1024) :
    (halved w (ix2 j n) : EReal)
      = if hl : n.val % 128 < 64 then w (ix2 j (⟨n.val / 128 * 128 + n.val % 128, by omega⟩ : Fin 1024)) else (0 : EReal) := by
  pointwise [halved]
  rw [intZero]
  by_cases hl : n.val % 128 < 64
  · rw [dif_pos hl, dif_pos ⟨by omega, hl⟩]
    exact congrArg (fun n => w (ix2 j n)) (Fin.ext (by simp only []; omega))
  · rw [dif_neg hl, dif_neg (by omega)]

/-- The weights that expand the queries: each head's 96 columns in a slot. -/
theorem hostWq (c : Dev nD) (a : Fin 512) (n : Fin 1024) :
    (V m c main_v17 (ix2 a n) : EReal)
      = Cert.Ctx.slot (fun l => m ((c : Thread nD τ).loc main_arg5) (ix2 a (⟨n.val / 128 * 96 + l.val, by omega⟩ : Fin 768))) ⟨n.val % 128, by omega⟩ := by
  refine Eq.trans ?_ (slottedAt _ a n)
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  simp -implicitDefEqProofs only [StableHlo.TRef.toBuf, StableHlo.TRef.ofBuf, cast_cast, cast_eq]
  rfl

/-- The weights that expand a latent row to the heads' keys: each head's first 64 columns, then zeros. -/
theorem hostWk (c : Dev nD) (j : Fin 256) (n : Fin 1024) :
    (V m c main_v19 (ix2 j n) : EReal)
      = if hl : n.val % 128 < 64 then m ((c : Thread nD τ).loc main_arg7) (ix2 j (⟨n.val / 128 * 128 + n.val % 128, by omega⟩ : Fin 1024)) else (0 : EReal) := by
  refine Eq.trans ?_ (halvedAt _ j n)
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  simp -implicitDefEqProofs only [StableHlo.TRef.toBuf, StableHlo.TRef.ofBuf, cast_cast, cast_eq]
  rfl

/-- The padded position columns are zero off lanes 64 to 95. -/
theorem padZero (c : Dev nD) (k : Fin 1024) (l : Fin 128) (hl : ¬(64 ≤ l.val ∧ l.val < 96)) :
    (StableHlo.after (hostOps0 ++ hostOps0_1) (fun b => m (c, b)) (Proc.devRef .tc main_v1) (ix2 k l) : EReal) = (0 : EReal) := by
  simp only [hostOps0, hostOps0_1, List.cons_append, List.nil_append]
  entry_read
  simp -implicitDefEqProofs only [StableHlo.TRef.toBuf, StableHlo.TRef.ofBuf, cast_cast, cast_eq]
  pointwise
  rw [dif_neg (by omega), intZero]

/-- So are the packed weights there. -/
theorem hostZero (c : Dev nD) (k : Fin 1024) (l : Fin 128) (hl : ¬(64 ≤ l.val ∧ l.val < 96)) :
    (V m c main_v15 (ix2 k (⟨768 + l.val, by omega⟩ : Fin 3456)) : EReal) = (0 : EReal) :=
  (hostWin m c k _).trans (((congrFun (concat_eq _) _).trans (packed_mid _ _ _ k l)).trans (padZero m c k l hl))

end Cert.Kernel3Ideal.Ctx

end
-- ==== Proof.CtxHeads.lean ====
module

public import proofs.«01_k».proof.Proof.CtxSpec
public import proofs.«01_k».proof.Proof.CtxSlots

/-! One grid point of the input projection as arithmetic, continued: the heads' queries and keys, a slot of 128 columns for
each head. -/

@[expose] public section

set_option maxRecDepth 16384

noncomputable section

namespace Cert.Kernel3Ideal.Ctx

open Cert.Kernel3Ideal Cert.Kernel3Ideal.Gen Idealize.ShloMosaic Idealize.ShloMosaic.TcCoe Idealize.SL.Sem

/-- The named reciprocal is one over the head width. -/
theorem recip96 : (Named.named κ "inv96" 0x3C2AAAAB#32 : Ideal .f32) = ((1 / 96 : ℝ) : EReal) :=
  IdealRules.named_const.ideal_named_scalar _ _ _ _ rfl

/-- An entry of the queries' columns, normalised. -/
theorem lowAt (x : Vec Ideal S256x1024 .f32) (sh sc : Vec Ideal S1x1x1024 .f32) (g : Vec Ideal S1x1024 .f32) (w : Vec Ideal S1024x512 .bf16)
    (r : Fin 256) (a : Fin 512) :
    (k0_pay3 x sh sc g w (ix2 r a) : EReal)
      = Cert.Ctx.normed 0x44000000#32 (fun j : Fin 512 => Cert.Ctx.proj (fun k => k0_pay2 x sh sc g (ix2 r k)) (fun k => w (ix2 k j))) a := by
  unfold Cert.Ctx.normed Cert.Ctx.proj
  generalize hz : k0_pay2 x sh sc g = z
  pointwise [k0_pay3, hz]
  rw [Cert.Ctx.mul_512]

/-- An entry of the expanded queries. -/
theorem expandAt (v : FVec Ideal S256x512 .f32) (g : Vec Ideal S1x512 .f32) (w : Vec Ideal S512x1024 .bf16) (r : Fin 256) (n : Fin 1024) :
    (k0_pay4 v g w (ix2 r n) : EReal) = ∑ a : Fin 512, v (ix2 r a) * g (ix2 0 a) * w (ix2 a n) := by
  pointwise [k0_pay4]

/-- The queries' scales. -/
theorem queryScale (g : Vec Ideal S1x128 .f32) (l : Fin 128) : (k0_pay5 g (ix2 0 l) : EReal) = g (ix2 0 l) * Ideal.ofBits .f32 0x3DD105EC#32 := by
  pointwise [k0_pay5]

/-- A query's lane, cut out of the expanded queries from column `o` on. -/
def queryPiece (z : FVec Ideal S256x1024 .f32) (g : FVec Ideal S1x128 .f32) (o : ℕ) (ho : o + 128 ≤ 1024) (r : Fin 256) (l : Fin 128) : EReal :=
  Cert.Ctx.queryLane (fun l => z (ix2 r (⟨o + l.val, by omega⟩ : Fin 1024))) (fun l => g (ix2 0 l)) l

section Queries
variable (v : FVec Ideal S256x512 .f32) (e : Vec Ideal S1x512 .f32) (w : Vec Ideal S512x1024 .bf16) (x : Vec Ideal S1x128 .f32)
  (z : FVec Ideal S256x1024 .f32) (g : FVec Ideal S1x128 .f32) (r : Fin 256) (l : Fin 128)

/-- Head 0. -/
theorem query0 : (k0_pay6 v e w x (ix2 r l) : EReal) = queryPiece (k0_pay4 v e w) (k0_pay5 x) 0 (by omega) r l := by
  unfold queryPiece Cert.Ctx.queryLane
  generalize hz : k0_pay4 v e w = z
  generalize hg : k0_pay5 x = g
  pointwise [k0_pay6, hz, hg]
  rw [recip96]

/-- Head 1. -/
theorem query1 : (k0_pay7 v e w x (ix2 r l) : EReal) = queryPiece (k0_pay4 v e w) (k0_pay5 x) 128 (by omega) r l := by
  unfold queryPiece Cert.Ctx.queryLane
  generalize hz : k0_pay4 v e w = z
  generalize hg : k0_pay5 x = g
  pointwise [k0_pay7, hz, hg]
  rw [recip96]

/-- Head 2. -/
theorem query2 : (k0_pay8 z g (ix2 r l) : EReal) = queryPiece z g 256 (by omega) r l := by
  unfold queryPiece Cert.Ctx.queryLane
  pointwise [k0_pay8]
  rw [recip96]

/-- Head 3. -/
theorem query3 : (k0_pay9 z g (ix2 r l) : EReal) = queryPiece z g 384 (by omega) r l := by
  unfold queryPiece Cert.Ctx.queryLane
  pointwise [k0_pay9]
  rw [recip96]

/-- Head 4. -/
theorem query4 : (k0_pay11 (k0_pay10 z g) (ix2 r l) : EReal) = queryPiece z g 512 (by omega) r l := by
  unfold queryPiece Cert.Ctx.queryLane
  pointwise [k0_pay11, k0_pay10]
  rw [recip96]

/-- Head 5. -/
theorem query5 : (k0_pay12 z g (ix2 r l) : EReal) = queryPiece z g 640 (by omega) r l := by
  unfold queryPiece Cert.Ctx.queryLane
  pointwise [k0_pay12]
  rw [recip96]

/-- Head 6. -/
theorem query6 : (k0_pay13 z g (ix2 r l) : EReal) = queryPiece z g 768 (by omega) r l := by
  unfold queryPiece Cert.Ctx.queryLane
  pointwise [k0_pay13]
  rw [recip96]

/-- Head 7. -/
theorem query7 : (k0_pay16 g (k0_pay14 z) (k0_pay15 z) (ix2 r l) : EReal) = queryPiece z g 896 (by omega) r l := by
  unfold queryPiece Cert.Ctx.queryLane
  pointwise [k0_pay16, k0_pay14, k0_pay15]
  rw [recip96]
end Queries

/-- An entry of the expanded latent rows. -/
theorem expandKeyAt (h : FVec Ideal S256x1024 .bf16) (w : FVec Ideal S1024x256 .bf16) (g : FVec Ideal S1x256 .f32) (wk : FVec Ideal S256x1024 .bf16)
    (r : Fin 256) (n : Fin 1024) :
    (k0_pay23 (k0_pay20 h w g) wk (ix2 r n) : EReal) = ∑ j : Fin 256, k0_pay17 h w g (ix2 r j) * wk (ix2 j n) := by
  pointwise [k0_pay23, k0_pay20]

/-- An entry of the position columns' products. -/
theorem placeAt (h : FVec Ideal S256x1024 .bf16) (w : FVec Ideal S1024x128 .bf16) (r : Fin 256) (l : Fin 128) :
    (k0_pay18 h w (ix2 r l) : EReal) = Cert.Ctx.proj (fun k => h (ix2 r k)) (fun k => w (ix2 k l)) := by
  unfold Cert.Ctx.proj
  pointwise [k0_pay18]

/-- The keys' scales. -/
theorem keyScale (g : Vec Ideal S1x128 .f32) (l : Fin 128) : (k0_pay21 g (ix2 0 l) : EReal) = g (ix2 0 l) := by
  pointwise [k0_pay21]

/-- The square sum of the position part. -/
theorem placeSquare (p : FVec Ideal S256x128 .f32) (r : Fin 256) : (k0_pay24 p (ix2 r 0) : EReal) = ∑ l : Fin 128, p (ix2 r l) * p (ix2 r l) := by
  pointwise [k0_pay24]

/-- The position part, scaled. -/
theorem placeScaled (p : FVec Ideal S256x128 .f32) (g : FVec Ideal S1x128 .f32) (r : Fin 256) (l : Fin 128) :
    (k0_pay25 p g (ix2 r l) : EReal) = p (ix2 r l) * g (ix2 0 l) := by
  pointwise [k0_pay25]

/-- A key's lane, cut out of the expanded latent rows from column `o` on. -/
def keyPiece (z : FVec Ideal S256x1024 .f32) (p : FVec Ideal S256x128 .f32) (g : FVec Ideal S1x128 .f32) (o : ℕ) (ho : o + 128 ≤ 1024)
    (r : Fin 256) (l : Fin 128) : EReal :=
  Cert.KernelIdeal.Attn.keyLane (fun l => z (ix2 r (⟨o + l.val, by omega⟩ : Fin 1024))) (fun l => p (ix2 r l)) (fun l => g (ix2 0 l)) l

section Keys
variable (y : FVec Ideal S256x256 .bf16) (w : Vec Ideal S256x1024 .bf16)
  (z : FVec Ideal S256x1024 .f32) (p : FVec Ideal S256x128 .f32) (g : FVec Ideal S1x128 .f32) (r : Fin 256) (l : Fin 128)

/-- Head 0. -/
theorem key0 : (k0_pay26 p y g w (ix2 r l) : EReal) = keyPiece (k0_pay23 y w) p g 0 (by omega) r l := by
  unfold keyPiece Cert.KernelIdeal.Attn.keyLane
  generalize hz : k0_pay23 y w = z
  pointwise [k0_pay26, hz, placeSquare, placeScaled]
  rw [recip96]

/-- Head 1. -/
theorem key1 : (k0_pay27 p y g w (ix2 r l) : EReal) = keyPiece (k0_pay23 y w) p g 128 (by omega) r l := by
  unfold keyPiece Cert.KernelIdeal.Attn.keyLane
  generalize hz : k0_pay23 y w = z
  pointwise [k0_pay27, hz, placeSquare, placeScaled]
  rw [recip96]

/-- Head 2. -/
theorem key2 : (k0_pay28 g z (k0_pay24 p) (k0_pay25 p g) (ix2 r l) : EReal) = keyPiece z p g 256 (by omega) r l := by
  unfold keyPiece Cert.KernelIdeal.Attn.keyLane
  pointwise [k0_pay28, placeSquare, placeScaled]
  rw [recip96]

/-- Head 3. -/
theorem key3 : (k0_pay29 g z (k0_pay24 p) (k0_pay25 p g) (ix2 r l) : EReal) = keyPiece z p g 384 (by omega) r l := by
  unfold keyPiece Cert.KernelIdeal.Attn.keyLane
  pointwise [k0_pay29, placeSquare, placeScaled]
  rw [recip96]

/-- Head 4. -/
theorem key4 : (k0_pay32 g (k0_pay25 p g) (k0_pay30 z) (k0_pay31 z (k0_pay24 p)) (ix2 r l) : EReal) = keyPiece z p g 512 (by omega) r l := by
  unfold keyPiece Cert.KernelIdeal.Attn.keyLane
  pointwise [k0_pay32, k0_pay30, k0_pay31, placeSquare, placeScaled]
  rw [recip96]

/-- Head 5. -/
theorem key5 : (k0_pay33 g z (k0_pay24 p) (k0_pay25 p g) (ix2 r l) : EReal) = keyPiece z p g 640 (by omega) r l := by
  unfold keyPiece Cert.KernelIdeal.Attn.keyLane
  pointwise [k0_pay33, placeSquare, placeScaled]
  rw [recip96]

/-- Head 6. -/
theorem key6 : (k0_pay34 g z (k0_pay24 p) (k0_pay25 p g) (ix2 r l) : EReal) = keyPiece z p g 768 (by omega) r l := by
  unfold keyPiece Cert.KernelIdeal.Attn.keyLane
  pointwise [k0_pay34, placeSquare, placeScaled]
  rw [recip96]

/-- Head 7. -/
theorem key7 : (k0_pay37 g (k0_pay24 p) (k0_pay25 p g) (k0_pay35 z) (k0_pay36 z) (ix2 r l) : EReal) = keyPiece z p g 896 (by omega) r l := by
  unfold keyPiece Cert.KernelIdeal.Attn.keyLane
  pointwise [k0_pay37, k0_pay35, k0_pay36, placeSquare, placeScaled]
  rw [recip96]
end Keys

end Cert.Kernel3Ideal.Ctx

end
-- ==== Proof.CtxHeadArrays.lean ====
module

public import proofs.«01_k».proof.Proof.CtxHeads

/-! The arrays of the heads' queries and keys, each read at coordinates from the call's arguments. -/

@[expose] public section

set_option maxRecDepth 16384

noncomputable section

namespace Cert.Kernel3Ideal.Ctx

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- A token's queries before the expansion: normalised and scaled. -/
def lowEntry (c : Dev nD) (i : Fin 8192) (a : Fin 512) : EReal :=
  Cert.Ctx.normed 0x44000000#32 (fun j : Fin 512 => tokenProj m c i (⟨j.val, by omega⟩ : Fin 3360)) a * m ((c : Thread nD τ).loc main_arg4) (ix1 a)

/-- A head's row of a token's queries. -/
def headRow (c : Dev nD) (i : Fin 8192) (h : Fin 8) (l : Fin 96) : EReal :=
  ∑ a : Fin 512, lowEntry m c i a * m ((c : Thread nD τ).loc main_arg5) (ix2 a (⟨h.val * 96 + l.val, by omega⟩ : Fin 768))

/-- A token's queries. -/
def queryEntry (c : Dev nD) (i : Fin 8192) (n : Fin 1024) : EReal :=
  Cert.Ctx.slot (Cert.Ctx.query (headRow m c i ⟨n.val / 128, by omega⟩) fun l => m ((c : Thread nD τ).loc main_arg8) (ix1 l)) ⟨n.val % 128, by omega⟩

/-- A head's expanded part of a token's key. -/
def keyRow (c : Dev nD) (i : Fin 8192) (h : Fin 8) (u : Fin 64) : EReal :=
  ∑ j : Fin 256, latentEntry m c i j * m ((c : Thread nD τ).loc main_arg7) (ix2 j (⟨h.val * 128 + u.val, by omega⟩ : Fin 1024))

/-- A token's keys. -/
def keyEntry (c : Dev nD) (i : Fin 8192) (n : Fin 1024) : EReal :=
  Cert.Ctx.slot (Cert.Ctx.key (keyRow m c i ⟨n.val / 128, by omega⟩) (peEntry m c i) fun l => m ((c : Thread nD τ).loc main_arg9) (ix1 l)) ⟨n.val % 128, by omega⟩

/-- The block index of the two outputs. -/
theorem headIdx : ∀ t : Fin grid0.N,
    win0_12.index t 0 = t.val ∧ win0_12.index t 1 = 0 ∧ win0_13.index t 0 = t.val ∧ win0_13.index t 1 = 0 := by
  decide +kernel

/-- A piece that agrees with an array's entries at its own columns agrees with them where it is written. -/
theorem pieceOf (E : Fin 8192 → Fin 1024 → EReal) (t : Fin cfg0.N) (o : ℕ) (ho : o + 128 ≤ 1024) (inb) (p : FVec Ideal S256x128 .bf16)
    (hp : ∀ r n, (p (ix2 r n) : EReal) = E (row t r) (⟨o + n.val, by omega⟩ : Fin 1024)) (x : S256x128.Idx) :
    (p x : EReal) = (fun y : S256x1024.Idx => E (row t (y 0)) (y 1)) ((Rect.unit (s := S256x1024) ![0, o] S256x128.size inb).emb x) := by
  obtain ⟨r, n, rfl⟩ : ∃ (r : Fin 256) (n : Fin 128), x = ix2 r n := ⟨x 0, x 1, by funext k; fin_cases k <;> rfl⟩
  rw [pieceAt o ho inb r n]
  exact hp r n

section Loads
variable (x0 : Vec Ideal S256x1024 .f32) (x1 : Vec Ideal S1x6x1024 .f32) (x2 : Vec Ideal S1x1024 .f32) (x3 : Vec Ideal S1024x3456 .bf16)
  (x4 : Vec Ideal S1x512 .f32) (x5 : Vec Ideal S512x1024 .bf16) (x6 : Vec Ideal S1x256 .f32) (x7 : Vec Ideal S256x1024 .bf16)
  (x8 : Vec Ideal S256x512 .bf16) (x9 x10 : Vec Ideal S1x128 .f32) (x11 : Vec Ideal S128x256 .bf16)

/-- No offset. -/
theorem noOffset : (![0, 0] : Fin 2 → ℕ) = fun _ => 0 := by
  funext a
  fin_cases a <;> rfl

/-- The queries' columns, normalised, of the rows and the loaded weights. -/
theorem openLow (r : Fin 256) (a : Fin 512) :
    (k0_pay53 x0 x1 x2 x3 x4 x5 x6 x7 x8 x9 x10 x11 (ix2 r a) : EReal)
      = Cert.Ctx.normed 0x44000000#32
          (fun j : Fin 512 => Cert.Ctx.proj (fun k => k0_pay52 x0 x1 x2 x3 x4 x5 x6 x7 x8 x9 x10 x11 (ix2 r k)) (fun k => View.ld x3 r0_4 (ix2 k j))) a :=
  lowAt _ _ _ _ _ r a

/-- The expanded queries, of whole operands. -/
theorem openQuery : k0_pay54 x0 x1 x2 x3 x4 x5 x6 x7 x8 x9 x10 x11 = k0_pay4 (k0_pay53 x0 x1 x2 x3 x4 x5 x6 x7 x8 x9 x10 x11) x4 x5 := by
  unfold k0_pay54
  rw [View.ld_unit_zero noOffset, View.ld_unit_zero noOffset]

/-- The queries' scales, of a whole operand. -/
theorem openQueryScale : k0_pay55 x0 x1 x2 x3 x4 x5 x6 x7 x8 x9 x10 x11 = k0_pay5 x9 := by
  unfold k0_pay55
  rw [View.ld_unit_zero noOffset]

/-- The position columns' products, of the rows and the loaded weights. -/
theorem openPlace (r : Fin 256) (l : Fin 128) :
    (k0_pay56 x0 x1 x2 x3 x4 x5 x6 x7 x8 x9 x10 x11 (ix2 r l) : EReal)
      = Cert.Ctx.proj (fun k => k0_pay52 x0 x1 x2 x3 x4 x5 x6 x7 x8 x9 x10 x11 (ix2 r k)) (fun k => View.ld x3 r0_18 (ix2 k l)) :=
  placeAt _ _ r l

/-- The latent rows, of a whole scale. -/
theorem openLatent : k0_pay57 x0 x1 x2 x3 x4 x5 x6 x7 x8 x9 x10 x11 = k0_pay20 (k0_pay52 x0 x1 x2 x3 x4 x5 x6 x7 x8 x9 x10 x11) (View.ld x3 r0_16) x6 := by
  unfold k0_pay57
  rw [View.ld_unit_zero noOffset]

/-- The keys' scales, of a whole operand. -/
theorem openKeyScale : k0_pay58 x0 x1 x2 x3 x4 x5 x6 x7 x8 x9 x10 x11 = k0_pay21 x10 := by
  unfold k0_pay58
  rw [View.ld_unit_zero noOffset]

/-- The expanded latent rows, of a whole operand. -/
theorem openKey : k0_pay59 x0 x1 x2 x3 x4 x5 x6 x7 x8 x9 x10 x11 = k0_pay23 (k0_pay57 x0 x1 x2 x3 x4 x5 x6 x7 x8 x9 x10 x11) x7 := by
  unfold k0_pay59
  rw [View.ld_unit_zero noOffset]

/-- The position part's square sum. -/
theorem openSquare : k0_pay60 x0 x1 x2 x3 x4 x5 x6 x7 x8 x9 x10 x11 = k0_pay24 (k0_pay56 x0 x1 x2 x3 x4 x5 x6 x7 x8 x9 x10 x11) := rfl

/-- The position part, scaled. -/
theorem openScaled : k0_pay61 x0 x1 x2 x3 x4 x5 x6 x7 x8 x9 x10 x11 = k0_pay25 (k0_pay56 x0 x1 x2 x3 x4 x5 x6 x7 x8 x9 x10 x11) (k0_pay58 x0 x1 x2 x3 x4 x5 x6 x7 x8 x9 x10 x11) := rfl
end Loads

/-- The queries' columns of a block, normalised. -/
theorem blockLow (c : Dev nD) (t : Fin cfg0.N) (r : Fin 256) (a : Fin 512) :
    (k0_pay53 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix2 r a) : EReal)
      = Cert.Ctx.normed 0x44000000#32 (fun j : Fin 512 => tokenProj m c (row t r) (⟨j.val, by omega⟩ : Fin 3360)) a :=
  (openLow _ _ _ _ _ _ _ _ _ _ _ _ r a).trans (congrArg (fun z => Cert.Ctx.normed 0x44000000#32 z a) (funext fun j => blockProj m c t r (⟨j.val, by omega⟩ : Fin 3360) _ fun k =>
    (winCols m c t 0 512 (by omega) _ k j).trans (winAt m c t k _ _ (.inl ⟨by simp only []; omega, by simp only []; omega⟩))))

/-- The expanded queries of a block. -/
theorem blockQuery (c : Dev nD) (t : Fin cfg0.N) (r : Fin 256) (n : Fin 1024) :
    (k0_pay4 (k0_pay53 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t)) (iblk m c 4 t) (iblk m c 5 t) (ix2 r n) : EReal)
      = Cert.Ctx.slot (headRow m c (row t r) ⟨n.val / 128, by omega⟩) ⟨n.val % 128, by omega⟩ :=
  (expandAt _ _ _ r n).trans ((Finset.sum_congr rfl fun a _ => congrArg₂ (· * ·)
    (congrArg₂ (· * ·) (blockLow m c t r a) ((readQag m c t a).trans (hostQag m c a))) ((readWq m c t a n).trans (hostWq m c a n))).trans
    (Cert.Ctx.sum_slot (lowEntry m c (row t r)) _ _))

/-- The queries' scales in a block. -/
theorem blockQueryScale (c : Dev nD) (t : Fin cfg0.N) (l : Fin 128) :
    (k0_pay5 (iblk m c 9 t) (ix2 0 l) : EReal)
      = Cert.Ctx.slot (fun l => m ((c : Thread nD τ).loc main_arg8) (ix1 l)) l * Ideal.ofBits .f32 0x3DD105EC#32 :=
  (queryScale _ l).trans (congrArg (· * _) ((readQg m c t l).trans (hostQg m c l)))

/-- A query's lane in a block is the token's entry at the column where it is written. -/
theorem queryAt (c : Dev nD) (t : Fin cfg0.N) (z : FVec Ideal S256x1024 .f32) (g : FVec Ideal S1x128 .f32)
    (hz : ∀ r n, (z (ix2 r n) : EReal) = Cert.Ctx.slot (headRow m c (row t r) ⟨n.val / 128, by omega⟩) ⟨n.val % 128, by omega⟩)
    (hg : ∀ l, (g (ix2 0 l) : EReal) = Cert.Ctx.slot (fun l => m ((c : Thread nD τ).loc main_arg8) (ix1 l)) l * Ideal.ofBits .f32 0x3DD105EC#32)
    (o : ℕ) (ho : o + 128 ≤ 1024) (h0 : o % 128 = 0) (r : Fin 256) (l : Fin 128) :
    queryPiece z g o ho r l = queryEntry m c (row t r) (⟨o + l.val, by omega⟩ : Fin 1024) := by
  have e1 : ∀ l : Fin 128, (⟨(o + l.val) / 128, by omega⟩ : Fin 8) = ⟨o / 128, by omega⟩ := fun l => Fin.ext (by simp only []; omega)
  have e2 : ∀ l : Fin 128, (⟨(o + l.val) % 128, by omega⟩ : Fin 128) = l := fun l => Fin.ext (by simp only []; omega)
  refine (Cert.Ctx.queryLane_eq (headRow m c (row t r) ⟨o / 128, by omega⟩) (fun l => m ((c : Thread nD τ).loc main_arg8) (ix1 l)) _ _ (fun l => (hz r _).trans ?_) hg l).trans ?_
  · simp only [e1, e2]
  · unfold queryEntry
    simp only [e1, e2]

/-- The array of the queries. -/
theorem queryArray (c : Dev nD) : (dats m 0 c).arrAt 12 cfg0.N = fun y => queryEntry m c (y 0) (y 1) := by
  refine (dats m 0 c).arrAt_eq_of_covers 12 _ (by decide +kernel) fun t hf y => ?_
  obtain ⟨r, n, rfl⟩ : ∃ (r : Fin 256) (n : Fin 1024), y = ix2 r n := ⟨y 0, y 1, by funext k; fin_cases k <;> rfl⟩
  rw [show ((cfg0.win 12).blk t).view.emb (ix2 r n) = ix2 (row t r) n by blk_ext [headIdx t, row]]
  blk_simp
  rw [after0_12]
  frame_out
  simp only [openQuery, openQueryScale]
  refine View.canon_apply_of_pieces (Val := Elt Ideal) (fun y : S256x1024.Idx => queryEntry m c (row t (y 0)) (y 1)) _ ?_ (ix2 r n) (cover0_12 _ _ _ _ _ _ _ _ _)
  have hz := blockQuery m c t
  have hg := blockQueryScale m c t
  generalize k0_pay53 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) = v at hz ⊢
  intro p hp
  simp only [List.mem_cons, List.not_mem_nil, or_false] at hp
  rcases hp with rfl | rfl | rfl | rfl | rfl | rfl | rfl | rfl
  · exact pieceOf (queryEntry m c) t 896 (by omega) inb_S256x1024_S256x128_0_896 _ fun r l => (query7 _ _ r l).trans (queryAt m c t _ _ hz hg 896 _ rfl r l)
  · exact pieceOf (queryEntry m c) t 768 (by omega) inb_S256x1024_S256x128_0_768 _ fun r l => (query6 _ _ r l).trans (queryAt m c t _ _ hz hg 768 _ rfl r l)
  · exact pieceOf (queryEntry m c) t 640 (by omega) inb_S256x1024_S256x128_0_640 _ fun r l => (query5 _ _ r l).trans (queryAt m c t _ _ hz hg 640 _ rfl r l)
  · exact pieceOf (queryEntry m c) t 512 (by omega) inb_S256x1024_S256x128_0_512 _ fun r l => (query4 _ _ r l).trans (queryAt m c t _ _ hz hg 512 _ rfl r l)
  · exact pieceOf (queryEntry m c) t 384 (by omega) inb_S256x1024_S256x128_0_384 _ fun r l => (query3 _ _ r l).trans (queryAt m c t _ _ hz hg 384 _ rfl r l)
  · exact pieceOf (queryEntry m c) t 256 (by omega) inb_S256x1024_S256x128_0_256 _ fun r l => (query2 _ _ r l).trans (queryAt m c t _ _ hz hg 256 _ rfl r l)
  · exact pieceOf (queryEntry m c) t 128 (by omega) inb_S256x1024_S256x128_0_128 _ fun r l => (query1 _ _ _ _ r l).trans (queryAt m c t _ _ hz hg 128 _ rfl r l)
  · exact pieceOf (queryEntry m c) t 0 (by omega) inb_S256x1024_S256x128_0_0 _ fun r l => (query0 _ _ _ _ r l).trans (queryAt m c t _ _ hz hg 0 _ rfl r l)

/-- The expanded latent rows of a block. -/
theorem blockKey (c : Dev nD) (t : Fin cfg0.N) (r : Fin 256) (n : Fin 1024) :
    (k0_pay23 (k0_pay57 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t)) (iblk m c 7 t) (ix2 r n) : EReal)
      = if hl : n.val % 128 < 64 then keyRow m c (row t r) ⟨n.val / 128, by omega⟩ ⟨n.val % 128, hl⟩ else 0 := by
  rw [openLatent]
  refine (expandKeyAt _ _ _ _ r n).trans ((Finset.sum_congr rfl fun j _ => congrArg₂ (· * ·) (blockLatent m c t r j _)
    ((readWk m c t j n).trans (hostWk m c j n))).trans ?_)
  split_ifs with hl
  · rfl
  · simp only [mul_zero, Finset.sum_const_zero]

/-- The position columns' products of a block. -/
theorem blockPlace (c : Dev nD) (t : Fin cfg0.N) (r : Fin 256) (l : Fin 128) :
    (k0_pay56 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix2 r l) : EReal)
      = if hl : 64 ≤ l.val ∧ l.val < 96 then peEntry m c (row t r) ⟨l.val - 64, by omega⟩ else 0 := by
  refine (openPlace _ _ _ _ _ _ _ _ _ _ _ _ r l).trans ?_
  split_ifs with hl
  · exact blockProj m c t r (⟨768 + (l.val - 64), by omega⟩ : Fin 3360) _ fun k =>
      (winCols m c t 768 128 (by omega) _ k l).trans (winAt m c t k _ _ (.inr (.inl ⟨by simp only []; omega, by simp only []; omega, by simp only []; omega⟩)))
  · refine (Finset.sum_congr rfl fun k _ => congrArg (_ * ·)
      ((winCols m c t 768 128 (by omega) _ k l).trans ((readWin m c t k _).trans (hostZero m c k l hl)))).trans ?_
    simp only [mul_zero, Finset.sum_const_zero]

/-- The keys' scales in a block. -/
theorem blockKeyScale (c : Dev nD) (t : Fin cfg0.N) (l : Fin 128) :
    (k0_pay58 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix2 0 l) : EReal)
      = Cert.Ctx.slot (fun l => m ((c : Thread nD τ).loc main_arg9) (ix1 l)) l :=
  (congrFun (openKeyScale _ _ _ _ _ _ _ _ _ _ _ _) _).trans ((keyScale _ l).trans ((readKg m c t l).trans (hostKg m c l)))

/-- A key's lane in a block is the token's entry at the column where it is written. -/
theorem keyAt (c : Dev nD) (t : Fin cfg0.N) (z : FVec Ideal S256x1024 .f32) (p : FVec Ideal S256x128 .f32) (g : FVec Ideal S1x128 .f32)
    (hz : ∀ (r : Fin 256) (n : Fin 1024), (z (ix2 r n) : EReal) = if hl : n.val % 128 < 64 then keyRow m c (row t r) ⟨n.val / 128, by omega⟩ ⟨n.val % 128, hl⟩ else 0)
    (hp : ∀ (r : Fin 256) (l : Fin 128), (p (ix2 r l) : EReal) = if hl : 64 ≤ l.val ∧ l.val < 96 then peEntry m c (row t r) ⟨l.val - 64, by omega⟩ else 0)
    (hg : ∀ l, (g (ix2 0 l) : EReal) = Cert.Ctx.slot (fun l => m ((c : Thread nD τ).loc main_arg9) (ix1 l)) l)
    (o : ℕ) (ho : o + 128 ≤ 1024) (h0 : o % 128 = 0) (r : Fin 256) (l : Fin 128) :
    keyPiece z p g o ho r l = keyEntry m c (row t r) (⟨o + l.val, by omega⟩ : Fin 1024) := by
  have e1 : ∀ l : Fin 128, (⟨(o + l.val) / 128, by omega⟩ : Fin 8) = ⟨o / 128, by omega⟩ := fun l => Fin.ext (by simp only []; omega)
  have e3 : ∀ l : Fin 128, (o + l.val) % 128 = l.val := fun l => by omega
  have e2 : ∀ l : Fin 128, (⟨(o + l.val) % 128, by omega⟩ : Fin 128) = l := fun l => Fin.ext (e3 l)
  refine (Cert.Attn.keyLane_eq (keyRow m c (row t r) ⟨o / 128, by omega⟩) (peEntry m c (row t r)) (fun l => m ((c : Thread nD τ).loc main_arg9) (ix1 l))
    _ _ _ (fun l => (hz r _).trans ?_) (hp r) hg l).trans ?_
  · simp only [e1, e3]
  · unfold keyEntry
    simp only [e1, e2]
    rfl

/-- The array of the keys. -/
theorem keyArray (c : Dev nD) : (dats m 0 c).arrAt 13 cfg0.N = fun y => keyEntry m c (y 0) (y 1) := by
  refine (dats m 0 c).arrAt_eq_of_covers 13 _ (by decide +kernel) fun t hf y => ?_
  obtain ⟨r, n, rfl⟩ : ∃ (r : Fin 256) (n : Fin 1024), y = ix2 r n := ⟨y 0, y 1, by funext k; fin_cases k <;> rfl⟩
  rw [show ((cfg0.win 13).blk t).view.emb (ix2 r n) = ix2 (row t r) n by blk_ext [headIdx t, row]]
  blk_simp
  rw [after0_13]
  frame_out
  simp only [openKey, openSquare, openScaled]
  refine View.canon_apply_of_pieces (Val := Elt Ideal) (fun y : S256x1024.Idx => keyEntry m c (row t (y 0)) (y 1)) _ ?_ (ix2 r n) (cover0_13 _ _ _ _ _ _ _ _ _)
  have hz := blockKey m c t
  have hp' := blockPlace m c t
  have hg := blockKeyScale m c t
  generalize k0_pay57 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) = v at hz ⊢
  generalize k0_pay56 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) = p at hp' ⊢
  generalize k0_pay58 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) = g at hg ⊢
  intro q hp
  simp only [List.mem_cons, List.not_mem_nil, or_false] at hp
  rcases hp with rfl | rfl | rfl | rfl | rfl | rfl | rfl | rfl
  · exact pieceOf (keyEntry m c) t 896 (by omega) inb_S256x1024_S256x128_0_896 _ fun r l => (key7 _ _ _ r l).trans (keyAt m c t _ _ _ hz hp' hg 896 _ rfl r l)
  · exact pieceOf (keyEntry m c) t 768 (by omega) inb_S256x1024_S256x128_0_768 _ fun r l => (key6 _ _ _ r l).trans (keyAt m c t _ _ _ hz hp' hg 768 _ rfl r l)
  · exact pieceOf (keyEntry m c) t 640 (by omega) inb_S256x1024_S256x128_0_640 _ fun r l => (key5 _ _ _ r l).trans (keyAt m c t _ _ _ hz hp' hg 640 _ rfl r l)
  · exact pieceOf (keyEntry m c) t 512 (by omega) inb_S256x1024_S256x128_0_512 _ fun r l => (key4 _ _ _ r l).trans (keyAt m c t _ _ _ hz hp' hg 512 _ rfl r l)
  · exact pieceOf (keyEntry m c) t 384 (by omega) inb_S256x1024_S256x128_0_384 _ fun r l => (key3 _ _ _ r l).trans (keyAt m c t _ _ _ hz hp' hg 384 _ rfl r l)
  · exact pieceOf (keyEntry m c) t 256 (by omega) inb_S256x1024_S256x128_0_256 _ fun r l => (key2 _ _ _ r l).trans (keyAt m c t _ _ _ hz hp' hg 256 _ rfl r l)
  · exact pieceOf (keyEntry m c) t 128 (by omega) inb_S256x1024_S256x128_0_128 _ fun r l => (key1 _ _ _ _ r l).trans (keyAt m c t _ _ _ hz hp' hg 128 _ rfl r l)
  · exact pieceOf (keyEntry m c) t 0 (by omega) inb_S256x1024_S256x128_0_0 _ fun r l => (key0 _ _ _ _ r l).trans (keyAt m c t _ _ _ hz hp' hg 0 _ rfl r l)

end Cert.Kernel3Ideal.Ctx

end
-- ==== Proof.CtxRef.lean ====
module

public import proofs.«01_k».proof.Proof.Rows
public import proofs.«01_k».proof.Proof.Gen.Reference3Ideal
public import Idealize.ShloMosaic.Lib.Pointwise
public import Idealize.ShloMosaic.Lib.Claim

/-! The reference input projection, read at coordinates. -/

@[expose] public section

set_option maxRecDepth 16384

noncomputable section

namespace Cert.Reference3Ideal.Ctx

open Cert.Reference3Ideal Cert.Reference3Ideal.Gen Idealize.ShloMosaic Idealize.ShloMosaic.TcCoe

/-- The modulated rows. -/
def rows (x : FVec Ideal S8192x1024 .f32) (md : FVec Ideal S8x6x1024 .f32) (g : FVec Ideal S1024 .f32) : FVec Ideal S8192x1024 .f32 :=
  addf (mulf (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) (broadcastInDim S8192x1024 ![0, 1] bcast_S1x1024_S8192x1024_0_1 (broadcastInDim S1x1024 ![1] bcast_S1024_S1x1024_1 (addf (broadcastInDim S1024 ![] bcast_S_S1024 (constant S_ .f32 0x3F800000#32)) (shapeCast _ (extractStridedSlice S1x1x1024 ![0, 1, 0] md slices_S8x6x1024_S1x1x1024_0_1_0) shapeCasts_S1x1x1024_S1024))))) (broadcastInDim S8192x1024 ![0, 1] bcast_S1x1024_S8192x1024_0_1 (broadcastInDim S1x1024 ![1] bcast_S1024_S1x1024_1 (shapeCast _ (extractStridedSlice S1x1x1024 ![0, 0, 0] md slices_S8x6x1024_S1x1x1024_0_0_0) shapeCasts_S1x1x1024_S1024)))

/-- A modulated row's entry. -/
theorem rowsAt (x : FVec Ideal S8192x1024 .f32) (md : FVec Ideal S8x6x1024 .f32) (g : FVec Ideal S1024 .f32) (r : Fin 8192) (k : Fin 1024) :
    rows x md g (ix2 r k)
      = Cert.Ctx.modulated (fun k => x (ix2 r k)) (fun k => g (ix1 k)) (fun k => md (ix3 0 1 k)) (fun k => md (ix3 0 0 k)) k := by
  unfold Cert.Ctx.modulated Cert.Ctx.normed
  pointwise [rows]

/-- The rows' products with the weights. -/
def prods (h : FVec Ideal S8192x1024 .f32) (w : FVec Ideal S1024x3360 .f32) : FVec Ideal S8192x3360 .f32 :=
  Host.dotGeneral dot_S8192x1024_S1024x3360_S8192x3360_1_0_0_1_n_n none h w

/-- A product's entry. -/
theorem prodsAt (h : FVec Ideal S8192x1024 .f32) (w : FVec Ideal S1024x3360 .f32) (r : Fin 8192) (n : Fin 3360) :
    prods h w (ix2 r n) = Cert.Ctx.proj (fun k => h (ix2 r k)) fun k => w (ix2 k n) := by
  unfold Cert.Ctx.proj
  pointwise [prods]

/-- The logistic of an array, rounded. -/
def logistic (z : FVec Ideal S8192x1024 .f32) : FVec Ideal S8192x1024 .bf16 :=
  truncf .bf16 (Host.divf (broadcastInDim S8192x1024 ![] bcast_S_S8192x1024 (constant S_ .f32 0x3F800000#32)) (addf (broadcastInDim S8192x1024 ![] bcast_S_S8192x1024 (constant S_ .f32 0x3F800000#32)) (Host.exp (Host.negf z)))) bitsLt_bf16_f32

/-- A logistic's entry. -/
theorem logisticAt (z : FVec Ideal S8192x1024 .f32) (r : Fin 8192) (n : Fin 1024) : logistic z (ix2 r n) = Cert.Ctx.gate (z (ix2 r n)) := by
  unfold Cert.Ctx.gate
  pointwise [logistic]

/-- Latent rows, normalised and scaled. -/
def latents (z : FVec Ideal S8192x256 .f32) (g : FVec Ideal S256 .f32) : FVec Ideal S8192x256 .f32 :=
  mulf (mulf z (broadcastInDim S8192x256 ![0, 1] bcast_S8192x1_S8192x256_0_1 (Host.rsqrt (addf (Host.divf (broadcastInDim S8192x1 ![0] bcast_S8192_S8192x1_0 (Host.reduceAdd (mulf z z) (constant S_ .f32 0x00000000#32) reducesTo_S8192x256_S8192_d1 h_S_)) (broadcastInDim S8192x1 ![] bcast_S_S8192x1 (constant S_ .f32 0x43800000#32))) (broadcastInDim S8192x1 ![] bcast_S_S8192x1 (constant S_ .f32 0x358637BD#32)))))) (broadcastInDim S8192x256 ![0, 1] bcast_S1x256_S8192x256_0_1 (broadcastInDim S1x256 ![1] bcast_S256_S1x256_1 g))

/-- A latent row's entry. -/
theorem latentsAt (z : FVec Ideal S8192x256 .f32) (g : FVec Ideal S256 .f32) (r : Fin 8192) (j : Fin 256) :
    latents z g (ix2 r j) = Cert.Ctx.latent (fun j => z (ix2 r j)) (fun j => g (ix1 j)) j := by
  unfold Cert.Ctx.latent Cert.Ctx.normed
  pointwise [latents]

/-- The attention gates' columns of the products. -/
def gateCols (p : FVec Ideal S8192x3360 .f32) : FVec Ideal S8192x1024 .f32 :=
  extractStridedSlice S8192x1024 ![0, 1312] p slices_S8192x3360_S8192x1024_0_1312

/-- The Fourier gates' columns of the products. -/
def fourierCols (p : FVec Ideal S8192x3360 .f32) : FVec Ideal S8192x1024 .f32 :=
  extractStridedSlice S8192x1024 ![0, 2336] p slices_S8192x3360_S8192x1024_0_2336

/-- The latent rows' columns of the products. -/
def latentCols (p : FVec Ideal S8192x3360 .f32) : FVec Ideal S8192x256 .f32 :=
  extractStridedSlice S8192x256 ![0, 512] p slices_S8192x3360_S8192x256_0_512

/-- The position keys' columns of the products. -/
def peCols (p : FVec Ideal S8192x3360 .f32) : FVec Ideal S8192x32 .f32 :=
  extractStridedSlice S8192x32 ![0, 768] p slices_S8192x3360_S8192x32_0_768

/-- An attention gate's entry of the products. -/
theorem gateColsAt (p : FVec Ideal S8192x3360 .f32) (r : Fin 8192) (n : Fin 1024) : gateCols p (ix2 r n) = p (ix2 r ⟨1312 + n.val, by omega⟩) := by
  pointwise [gateCols]

/-- A Fourier gate's entry of the products. -/
theorem fourierColsAt (p : FVec Ideal S8192x3360 .f32) (r : Fin 8192) (n : Fin 1024) : fourierCols p (ix2 r n) = p (ix2 r ⟨2336 + n.val, by omega⟩) := by
  pointwise [fourierCols]

/-- A latent row's entry of the products. -/
theorem latentColsAt (p : FVec Ideal S8192x3360 .f32) (r : Fin 8192) (n : Fin 256) : latentCols p (ix2 r n) = p (ix2 r ⟨512 + n.val, by omega⟩) := by
  pointwise [latentCols]

/-- A position key's entry of the products. -/
theorem peColsAt (p : FVec Ideal S8192x3360 .f32) (r : Fin 8192) (n : Fin 32) : peCols p (ix2 r n) = p (ix2 r ⟨768 + n.val, by omega⟩) := by
  pointwise [peCols]

/-- The heads' values: the latent rows expanded, each head's later half kept. -/
def values (l : FVec Ideal S8192x256 .f32) (w : FVec Ideal S256x1024 .f32) : FVec Ideal S8192x512 .bf16 :=
  truncf .bf16 (shapeCast S8192x512 (extractStridedSlice S8192x8x64 ![0, 0, 64] (shapeCast S8192x8x128 (Host.dotGeneral dot_S8192x256_S256x1024_S8192x1024_1_0_0_1_n_n none l w) shapeCasts_S8192x1024_S8192x8x128) slices_S8192x8x128_S8192x8x64_0_0_64) shapeCasts_S8192x8x64_S8192x512) bitsLt_bf16_f32

/-- An entry of the heads' values. -/
theorem valuesAt (l : FVec Ideal S8192x256 .f32) (w : FVec Ideal S256x1024 .f32) (r : Fin 8192) (n : Fin 512) :
    (values l w (ix2 r n) : EReal)
      = ∑ j : Fin 256, (l (ix2 r j) : EReal) * w (ix2 j (⟨n.val / 64 * 128 + (64 + n.val % 64), by omega⟩ : Fin 1024)) := by
  pointwise [values]

/-- The Fourier columns of the products. -/
def spectralCols (p : FVec Ideal S8192x3360 .f32) : FVec Ideal S8192x512 .f32 :=
  extractStridedSlice S8192x512 ![0, 800] p slices_S8192x3360_S8192x512_0_800

/-- An entry of the Fourier columns. -/
theorem spectralColsAt (p : FVec Ideal S8192x3360 .f32) (r : Fin 8192) (n : Fin 512) : spectralCols p (ix2 r n) = p (ix2 r ⟨800 + n.val, by omega⟩) := by
  pointwise [spectralCols]

/-- The groups' products with the table. -/
def groups (z : FVec Ideal S8192x512 .f32) (d : FVec Ideal S128x256 .bf16) : FVec Ideal S8192x4x256 .f32 :=
  Host.dotGeneral dot_S8192x4x128_S128x256_S8192x4x256_2_0_01_1_n_n none (shapeCast S8192x4x128 z shapeCasts_S8192x512_S8192x4x128) (extf .f32 d bitsLt_bf16_f32)

/-- An entry of a group's product. -/
theorem groupsAt (z : FVec Ideal S8192x512 .f32) (d : FVec Ideal S128x256 .bf16) (r : Fin 8192) (g : Fin 4) (n : Fin 256) :
    (groups z d (ix3 r g n) : EReal) = ∑ k : Fin 128, (z (ix2 r (⟨g.val * 128 + k.val, by omega⟩ : Fin 512)) : EReal) * d (ix2 k n) := by
  pointwise [groups]

/-- The groups' first halves side by side, and after them the second halves. -/
def halves (y : FVec Ideal S8192x4x256 .f32) : FVec Ideal S8192x1024 .bf16 :=
  truncf .bf16 (concatenate S8192x1024 1 [⟨S8192x512, (shapeCast S8192x512 (extractStridedSlice S8192x4x128 ![0, 0, 0] y slices_S8192x4x256_S8192x4x128_0_0_0) shapeCasts_S8192x4x128_S8192x512)⟩, ⟨S8192x512, (shapeCast S8192x512 (extractStridedSlice S8192x4x128 ![0, 0, 128] y slices_S8192x4x256_S8192x4x128_0_0_128) shapeCasts_S8192x4x128_S8192x512)⟩] concatenates_S8192x512_S8192x512_S8192x1024_d1) bitsLt_bf16_f32

/-- An entry of the halves. -/
theorem halvesAt (y : FVec Ideal S8192x4x256 .f32) (r : Fin 8192) (q : Fin 1024) :
    (halves y (ix2 r q) : EReal)
      = y (ix3 r (⟨q.val / 128 % 4, by omega⟩ : Fin 4) (⟨q.val / 512 * 128 + q.val % 128, by omega⟩ : Fin 256)) := by
  pointwise [halves]
  split
  · exact congrArg₂ (fun (a : Fin 4) (b : Fin 256) => y (ix3 r a b)) (Fin.ext (by simp only []; omega)) (Fin.ext (by simp only []; omega))
  · exact congrArg₂ (fun (a : Fin 4) (b : Fin 256) => y (ix3 r a b)) (Fin.ext (by simp only []; omega)) (Fin.ext (by simp only []; omega))

end Cert.Reference3Ideal.Ctx

end
-- ==== Proof.CtxHeadsRef.lean ====
module

public import proofs.«01_k».proof.Proof.CtxLanes
public import proofs.«01_k».proof.Proof.CtxRef

/-! The reference's queries and keys, read at coordinates. -/

@[expose] public section

set_option maxRecDepth 16384

noncomputable section

namespace Cert.Reference3Ideal.Ctx

open Cert.Reference3Ideal Cert.Reference3Ideal.Gen Idealize.ShloMosaic Idealize.ShloMosaic.TcCoe

/-- The queries' columns of the products. -/
def lowCols (p : FVec Ideal S8192x3360 .f32) : FVec Ideal S8192x512 .f32 :=
  extractStridedSlice S8192x512 ![0, 0] p slices_S8192x3360_S8192x512_0_0

/-- An entry of the queries' columns. -/
theorem lowColsAt (p : FVec Ideal S8192x3360 .f32) (r : Fin 8192) (n : Fin 512) : lowCols p (ix2 r n) = p (ix2 r ⟨n.val, by omega⟩) := by
  pointwise [lowCols]

/-- The queries' columns, normalised and scaled. -/
def lows (z : FVec Ideal S8192x512 .f32) (g : FVec Ideal S512 .f32) : FVec Ideal S8192x512 .f32 :=
  mulf (mulf z (broadcastInDim S8192x512 ![0, 1] bcast_S8192x1_S8192x512_0_1 (Host.rsqrt (addf (Host.divf (broadcastInDim S8192x1 ![0] bcast_S8192_S8192x1_0 (Host.reduceAdd (mulf z z) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))))) (broadcastInDim S8192x512 ![0, 1] bcast_S1x512_S8192x512_0_1 (broadcastInDim S1x512 ![1] bcast_S512_S1x512_1 g))

/-- An entry of them. -/
theorem lowsAt (z : FVec Ideal S8192x512 .f32) (g : FVec Ideal S512 .f32) (r : Fin 8192) (j : Fin 512) :
    (lows z g (ix2 r j) : EReal) = Cert.Ctx.normed 0x44000000#32 (fun j => z (ix2 r j)) j * g (ix1 j) := by
  unfold Cert.Ctx.normed
  pointwise [lows]

/-- The heads' rows of the queries. -/
def heads (y : FVec Ideal S8192x512 .f32) (w : FVec Ideal S512x768 .f32) : FVec Ideal S8192x8x96 .f32 :=
  shapeCast S8192x8x96 (Host.dotGeneral dot_S8192x512_S512x768_S8192x768_1_0_0_1_n_n none y w) shapeCasts_S8192x768_S8192x8x96

/-- An entry of a head's row. -/
theorem headsAt (y : FVec Ideal S8192x512 .f32) (w : FVec Ideal S512x768 .f32) (r : Fin 8192) (h : Fin 8) (l : Fin 96) :
    (heads y w (ix3 r h l) : EReal) = ∑ a : Fin 512, (y (ix2 r a) : EReal) * w (ix2 a (⟨h.val * 96 + l.val, by omega⟩ : Fin 768)) := by
  pointwise [heads]

/-- The heads' rows of the keys: the expanded part, then the shared position part. -/
def joins (y : FVec Ideal S8192x256 .f32) (w : FVec Ideal S256x1024 .f32) (p : FVec Ideal S8192x32 .f32) : FVec Ideal S8192x8x96 .f32 :=
  concatenate S8192x8x96 2 [⟨S8192x8x64, (extractStridedSlice S8192x8x64 ![0, 0, 0] (shapeCast S8192x8x128 (Host.dotGeneral dot_S8192x256_S256x1024_S8192x1024_1_0_0_1_n_n none y w) shapeCasts_S8192x1024_S8192x8x128) slices_S8192x8x128_S8192x8x64_0_0_0)⟩, ⟨S8192x8x32, (broadcastInDim S8192x8x32 ![0, 1, 2] bcast_S8192x1x32_S8192x8x32_0_1_2 (broadcastInDim S8192x1x32 ![0, 2] bcast_S8192x32_S8192x1x32_0_2 p))⟩] concatenates_S8192x8x64_S8192x8x32_S8192x8x96_d2

/-- An entry of a head's row. -/
theorem joinsAt (y : FVec Ideal S8192x256 .f32) (w : FVec Ideal S256x1024 .f32) (p : FVec Ideal S8192x32 .f32) (r : Fin 8192) (h : Fin 8) (l : Fin 96) :
    (joins y w p (ix3 r h l) : EReal)
      = Cert.Attn.joined (fun u => ∑ j : Fin 256, (y (ix2 r j) : EReal) * w (ix2 j (⟨h.val * 128 + u.val, by omega⟩ : Fin 1024))) (fun v => p (ix2 r v)) l := by
  unfold Cert.Attn.joined
  pointwise [joins]

/-- Heads' rows, normalised and scaled. -/
def norms (z : FVec Ideal S8192x8x96 .f32) (g : FVec Ideal S96 .f32) : FVec Ideal S8192x8x96 .f32 :=
  mulf (mulf z (broadcastInDim S8192x8x96 ![0, 1, 2] bcast_S8192x8x1_S8192x8x96_0_1_2 (Host.rsqrt (addf (Host.divf (broadcastInDim S8192x8x1 ![0, 1] bcast_S8192x8_S8192x8x1_0_1 (Host.reduceAdd (mulf z z) (constant S_ .f32 0x00000000#32) reducesTo_S8192x8x96_S8192x8_d2 h_S_)) (broadcastInDim S8192x8x1 ![] bcast_S_S8192x8x1 (constant S_ .f32 0x42C00000#32))) (broadcastInDim S8192x8x1 ![] bcast_S_S8192x8x1 (constant S_ .f32 0x358637BD#32)))))) (broadcastInDim S8192x8x96 ![0, 1, 2] bcast_S1x1x96_S8192x8x96_0_1_2 (broadcastInDim S1x1x96 ![2] bcast_S96_S1x1x96_2 g))

/-- An entry of them. -/
theorem normsAt (z : FVec Ideal S8192x8x96 .f32) (g : FVec Ideal S96 .f32) (r : Fin 8192) (h : Fin 8) (l : Fin 96) :
    (norms z g (ix3 r h l) : EReal) = Cert.Ctx.normed 0x42C00000#32 (fun l => z (ix3 r h l)) l * g (ix1 l) := by
  unfold Cert.Ctx.normed
  pointwise [norms]

/-- The attention's scale. -/
def scaled (z : FVec Ideal S8192x8x96 .f32) : FVec Ideal S8192x8x96 .f32 :=
  mulf z (broadcastInDim S8192x8x96 ![] bcast_S_S8192x8x96 (constant S_ .f32 0x3DD105EC#32))

/-- An entry of the scaled rows. -/
theorem scaledAt (z : FVec Ideal S8192x8x96 .f32) (r : Fin 8192) (h : Fin 8) (l : Fin 96) :
    (scaled z (ix3 r h l) : EReal) = z (ix3 r h l) * Ideal.ofBits .f32 0x3DD105EC#32 := by
  pointwise [scaled]

/-- Heads' rows in their slots. -/
def slots (z : FVec Ideal S8192x8x96 .f32) : FVec Ideal S8192x1024 .bf16 :=
  truncf .bf16 (shapeCast S8192x1024 (pad S8192x8x128 ![0, 0, 0] ![0, 0, 32] ![0, 0, 0] z (sitofp .f32 (constantI S_ 32 0#32)) pads_S8192x8x96_S8192x8x128_000_000_0320 h_S_) shapeCasts_S8192x8x128_S8192x1024) bitsLt_bf16_f32

/-- The word zero converts to zero. -/
theorem intZero : (FloatOps.sitofp FTy.f32 0#32 : Ideal .f32) = (0 : EReal) := by
  simp [FloatOps.sitofp]

/-- An entry of the slots. -/
theorem slotsAt (z : FVec Ideal S8192x8x96 .f32) (r : Fin 8192) (n : Fin 1024) :
    (slots z (ix2 r n) : EReal) = Cert.Ctx.slot (fun l => z (ix3 r (⟨n.val / 128, by omega⟩ : Fin 8) l)) ⟨n.val % 128, by omega⟩ := by
  unfold Cert.Ctx.slot
  pointwise [slots]
  rw [intZero]
  by_cases hl : n.val % 128 < 96
  · rw [dif_pos hl, dif_pos ⟨by omega, hl⟩]
  · rw [dif_neg hl, dif_neg (by omega)]

end Cert.Reference3Ideal.Ctx

end
-- ==== Proof.CtxCompare.lean ====
module

public import proofs.«01_k».proof.Proof.CtxHeadArrays
public import proofs.«01_k».proof.Proof.CtxHeadsRef

/-! The input projection's arrays are the reference's, of the same arguments. -/

@[expose] public section

set_option maxRecDepth 16384

noncomputable section

namespace Cert.Kernel3Ideal.Ctx

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The reference's products, of the arguments. -/
def refProds (c : Dev nD) : FVec Ideal Cert.Reference3Ideal.S8192x3360 .f32 :=
  Cert.Reference3Ideal.Ctx.prods
    (Cert.Reference3Ideal.Ctx.rows (m ((c : Thread nD τ).loc main_arg0)) (m ((c : Thread nD τ).loc main_arg1)) (m ((c : Thread nD τ).loc main_arg3)))
    (m ((c : Thread nD τ).loc main_arg2))

/-- A product's entry is the token's. -/
theorem refProdsAt (c : Dev nD) (i : Fin 8192) (n : Fin 3360) : refProds m c (ix2 i n) = tokenProj m c i n := by
  unfold refProds tokenProj tokenRow
  rw [Cert.Reference3Ideal.Ctx.prodsAt]
  exact Finset.sum_congr rfl fun k _ => congrArg (· * _) (Cert.Reference3Ideal.Ctx.rowsAt _ _ _ i k)

/-- The attention gates. -/
theorem gate_result (c : Dev nD) :
    Cert.Reference3Ideal.Ctx.logistic (Cert.Reference3Ideal.Ctx.gateCols (refProds m c)) = (dats m 0 c).arrAt 16 cfg0.N := by
  rw [gateArray]
  funext y
  obtain ⟨i, n, rfl⟩ : ∃ (i : Fin 8192) (n : Fin 1024), y = ix2 i n := ⟨y 0, y 1, by funext k; fin_cases k <;> rfl⟩
  rw [Cert.Reference3Ideal.Ctx.logisticAt, Cert.Reference3Ideal.Ctx.gateColsAt, refProdsAt]
  rfl

/-- The Fourier gates. -/
theorem fourier_result (c : Dev nD) :
    Cert.Reference3Ideal.Ctx.logistic (Cert.Reference3Ideal.Ctx.fourierCols (refProds m c)) = (dats m 0 c).arrAt 17 cfg0.N := by
  rw [fourierArray]
  funext y
  obtain ⟨i, n, rfl⟩ : ∃ (i : Fin 8192) (n : Fin 1024), y = ix2 i n := ⟨y 0, y 1, by funext k; fin_cases k <;> rfl⟩
  rw [Cert.Reference3Ideal.Ctx.logisticAt, Cert.Reference3Ideal.Ctx.fourierColsAt, refProdsAt]
  rfl

/-- The latent rows. -/
theorem latent_result (c : Dev nD) :
    Cert.Reference3Ideal.Ctx.latents (Cert.Reference3Ideal.Ctx.latentCols (refProds m c)) (m ((c : Thread nD τ).loc main_arg6))
      = (dats m 0 c).arrAt 18 cfg0.N := by
  rw [latentArray]
  funext y
  obtain ⟨i, n, rfl⟩ : ∃ (i : Fin 8192) (n : Fin 256), y = ix2 i n := ⟨y 0, y 1, by funext k; fin_cases k <;> rfl⟩
  rw [Cert.Reference3Ideal.Ctx.latentsAt]
  exact congrArg (fun z => Cert.Ctx.latent z _ n) (funext fun j => (Cert.Reference3Ideal.Ctx.latentColsAt _ i j).trans (refProdsAt m c i _))

/-- The position keys. -/
theorem pe_result (c : Dev nD) :
    Cert.Reference3Ideal.Ctx.peCols (refProds m c) = (dats m 0 c).arrAt 19 cfg0.N := by
  rw [peArray]
  funext y
  obtain ⟨i, n, rfl⟩ : ∃ (i : Fin 8192) (n : Fin 32), y = ix2 i n := ⟨y 0, y 1, by funext k; fin_cases k <;> rfl⟩
  rw [Cert.Reference3Ideal.Ctx.peColsAt, refProdsAt]
  rfl

/-- The heads' values. -/
theorem value_result (c : Dev nD) :
    Cert.Reference3Ideal.Ctx.values
        (Cert.Reference3Ideal.Ctx.latents (Cert.Reference3Ideal.Ctx.latentCols (refProds m c)) (m ((c : Thread nD τ).loc main_arg6)))
        (m ((c : Thread nD τ).loc main_arg7))
      = (dats m 0 c).arrAt 14 cfg0.N := by
  rw [latent_result, latentArray, valueArray]
  funext y
  obtain ⟨i, n, rfl⟩ : ∃ (i : Fin 8192) (n : Fin 512), y = ix2 i n := ⟨y 0, y 1, by funext k; fin_cases k <;> rfl⟩
  exact Cert.Reference3Ideal.Ctx.valuesAt _ _ i n

/-- The channel transforms. -/
theorem spec_result (c : Dev nD) :
    Cert.Reference3Ideal.Ctx.halves
        (Cert.Reference3Ideal.Ctx.groups (Cert.Reference3Ideal.Ctx.spectralCols (refProds m c)) (m ((c : Thread nD τ).loc main_arg10)))
      = (dats m 0 c).arrAt 15 cfg0.N := by
  rw [specArray]
  funext y
  obtain ⟨i, q, rfl⟩ : ∃ (i : Fin 8192) (q : Fin 1024), y = ix2 i q := ⟨y 0, y 1, by funext k; fin_cases k <;> rfl⟩
  refine (Cert.Reference3Ideal.Ctx.halvesAt _ i q).trans ((Cert.Reference3Ideal.Ctx.groupsAt _ _ i _ _).trans ?_)
  exact Finset.sum_congr rfl fun k _ => congrArg (· * _) ((Cert.Reference3Ideal.Ctx.spectralColsAt _ i _).trans (refProdsAt m c i _))

/-- The queries' norm, of the reference's columns. -/
theorem refLowsAt (c : Dev nD) (i : Fin 8192) (a : Fin 512) :
    (Cert.Reference3Ideal.Ctx.lows (Cert.Reference3Ideal.Ctx.lowCols (refProds m c)) (m ((c : Thread nD τ).loc main_arg4)) (ix2 i a) : EReal)
      = lowEntry m c i a :=
  (Cert.Reference3Ideal.Ctx.lowsAt _ _ i a).trans (congrArg (fun z => Cert.Ctx.normed 0x44000000#32 z a * _)
    (funext fun j => (Cert.Reference3Ideal.Ctx.lowColsAt _ i j).trans (refProdsAt m c i _)))

/-- The heads' queries. -/
theorem query_result (c : Dev nD) :
    Cert.Reference3Ideal.Ctx.slots (Cert.Reference3Ideal.Ctx.scaled (Cert.Reference3Ideal.Ctx.norms
        (Cert.Reference3Ideal.Ctx.heads
          (Cert.Reference3Ideal.Ctx.lows (Cert.Reference3Ideal.Ctx.lowCols (refProds m c)) (m ((c : Thread nD τ).loc main_arg4)))
          (m ((c : Thread nD τ).loc main_arg5)))
        (m ((c : Thread nD τ).loc main_arg8))))
      = (dats m 0 c).arrAt 12 cfg0.N := by
  rw [queryArray]
  funext y
  obtain ⟨i, n, rfl⟩ : ∃ (i : Fin 8192) (n : Fin 1024), y = ix2 i n := ⟨y 0, y 1, by funext k; fin_cases k <;> rfl⟩
  refine (Cert.Reference3Ideal.Ctx.slotsAt _ i n).trans (congrArg (fun f => Cert.Ctx.slot f _) (funext fun l => ?_))
  refine (Cert.Reference3Ideal.Ctx.scaledAt _ i _ l).trans (congrArg (· * _) ((Cert.Reference3Ideal.Ctx.normsAt _ _ i _ l).trans ?_))
  refine congrArg (fun f => Cert.Ctx.normed 0x42C00000#32 f l * _) (funext fun l => (Cert.Reference3Ideal.Ctx.headsAt _ _ i _ l).trans ?_)
  exact Finset.sum_congr rfl fun a _ => congrArg (· * _) (refLowsAt m c i a)

/-- The heads' keys. -/
theorem key_result (c : Dev nD) :
    Cert.Reference3Ideal.Ctx.slots (Cert.Reference3Ideal.Ctx.norms
        (Cert.Reference3Ideal.Ctx.joins
          (Cert.Reference3Ideal.Ctx.latents (Cert.Reference3Ideal.Ctx.latentCols (refProds m c)) (m ((c : Thread nD τ).loc main_arg6)))
          (m ((c : Thread nD τ).loc main_arg7)) (Cert.Reference3Ideal.Ctx.peCols (refProds m c)))
        (m ((c : Thread nD τ).loc main_arg9)))
      = (dats m 0 c).arrAt 13 cfg0.N := by
  rw [latent_result, latentArray, pe_result, peArray, keyArray]
  funext y
  obtain ⟨i, n, rfl⟩ : ∃ (i : Fin 8192) (n : Fin 1024), y = ix2 i n := ⟨y 0, y 1, by funext k; fin_cases k <;> rfl⟩
  refine (Cert.Reference3Ideal.Ctx.slotsAt _ i n).trans (congrArg (fun f => Cert.Ctx.slot f _) (funext fun l => ?_))
  refine (Cert.Reference3Ideal.Ctx.normsAt _ _ i _ l).trans ?_
  exact congrArg (fun f => Cert.Ctx.normed 0x42C00000#32 f l * _) (funext fun l => Cert.Reference3Ideal.Ctx.joinsAt _ _ _ i _ l)

end Cert.Kernel3Ideal.Ctx

end
-- ==== Proof.CtxClaim.lean ====
module

public import proofs.«01_k».proof.Defs
public import proofs.«01_k».proof.Proof.Gen.Reference3Ideal.Run
public import proofs.«01_k».proof.Proof.CtxCompare

/-! The input projection's claim of values, from the two runs. -/

@[expose] public section

set_option maxRecDepth 16384

noncomputable section

namespace Cert.Kernel3Ideal.Ctx

open Idealize.ShloMosaic Idealize.ShloMosaic.TcCoe Idealize.SL.Sem

/-- The reference's values, by name. -/
theorem ref_value (m' : (ℓ : Loc Cert.Reference3Ideal.nD Cert.Reference3Ideal.τ Cert.Reference3Ideal.sig) → Buf (Elt Ideal) ℓ) (c : Dev Cert.Reference3Ideal.nD) :
    Cert.Reference3Ideal.Value.res_main_v112 m' c
      = Cert.Reference3Ideal.Ctx.values
        (Cert.Reference3Ideal.Ctx.latents
          (Cert.Reference3Ideal.Ctx.latentCols
            (Cert.Reference3Ideal.Ctx.prods
              (Cert.Reference3Ideal.Ctx.rows (m' ((c : Thread Cert.Reference3Ideal.nD Cert.Reference3Ideal.τ).loc Cert.Reference3Ideal.main_arg0)) (m' ((c : Thread Cert.Reference3Ideal.nD Cert.Reference3Ideal.τ).loc Cert.Reference3Ideal.main_arg1))
                (m' ((c : Thread Cert.Reference3Ideal.nD Cert.Reference3Ideal.τ).loc Cert.Reference3Ideal.main_arg3)))
              (m' ((c : Thread Cert.Reference3Ideal.nD Cert.Reference3Ideal.τ).loc Cert.Reference3Ideal.main_arg2))))
          (m' ((c : Thread Cert.Reference3Ideal.nD Cert.Reference3Ideal.τ).loc Cert.Reference3Ideal.main_arg6)))
        (m' ((c : Thread Cert.Reference3Ideal.nD Cert.Reference3Ideal.τ).loc Cert.Reference3Ideal.main_arg7)) := rfl

/-- The reference's queries, by name. -/
theorem ref_query (m' : (ℓ : Loc Cert.Reference3Ideal.nD Cert.Reference3Ideal.τ Cert.Reference3Ideal.sig) → Buf (Elt Ideal) ℓ) (c : Dev Cert.Reference3Ideal.nD) :
    Cert.Reference3Ideal.Value.res_main_v108 m' c
      = Cert.Reference3Ideal.Ctx.slots (Cert.Reference3Ideal.Ctx.scaled (Cert.Reference3Ideal.Ctx.norms
        (Cert.Reference3Ideal.Ctx.heads
          (Cert.Reference3Ideal.Ctx.lows
            (Cert.Reference3Ideal.Ctx.lowCols
            (Cert.Reference3Ideal.Ctx.prods
              (Cert.Reference3Ideal.Ctx.rows (m' ((c : Thread Cert.Reference3Ideal.nD Cert.Reference3Ideal.τ).loc Cert.Reference3Ideal.main_arg0)) (m' ((c : Thread Cert.Reference3Ideal.nD Cert.Reference3Ideal.τ).loc Cert.Reference3Ideal.main_arg1))
                (m' ((c : Thread Cert.Reference3Ideal.nD Cert.Reference3Ideal.τ).loc Cert.Reference3Ideal.main_arg3)))
              (m' ((c : Thread Cert.Reference3Ideal.nD Cert.Reference3Ideal.τ).loc Cert.Reference3Ideal.main_arg2))))
            (m' ((c : Thread Cert.Reference3Ideal.nD Cert.Reference3Ideal.τ).loc Cert.Reference3Ideal.main_arg4)))
          (m' ((c : Thread Cert.Reference3Ideal.nD Cert.Reference3Ideal.τ).loc Cert.Reference3Ideal.main_arg5)))
        (m' ((c : Thread Cert.Reference3Ideal.nD Cert.Reference3Ideal.τ).loc Cert.Reference3Ideal.main_arg8)))) := rfl

/-- The reference's keys, by name. -/
theorem ref_key (m' : (ℓ : Loc Cert.Reference3Ideal.nD Cert.Reference3Ideal.τ Cert.Reference3Ideal.sig) → Buf (Elt Ideal) ℓ) (c : Dev Cert.Reference3Ideal.nD) :
    Cert.Reference3Ideal.Value.res_main_v111 m' c
      = Cert.Reference3Ideal.Ctx.slots (Cert.Reference3Ideal.Ctx.norms
        (Cert.Reference3Ideal.Ctx.joins
          (Cert.Reference3Ideal.Ctx.latents
            (Cert.Reference3Ideal.Ctx.latentCols
            (Cert.Reference3Ideal.Ctx.prods
              (Cert.Reference3Ideal.Ctx.rows (m' ((c : Thread Cert.Reference3Ideal.nD Cert.Reference3Ideal.τ).loc Cert.Reference3Ideal.main_arg0)) (m' ((c : Thread Cert.Reference3Ideal.nD Cert.Reference3Ideal.τ).loc Cert.Reference3Ideal.main_arg1))
                (m' ((c : Thread Cert.Reference3Ideal.nD Cert.Reference3Ideal.τ).loc Cert.Reference3Ideal.main_arg3)))
              (m' ((c : Thread Cert.Reference3Ideal.nD Cert.Reference3Ideal.τ).loc Cert.Reference3Ideal.main_arg2))))
            (m' ((c : Thread Cert.Reference3Ideal.nD Cert.Reference3Ideal.τ).loc Cert.Reference3Ideal.main_arg6)))
          (m' ((c : Thread Cert.Reference3Ideal.nD Cert.Reference3Ideal.τ).loc Cert.Reference3Ideal.main_arg7))
          (Cert.Reference3Ideal.Ctx.peCols
            (Cert.Reference3Ideal.Ctx.prods
              (Cert.Reference3Ideal.Ctx.rows (m' ((c : Thread Cert.Reference3Ideal.nD Cert.Reference3Ideal.τ).loc Cert.Reference3Ideal.main_arg0)) (m' ((c : Thread Cert.Reference3Ideal.nD Cert.Reference3Ideal.τ).loc Cert.Reference3Ideal.main_arg1))
                (m' ((c : Thread Cert.Reference3Ideal.nD Cert.Reference3Ideal.τ).loc Cert.Reference3Ideal.main_arg3)))
              (m' ((c : Thread Cert.Reference3Ideal.nD Cert.Reference3Ideal.τ).loc Cert.Reference3Ideal.main_arg2)))))
        (m' ((c : Thread Cert.Reference3Ideal.nD Cert.Reference3Ideal.τ).loc Cert.Reference3Ideal.main_arg9))) := rfl

set_option maxHeartbeats 1000000 in
/-- The idealized input projection's queries, keys, values, channel transforms, gates, latent rows and position keys are the reference's. -/
theorem algebraic3 : Cert.algebraic_Kernel3Ideal_Reference3Ideal (hKernel3Ideal := Cert.Kernel3Ideal.Gen.facts) (hReference3Ideal := Cert.Reference3Ideal.Gen.facts) := by
  pair_intro
  · run_from Cert.Kernel3Ideal.Value.run_blocks m g
  · run_from Cert.Reference3Ideal.Value.run m' g'
    · obtain ⟨a0, a1, a2, a3, a4, a5, a6, a7, a8, a9, a10⟩ := hagree c
      rw [ref_query, a0, a1, a2, a3, a4, a5, a8]
      exact query_result m c
    · obtain ⟨a0, a1, a2, a3, a4, a5, a6, a7, a8, a9, a10⟩ := hagree c
      rw [ref_key, a0, a1, a2, a3, a6, a7, a9]
      exact key_result m c
    · obtain ⟨a0, a1, a2, a3, a4, a5, a6, a7, a8, a9, a10⟩ := hagree c
      rw [ref_value, a0, a1, a2, a3, a6, a7]
      exact value_result m c
    · obtain ⟨a0, a1, a2, a3, a4, a5, a6, a7, a8, a9, a10⟩ := hagree c
      rw [a10]
      exact spec_result m c
    · exact gate_result m c
    · exact fourier_result m c
    · obtain ⟨a0, a1, a2, a3, a4, a5, a6, a7, a8, a9, a10⟩ := hagree c
      unfold Cert.Reference3Ideal.Value.res_main_v44
      rw [a0, a1, a2, a3, a6]
      exact latent_result m c
    · exact pe_result m c

end Cert.Kernel3Ideal.Ctx

end
-- ==== Proof.MergeRows.lean ====
module

public import proofs.«01_k».proof.Proof.Rows

/-! A row of the merge of the two branches, as functions of the branches' rows, the gates and the weights: the values that
both programs of the merge compute. -/

@[expose] public section

noncomputable section

namespace Cert.Merge

open Idealize.ShloMosaic

/-- An entry of the gated sum of the two branches: each branch's row times a column of its weights, times its gate. -/
def mixed (a f wa wf : Fin 512 → EReal) (ga gf : EReal) : EReal := ga * (∑ k : Fin 512, a k * wa k) + gf * ∑ k : Fin 512, f k * wf k

/-- An entry of the residual stream after the mixing: the entry before it, plus the gated product of the mixed row with a
column of the output weights. -/
def stream (x g : EReal) (u w : Fin 1024 → EReal) : EReal := x + g * Cert.Ctx.proj u w

end Cert.Merge

end
-- ==== Proof.MergeReads.lean ====
module

public import proofs.«01_k».proof.Proof.Gen.Kernel4Ideal.Frame
public import proofs.«01_k».proof.Proof.MergeRows
public import Idealize.ShloMosaic.Lib.Pipeline.ValueKit
public import Idealize.ShloMosaic.Lib.Pointwise
public import Idealize.ShloMosaic.Lib.Claim

/-! Where the blocks that a grid point of the merge loads lie in the call's arguments. Point `t` works on the 256 tokens of
tile `t`. -/

@[expose] public section

set_option maxRecDepth 16384

noncomputable section

namespace Cert.Kernel4Ideal.Merge

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The block index of the input windows that the two claimed results depend on, at every point. -/
theorem idx : ∀ t : Fin grid0.N,
    win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0
    ∧ win0_5.index t 0 = 0 ∧ win0_5.index t 1 = 0 ∧ win0_5.index t 2 = 0
    ∧ win0_6.index t 0 = 0 ∧ win0_6.index t 1 = 0 ∧ win0_7.index t 0 = 0 ∧ win0_7.index t 1 = 0
    ∧ win0_8.index t 0 = 0 ∧ win0_8.index t 1 = 0 ∧ win0_9.index t 0 = 0 ∧ win0_9.index t 1 = 0 := by
  decide +kernel

/-- There are 32 grid points. -/
theorem point_lt (t : Fin cfg0.N) : t.val < 32 := t.isLt

/-- Token `r` of a grid point's tile, among all tokens. -/
def row (t : Fin cfg0.N) (r : Fin 256) : Fin 8192 := ⟨t.val * 256 + r.val, by have := point_lt t; omega⟩

/-- The stream's block holds the tile's rows. -/
theorem readX (c : Dev nD) (t : Fin cfg0.N) (r : Fin 256) (n : Fin 1024) :
    iblk m c 0 t (ix2 r n) = m ((c : Thread nD τ).loc main_arg0) (ix2 (row t r) n) := by
  blk_ext [iblk, V, idx t, row]

/-- The attention's block holds the tile's rows. -/
theorem readAttn (c : Dev nD) (t : Fin cfg0.N) (r : Fin 256) (n : Fin 512) :
    iblk m c 1 t (ix2 r n) = m ((c : Thread nD τ).loc main_arg1) (ix2 (row t r) n) := by
  blk_ext [iblk, V, idx t, row]

/-- The Fourier mixing's block holds the tile's rows. -/
theorem readFm (c : Dev nD) (t : Fin cfg0.N) (r : Fin 256) (n : Fin 512) :
    iblk m c 2 t (ix2 r n) = m ((c : Thread nD τ).loc main_arg2) (ix2 (row t r) n) := by
  blk_ext [iblk, V, idx t, row]

/-- The attention gate's block holds the tile's rows. -/
theorem readGa (c : Dev nD) (t : Fin cfg0.N) (r : Fin 256) (n : Fin 1024) :
    iblk m c 3 t (ix2 r n) = m ((c : Thread nD τ).loc main_arg3) (ix2 (row t r) n) := by
  blk_ext [iblk, V, idx t, row]

/-- The Fourier gate's block holds the tile's rows. -/
theorem readGf (c : Dev nD) (t : Fin cfg0.N) (r : Fin 256) (n : Fin 1024) :
    iblk m c 4 t (ix2 r n) = m ((c : Thread nD τ).loc main_arg4) (ix2 (row t r) n) := by
  blk_ext [iblk, V, idx t, row]

/-- The modulation's block is its first row. -/
theorem readMod (c : Dev nD) (t : Fin cfg0.N) (k : Fin 6) (n : Fin 1024) :
    iblk m c 5 t (ix3 0 k n) = m ((c : Thread nD τ).loc main_arg5) (ix3 0 k n) := by
  blk_ext [iblk, V, idx t]

/-- The attention's output weights, as the operations before the launch leave them, are the argument. -/
theorem hostWa (c : Dev nD) (k : Fin 512) (n : Fin 1024) : (V m c main_v7 (ix2 k n) : EReal) = m ((c : Thread nD τ).loc main_arg6) (ix2 k n) := by
  simp only [V, hostOps0, List.flatten_cons, List.flatten_nil, List.append_nil, List.cons_append, List.nil_append]
  entry_read
  pointwise

/-- The Fourier branch's weights are the argument. -/
theorem hostWf (c : Dev nD) (k : Fin 512) (n : Fin 1024) : (V m c main_v8 (ix2 k n) : EReal) = m ((c : Thread nD τ).loc main_arg7) (ix2 k n) := by
  simp only [V, hostOps0, List.flatten_cons, List.flatten_nil, List.append_nil, List.cons_append, List.nil_append]
  entry_read
  pointwise

/-- The output weights are the argument. -/
theorem hostWo (c : Dev nD) (k : Fin 1024) (n : Fin 1024) : (V m c main_v9 (ix2 k n) : EReal) = m ((c : Thread nD τ).loc main_arg8) (ix2 k n) := by
  simp only [V, hostOps0, List.flatten_cons, List.flatten_nil, List.append_nil, List.cons_append, List.nil_append]
  entry_read
  pointwise

/-- The second norm's scale is the argument. -/
theorem hostG2 (c : Dev nD) (n : Fin 1024) : (V m c main_v10 (ix2 0 n) : EReal) = m ((c : Thread nD τ).loc main_arg9) (ix1 n) := by
  simp only [V, hostOps0, List.flatten_cons, List.flatten_nil, List.append_nil, List.cons_append, List.nil_append]
  entry_read
  pointwise

/-- The attention's output weights, at a point. -/
theorem readWa (c : Dev nD) (t : Fin cfg0.N) (k : Fin 512) (n : Fin 1024) :
    iblk m c 6 t (ix2 k n) = m ((c : Thread nD τ).loc main_arg6) (ix2 k n) :=
  (show iblk m c 6 t (ix2 k n) = V m c main_v7 (ix2 k n) by blk_ext [iblk, idx t]).trans (hostWa m c k n)

/-- The Fourier branch's weights, at a point. -/
theorem readWf (c : Dev nD) (t : Fin cfg0.N) (k : Fin 512) (n : Fin 1024) :
    iblk m c 7 t (ix2 k n) = m ((c : Thread nD τ).loc main_arg7) (ix2 k n) :=
  (show iblk m c 7 t (ix2 k n) = V m c main_v8 (ix2 k n) by blk_ext [iblk, idx t]).trans (hostWf m c k n)

/-- The output weights, at a point. -/
theorem readWo (c : Dev nD) (t : Fin cfg0.N) (k : Fin 1024) (n : Fin 1024) :
    iblk m c 8 t (ix2 k n) = m ((c : Thread nD τ).loc main_arg8) (ix2 k n) :=
  (show iblk m c 8 t (ix2 k n) = V m c main_v9 (ix2 k n) by blk_ext [iblk, idx t]).trans (hostWo m c k n)

/-- The second norm's scale, at a point. -/
theorem readG2 (c : Dev nD) (t : Fin cfg0.N) (n : Fin 1024) :
    iblk m c 9 t (ix2 0 n) = m ((c : Thread nD τ).loc main_arg9) (ix1 n) :=
  (show iblk m c 9 t (ix2 0 n) = V m c main_v10 (ix2 0 n) by blk_ext [iblk, idx t]).trans (hostG2 m c n)

end Cert.Kernel4Ideal.Merge

end
-- ==== Proof.MergeBlock.lean ====
module

public import proofs.«01_k».proof.Proof.MergeReads

/-! One grid point of the merge as arithmetic: the residual stream, and its modulated norm. -/

@[expose] public section

set_option maxRecDepth 16384

noncomputable section

namespace Cert.Kernel4Ideal.Merge

open Cert.Kernel4Ideal Cert.Kernel4Ideal.Gen Idealize.ShloMosaic Idealize.ShloMosaic.TcCoe Idealize.SL.Sem
open Idealize.ShloMosaic.Pipeline (Dat)

/-- An entry of the residual stream. -/
theorem streamAt (a : Vec Ideal S256x512 .bf16) (wa : Vec Ideal S512x1024 .bf16) (f : Vec Ideal S256x512 .bf16) (wf : Vec Ideal S512x1024 .bf16)
    (ga gf : Vec Ideal S256x1024 .bf16) (wo : Vec Ideal S1024x1024 .bf16) (x : Vec Ideal S256x1024 .f32) (g : Vec Ideal S1x1x1024 .f32)
    (r : Fin 256) (n : Fin 1024) :
    (k0_pay2 a wa f wf ga gf wo x g (ix2 r n) : EReal)
      = Cert.Merge.stream (x (ix2 r n)) (g (ix3 0 0 n))
          (fun k => Cert.Merge.mixed (fun j => a (ix2 r j)) (fun j => f (ix2 r j)) (fun j => wa (ix2 j k)) (fun j => wf (ix2 j k)) (ga (ix2 r k)) (gf (ix2 r k)))
          fun k => wo (ix2 k n) := by
  unfold Cert.Merge.stream Cert.Merge.mixed Cert.Ctx.proj
  pointwise [k0_pay2]

/-- The mean square of a row of the stream. -/
theorem meanAt (a : Vec Ideal S256x512 .bf16) (wa : Vec Ideal S512x1024 .bf16) (f : Vec Ideal S256x512 .bf16) (wf : Vec Ideal S512x1024 .bf16)
    (ga gf : Vec Ideal S256x1024 .bf16) (wo : Vec Ideal S1024x1024 .bf16) (x : Vec Ideal S256x1024 .f32) (g : Vec Ideal S1x1x1024 .f32)
    (y : FVec Ideal S256x1024 .f32) (hy : k0_pay2 a wa f wf ga gf wo x g = y) (r : Fin 256) :
    (k0_pay3 a wa f wf ga gf wo x g (ix2 r 0) : EReal)
      = Ideal.div (∑ k : Fin 1024, (y (ix2 r k) : EReal) * y (ix2 r k)) (Ideal.ofBits .f32 0x44800000#32) := by
  unfold k0_pay3
  rw [hy]
  pointwise
  rw [Cert.Ctx.mul_1024]

/-- An entry of the stream's modulated norm, from the row's mean square. -/
theorem normAt (y : FVec Ideal S256x1024 .f32) (s : FVec Ideal S256x1 .f32) (g : Vec Ideal S1x1024 .f32) (sc sh : Vec Ideal S1x1x1024 .f32) (r : Fin 256)
    (hs : (s (ix2 r 0) : EReal) = Ideal.div (∑ k : Fin 1024, (y (ix2 r k) : EReal) * y (ix2 r k)) (Ideal.ofBits .f32 0x44800000#32)) (n : Fin 1024) :
    (k0_pay5 y s (Scalar.ofBits .f32 0x358637BD#32) g sc sh (ix2 r n) : EReal)
      = Cert.Ctx.modulated (fun k => y (ix2 r k)) (fun k => g (ix2 0 k)) (fun k => sc (ix3 0 0 k)) (fun k => sh (ix3 0 0 k)) n := by
  unfold Cert.Ctx.modulated Cert.Ctx.normed
  rw [← hs]
  pointwise [k0_pay5, k0_pay4]

end Cert.Kernel4Ideal.Merge

end
-- ==== Proof.MergeArrays.lean ====
module

public import proofs.«01_k».proof.Proof.MergeBlock
public import proofs.«01_k».proof.Proof.Gen.Kernel4Ideal.Value

/-! The two arrays of the merge that are compared, each read at coordinates from the call's arguments: the residual stream
and its modulated norm. -/

@[expose] public section

set_option maxRecDepth 16384

noncomputable section

namespace Cert.Kernel4Ideal.Merge

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The gated sum of the two branches at a token. -/
def mixEntry (c : Dev nD) (i : Fin 8192) (k : Fin 1024) : EReal :=
  Cert.Merge.mixed (fun j => m ((c : Thread nD τ).loc main_arg1) (ix2 i j)) (fun j => m ((c : Thread nD τ).loc main_arg2) (ix2 i j))
    (fun j => m ((c : Thread nD τ).loc main_arg6) (ix2 j k)) (fun j => m ((c : Thread nD τ).loc main_arg7) (ix2 j k))
    (m ((c : Thread nD τ).loc main_arg3) (ix2 i k)) (m ((c : Thread nD τ).loc main_arg4) (ix2 i k))

/-- The residual stream at a token. -/
def streamEntry (c : Dev nD) (i : Fin 8192) (n : Fin 1024) : EReal :=
  Cert.Merge.stream (m ((c : Thread nD τ).loc main_arg0) (ix2 i n)) (m ((c : Thread nD τ).loc main_arg5) (ix3 0 2 n)) (mixEntry m c i)
    fun k => m ((c : Thread nD τ).loc main_arg8) (ix2 k n)

/-- The stream's modulated norm at a token. -/
def normEntry (c : Dev nD) (i : Fin 8192) (n : Fin 1024) : EReal :=
  Cert.Ctx.modulated (streamEntry m c i) (fun k => m ((c : Thread nD τ).loc main_arg9) (ix1 k))
    (fun k => m ((c : Thread nD τ).loc main_arg5) (ix3 0 4 k)) (fun k => m ((c : Thread nD τ).loc main_arg5) (ix3 0 3 k)) n

/-- The block index of the two outputs. -/
theorem outIdx : ∀ t : Fin grid0.N,
    win0_12.index t 0 = t.val ∧ win0_12.index t 1 = 0 ∧ win0_13.index t 0 = t.val ∧ win0_13.index t 1 = 0 := by
  decide +kernel

/-- A row of the modulation's block, loaded by itself, is a row of the argument. -/
theorem modRow (c : Dev nD) (t : Fin cfg0.N) (a : Fin 6) (inb) (k : Fin 1024) :
    View.ld (iblk m c 5 t) (Rect.unit (s := S1x6x1024) ![0, a.val, 0] ![1, 1, 1024] inb) (ix3 0 0 k)
      = m ((c : Thread nD τ).loc main_arg5) (ix3 0 a k) := by
  rw [View.ld_apply]
  refine (congrArg (iblk m c 5 t) (?_ : _ = ix3 0 a k)).trans (readMod m c t a k)
  funext b
  apply Fin.ext
  fin_cases b <;> simp [Rect.unit]

/-- Two streams of equal parts are equal. -/
theorem stream_congr {x x' g g' : EReal} {u u' w w' : Fin 1024 → EReal} (hx : x = x') (hg : g = g') (hu : u = u') (hw : w = w') :
    Cert.Merge.stream x g u w = Cert.Merge.stream x' g' u' w' := by rw [hx, hg, hu, hw]

/-- Two gated sums of equal parts are equal. -/
theorem mixed_congr {a a' f f' wa wa' wf wf' : Fin 512 → EReal} {ga ga' gf gf' : EReal} (ha : a = a') (hf : f = f') (hwa : wa = wa') (hwf : wf = wf')
    (hga : ga = ga') (hgf : gf = gf') : Cert.Merge.mixed a f wa wf ga gf = Cert.Merge.mixed a' f' wa' wf' ga' gf' := by
  rw [ha, hf, hwa, hwf, hga, hgf]

/-- Two modulated rows of equal parts are equal. -/
theorem modulated_congr {x x' g g' sc sc' sh sh' : Fin 1024 → EReal} (hx : x = x') (hg : g = g') (hsc : sc = sc') (hsh : sh = sh') (k : Fin 1024) :
    Cert.Ctx.modulated x g sc sh k = Cert.Ctx.modulated x' g' sc' sh' k := by rw [hx, hg, hsc, hsh]

/-- The rows that a grid point computes are the tile's rows of the stream. -/
theorem blockStream (c : Dev nD) (t : Fin cfg0.N) (r : Fin 256) (n : Fin 1024) :
    (k0_pay2 (iblk m c 1 t) (iblk m c 6 t) (iblk m c 2 t) (iblk m c 7 t) (iblk m c 3 t) (iblk m c 4 t) (iblk m c 8 t) (iblk m c 0 t)
        (View.ld (iblk m c 5 t) r0_4) (ix2 r n) : EReal)
      = streamEntry m c (row t r) n := by
  refine (streamAt _ _ _ _ _ _ _ _ _ r n).trans ?_
  unfold streamEntry mixEntry
  exact stream_congr (readX m c t r n) (modRow m c t 2 _ n)
    (funext fun k => mixed_congr (funext fun j => readAttn m c t r j) (funext fun j => readFm m c t r j) (funext fun j => readWa m c t j k)
      (funext fun j => readWf m c t j k) (readGa m c t r k) (readGf m c t r k))
    (funext fun k => readWo m c t k n)

/-- The stream's payload, with the blocks that it loads whole. -/
theorem whole_stream (x0 : Vec Ideal S256x1024 .f32) (x1 x2 : Vec Ideal S256x512 .bf16) (x3 x4 : Vec Ideal S256x1024 .bf16)
    (x5 : Vec Ideal S1x6x1024 .f32) (x6 x7 : Vec Ideal S512x1024 .bf16) (x8 : Vec Ideal S1024x1024 .bf16) (x9 : Vec Ideal S1x1024 .f32)
    (x10 : Vec Ideal S32x1024 .f32) (x11 : Vec Ideal S32x1 .f32) :
    k0_pay44 x0 x1 x2 x3 x4 x5 x6 x7 x8 x9 x10 x11 = k0_pay2 x1 x6 x2 x7 x3 x4 x8 x0 (View.ld x5 r0_4) := by
  unfold k0_pay44
  rw [View.ld_unit_zero (by funext a; fin_cases a <;> rfl) _ x1, View.ld_unit_zero (by funext a; fin_cases a <;> rfl) _ x6, View.ld_unit_zero (by funext a; fin_cases a <;> rfl) _ x2, View.ld_unit_zero (by funext a; fin_cases a <;> rfl) _ x7, View.ld_unit_zero (by funext a; fin_cases a <;> rfl) _ x3, View.ld_unit_zero (by funext a; fin_cases a <;> rfl) _ x4, View.ld_unit_zero (by funext a; fin_cases a <;> rfl) _ x8, View.ld_unit_zero (by funext a; fin_cases a <;> rfl) _ x0]

/-- The mean square's payload, with the blocks that it loads whole. -/
theorem whole_mean (x0 : Vec Ideal S256x1024 .f32) (x1 x2 : Vec Ideal S256x512 .bf16) (x3 x4 : Vec Ideal S256x1024 .bf16)
    (x5 : Vec Ideal S1x6x1024 .f32) (x6 x7 : Vec Ideal S512x1024 .bf16) (x8 : Vec Ideal S1024x1024 .bf16) (x9 : Vec Ideal S1x1024 .f32)
    (x10 : Vec Ideal S32x1024 .f32) (x11 : Vec Ideal S32x1 .f32) :
    k0_pay45 x0 x1 x2 x3 x4 x5 x6 x7 x8 x9 x10 x11 = k0_pay3 x1 x6 x2 x7 x3 x4 x8 x0 (View.ld x5 r0_4) := by
  unfold k0_pay45
  rw [View.ld_unit_zero (by funext a; fin_cases a <;> rfl) _ x1, View.ld_unit_zero (by funext a; fin_cases a <;> rfl) _ x6, View.ld_unit_zero (by funext a; fin_cases a <;> rfl) _ x2, View.ld_unit_zero (by funext a; fin_cases a <;> rfl) _ x7, View.ld_unit_zero (by funext a; fin_cases a <;> rfl) _ x3, View.ld_unit_zero (by funext a; fin_cases a <;> rfl) _ x4, View.ld_unit_zero (by funext a; fin_cases a <;> rfl) _ x8, View.ld_unit_zero (by funext a; fin_cases a <;> rfl) _ x0]

/-- Their modulated norms are the tile's. -/
theorem blockNorm (c : Dev nD) (t : Fin cfg0.N) (r : Fin 256) (n : Fin 1024) :
    (k0_pay5
        (k0_pay2 (iblk m c 1 t) (iblk m c 6 t) (iblk m c 2 t) (iblk m c 7 t) (iblk m c 3 t) (iblk m c 4 t) (iblk m c 8 t) (iblk m c 0 t)
          (View.ld (iblk m c 5 t) r0_4))
        (k0_pay3 (iblk m c 1 t) (iblk m c 6 t) (iblk m c 2 t) (iblk m c 7 t) (iblk m c 3 t) (iblk m c 4 t) (iblk m c 8 t) (iblk m c 0 t)
          (View.ld (iblk m c 5 t) r0_4))
        (Scalar.ofBits .f32 0x358637BD#32) (iblk m c 9 t) (View.ld (iblk m c 5 t) r0_6) (View.ld (iblk m c 5 t) r0_7) (ix2 r n) : EReal)
      = normEntry m c (row t r) n := by
  refine (normAt _ _ _ _ _ r (meanAt _ _ _ _ _ _ _ _ _ _ rfl r) n).trans ?_
  unfold normEntry
  exact modulated_congr (funext fun k => blockStream m c t r k) (funext fun k => readG2 m c t k) (funext fun k => modRow m c t 4 _ k)
    (funext fun k => modRow m c t 3 _ k) n

/-- The array of the residual stream. -/
theorem streamArray (c : Dev nD) :
    (dats m 0 c).arrAt 12 cfg0.N = fun y => streamEntry m c (y 0) (y 1) := by
  refine (dats m 0 c).arrAt_eq_of_covers 12 _ (by decide +kernel) fun t hf y => ?_
  obtain ⟨r, n, rfl⟩ : ∃ (r : Fin 256) (n : Fin 1024), y = ix2 r n := ⟨y 0, y 1, by funext k; fin_cases k <;> rfl⟩
  rw [show ((cfg0.win 12).blk t).view.emb (ix2 r n) = ix2 (row t r) n by blk_ext [outIdx t, row]]
  blk_simp
  rw [after0_12]
  frame_out
  exact blockStream m c t r n

/-- The array of the modulated rows. -/
theorem normArray (c : Dev nD) :
    (dats m 0 c).arrAt 13 cfg0.N = fun y => normEntry m c (y 0) (y 1) := by
  refine (dats m 0 c).arrAt_eq_of_covers 13 _ (by decide +kernel) fun t hf y => ?_
  obtain ⟨r, n, rfl⟩ : ∃ (r : Fin 256) (n : Fin 1024), y = ix2 r n := ⟨y 0, y 1, by funext k; fin_cases k <;> rfl⟩
  rw [show ((cfg0.win 13).blk t).view.emb (ix2 r n) = ix2 (row t r) n by blk_ext [outIdx t, row]]
  blk_simp
  rw [after0_13]
  frame_out
  rw [whole_stream, whole_mean]
  exact blockNorm m c t r n

end Cert.Kernel4Ideal.Merge

end
-- ==== Proof.MergeRef.lean ====
module

public import proofs.«01_k».proof.Proof.MergeRows
public import proofs.«01_k».proof.Proof.Gen.Reference4Ideal
public import Idealize.ShloMosaic.Lib.Pointwise
public import Idealize.ShloMosaic.Lib.Claim

/-! The reference merge of the two branches, read at coordinates. -/

@[expose] public section

set_option maxRecDepth 16384

noncomputable section

namespace Cert.Reference4Ideal.Merge

open Cert.Reference4Ideal Cert.Reference4Ideal.Gen Idealize.ShloMosaic Idealize.ShloMosaic.TcCoe

/-- The gated sum of the two branches. -/
def mix (a f : FVec Ideal S8192x512 .bf16) (ga gf : FVec Ideal S8192x1024 .bf16) (wa wf : FVec Ideal S512x1024 .f32) : FVec Ideal S8192x1024 .f32 :=
  addf (mulf (extf .f32 ga bitsLt_bf16_f32) (Host.dotGeneral dot_S8192x512_S512x1024_S8192x1024_1_0_0_1_n_n none (extf .f32 a bitsLt_bf16_f32) wa)) (mulf (extf .f32 gf bitsLt_bf16_f32) (Host.dotGeneral dot_S8192x512_S512x1024_S8192x1024_1_0_0_1_n_n none (extf .f32 f bitsLt_bf16_f32) wf))

/-- An entry of the gated sum. -/
theorem mixAt (a f : FVec Ideal S8192x512 .bf16) (ga gf : FVec Ideal S8192x1024 .bf16) (wa wf : FVec Ideal S512x1024 .f32) (r : Fin 8192) (n : Fin 1024) :
    mix a f ga gf wa wf (ix2 r n)
      = Cert.Merge.mixed (fun k => a (ix2 r k)) (fun k => f (ix2 r k)) (fun k => wa (ix2 k n)) (fun k => wf (ix2 k n)) (ga (ix2 r n)) (gf (ix2 r n)) := by
  unfold Cert.Merge.mixed
  pointwise [mix]

/-- The residual stream after the mixing. -/
def streams (x : FVec Ideal S8192x1024 .f32) (md : FVec Ideal S8x6x1024 .f32) (u : FVec Ideal S8192x1024 .f32) (w : FVec Ideal S1024x1024 .f32) : FVec Ideal S8192x1024 .f32 :=
  addf x (mulf (broadcastInDim S8192x1024 ![0, 1] bcast_S1x1024_S8192x1024_0_1 (broadcastInDim S1x1024 ![1] bcast_S1024_S1x1024_1 (shapeCast _ (extractStridedSlice S1x1x1024 ![0, 2, 0] md slices_S8x6x1024_S1x1x1024_0_2_0) shapeCasts_S1x1x1024_S1024))) (Host.dotGeneral dot_S8192x1024_S1024x1024_S8192x1024_1_0_0_1_n_n none u w))

/-- An entry of the residual stream. -/
theorem streamsAt (x : FVec Ideal S8192x1024 .f32) (md : FVec Ideal S8x6x1024 .f32) (u : FVec Ideal S8192x1024 .f32) (w : FVec Ideal S1024x1024 .f32) (r : Fin 8192) (n : Fin 1024) :
    streams x md u w (ix2 r n) = Cert.Merge.stream (x (ix2 r n)) (md (ix3 0 2 n)) (fun k => u (ix2 r k)) fun k => w (ix2 k n) := by
  unfold Cert.Merge.stream Cert.Ctx.proj
  pointwise [streams]

/-- The modulated rows of the stream. -/
def rows (y : FVec Ideal S8192x1024 .f32) (md : FVec Ideal S8x6x1024 .f32) (g : FVec Ideal S1024 .f32) : FVec Ideal S8192x1024 .bf16 :=
  truncf .bf16 (addf (mulf (mulf (mulf y (broadcastInDim S8192x1024 ![0, 1] bcast_S8192x1_S8192x1024_0_1 (Host.rsqrt (addf (Host.divf (broadcastInDim S8192x1 ![0] bcast_S8192_S8192x1_0 (Host.reduceAdd (mulf y y) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) (broadcastInDim S8192x1024 ![0, 1] bcast_S1x1024_S8192x1024_0_1 (broadcastInDim S1x1024 ![1] bcast_S1024_S1x1024_1 (addf (broadcastInDim S1024 ![] bcast_S_S1024 (constant S_ .f32 0x3F800000#32)) (shapeCast _ (extractStridedSlice S1x1x1024 ![0, 4, 0] md slices_S8x6x1024_S1x1x1024_0_4_0) shapeCasts_S1x1x1024_S1024))))) (broadcastInDim S8192x1024 ![0, 1] bcast_S1x1024_S8192x1024_0_1 (broadcastInDim S1x1024 ![1] bcast_S1024_S1x1024_1 (shapeCast _ (extractStridedSlice S1x1x1024 ![0, 3, 0] md slices_S8x6x1024_S1x1x1024_0_3_0) shapeCasts_S1x1x1024_S1024)))) bitsLt_bf16_f32

/-- A modulated row's entry. -/
theorem rowsAt (y : FVec Ideal S8192x1024 .f32) (md : FVec Ideal S8x6x1024 .f32) (g : FVec Ideal S1024 .f32) (r : Fin 8192) (k : Fin 1024) :
    rows y md g (ix2 r k)
      = Cert.Ctx.modulated (fun k => y (ix2 r k)) (fun k => g (ix1 k)) (fun k => md (ix3 0 4 k)) (fun k => md (ix3 0 3 k)) k := by
  unfold Cert.Ctx.modulated Cert.Ctx.normed
  pointwise [rows]

end Cert.Reference4Ideal.Merge

end
-- ==== Proof.MergeClaim.lean ====
module

public import proofs.«01_k».proof.Defs
public import proofs.«01_k».proof.Proof.Gen.Reference4Ideal.Run
public import proofs.«01_k».proof.Proof.MergeArrays
public import proofs.«01_k».proof.Proof.MergeRef

/-! The merge's two arrays are the reference's, of the same arguments: its claim of values. -/

@[expose] public section

set_option maxRecDepth 16384

noncomputable section

namespace Cert.Kernel4Ideal.Merge

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The reference's stream, of the arguments. -/
def refStream (c : Dev nD) : FVec Ideal Cert.Reference4Ideal.S8192x1024 .f32 :=
  Cert.Reference4Ideal.Merge.streams (m ((c : Thread nD τ).loc main_arg0)) (m ((c : Thread nD τ).loc main_arg5))
    (Cert.Reference4Ideal.Merge.mix (m ((c : Thread nD τ).loc main_arg1)) (m ((c : Thread nD τ).loc main_arg2)) (m ((c : Thread nD τ).loc main_arg3))
      (m ((c : Thread nD τ).loc main_arg4)) (m ((c : Thread nD τ).loc main_arg6)) (m ((c : Thread nD τ).loc main_arg7)))
    (m ((c : Thread nD τ).loc main_arg8))

/-- Its entry is the token's. -/
theorem refStreamAt (c : Dev nD) (i : Fin 8192) (n : Fin 1024) : refStream m c (ix2 i n) = streamEntry m c i n := by
  unfold refStream streamEntry mixEntry
  rw [Cert.Reference4Ideal.Merge.streamsAt]
  exact stream_congr rfl rfl (funext fun k => Cert.Reference4Ideal.Merge.mixAt _ _ _ _ _ _ i k) rfl

/-- The residual stream. -/
theorem stream_result (c : Dev nD) : refStream m c = (dats m 0 c).arrAt 12 cfg0.N := by
  rw [streamArray]
  funext y
  obtain ⟨i, n, rfl⟩ : ∃ (i : Fin 8192) (n : Fin 1024), y = ix2 i n := ⟨y 0, y 1, by funext k; fin_cases k <;> rfl⟩
  exact refStreamAt m c i n

/-- The modulated rows. -/
theorem norm_result (c : Dev nD) :
    Cert.Reference4Ideal.Merge.rows (refStream m c) (m ((c : Thread nD τ).loc main_arg5)) (m ((c : Thread nD τ).loc main_arg9))
      = (dats m 0 c).arrAt 13 cfg0.N := by
  rw [normArray]
  funext y
  obtain ⟨i, n, rfl⟩ : ∃ (i : Fin 8192) (n : Fin 1024), y = ix2 i n := ⟨y 0, y 1, by funext k; fin_cases k <;> rfl⟩
  rw [Cert.Reference4Ideal.Merge.rowsAt]
  exact modulated_congr (funext fun k => refStreamAt m c i k) rfl rfl rfl n

/-- The idealized merge's stream and modulated rows are the reference's. -/
theorem algebraic4 : Cert.algebraic_Kernel4Ideal_Reference4Ideal (hKernel4Ideal := Cert.Kernel4Ideal.Gen.facts) (hReference4Ideal := Cert.Reference4Ideal.Gen.facts) := by
  pair_intro
  · run_from Cert.Kernel4Ideal.Value.run_blocks m g
  · run_from Cert.Reference4Ideal.Value.run m' g'
    · exact stream_result m c
    · obtain ⟨a0, a1, a2, a3, a4, a5, a6, a7, a8, a9, a10⟩ := hagree c
      unfold Cert.Reference4Ideal.Value.res_main_v41
      rw [a0, a1, a2, a3, a4, a5, a6, a7, a8, a9]
      exact norm_result m c

end Cert.Kernel4Ideal.Merge

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Compare
public import proofs.«01_k».proof.Proof.Inputs
public import proofs.«01_k».proof.Proof.MoeCompare
public import proofs.«01_k».proof.Proof.CtxClaim
public import proofs.«01_k».proof.Proof.MergeClaim

/-! The claims, each from its run: the programs run and leave their arguments, the named constant is the table's, and on
real inputs the idealized kernel's two results are the reference's. -/

@[expose] public section

set_option maxRecDepth 16384

noncomputable section

namespace Cert.Proof

open Idealize.ShloMosaic Idealize.ShloMosaic.TcCoe Idealize.SL.Sem

/-- The first result, on real inputs, is the reference's. -/
theorem first_result (m : (ℓ : Loc Cert.KernelIdeal.nD Cert.KernelIdeal.τ Cert.KernelIdeal.sig) → Buf (Elt Ideal) ℓ) (hpre : Cert.Pre_KernelIdeal_finite_inputs (hPre_finite_inputs := Cert.Pre_finite_inputs.Gen.facts) m)
    (c : Dev Cert.KernelIdeal.nD) :
    Cert.ReferenceIdeal.Attn.outs
        (Cert.ReferenceIdeal.Attn.vals (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg5)))
        (Cert.ReferenceIdeal.Attn.probs (Cert.ReferenceIdeal.Attn.exps (Cert.ReferenceIdeal.Attn.scores (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)))))
      = Cert.KernelIdeal.Value.G11 m c := by
  obtain ⟨h0, h1, h3, h4, h5, h6⟩ := Cert.Attn.inputs_real _ _ _ _ _ _ _ _ _ _ (hpre c)
  funext y
  obtain ⟨b, i, n, rfl⟩ : ∃ (b : Fin 2) (i : Fin 1024) (n : Fin 512), y = ix3 b i n := ⟨y 0, y 1, y 2, by funext k; fin_cases k <;> rfl⟩
  obtain ⟨h, d, rfl⟩ : ∃ (h : Fin 8) (d : Fin 64), n = (⟨64 * h.val + d.val, by omega⟩ : Fin 512) :=
    ⟨⟨n.val / 64, by omega⟩, ⟨n.val % 64, by omega⟩, Fin.ext (by simp only; omega)⟩
  refine Eq.trans ?_ (Cert.KernelIdeal.Attn.firstAt m c b i h d).symm
  refine (Cert.Attn.attn_eq _ _ _ _ _ _ _ h0 h1 h3 h4 h5 h6 _ _ b i h d (fun k l => ?_) fun k => ?_).symm
  · exact Cert.Attn.keyRow_eq _ _ _ _ _ _ _ b k h (fun a l => Cert.KernelIdeal.Attn.hostWk m c a h l) (fun l => Cert.KernelIdeal.Attn.hostPe m c b k l) (fun l => Cert.KernelIdeal.Attn.hostG m c l) l
  · exact Cert.Attn.valRow_eq _ _ _ b k h d fun a => Cert.KernelIdeal.Attn.hostWv m c h d a

/-- On real inputs the idealized kernel's results are the reference's. -/
theorem algebraic : Cert.algebraic_KernelIdeal_ReferenceIdeal_pre_finite_inputs (hKernelIdeal := Cert.KernelIdeal.Gen.facts) (hReferenceIdeal := Cert.ReferenceIdeal.Gen.facts) (hPre_finite_inputs := Cert.Pre_finite_inputs.Gen.facts) := by
  pair_intro
  · run_from Cert.KernelIdeal.Value.run m g
  · run_from Cert.ReferenceIdeal.Value.run m' g'
    · obtain ⟨a0, a1, a2, a3, a4, a5, a6, -⟩ := hagree c
      rw [Cert.ReferenceIdeal.Attn.first_eq, a0, a1, a2, a3, a4, a5, a6]
      exact first_result m hpre c
    · funext y
      obtain ⟨b, i, n, rfl⟩ : ∃ (b : Fin 2) (i : Fin 1024) (n : Fin 512), y = ix3 b i n := ⟨y 0, y 1, y 2, by funext k; fin_cases k <;> rfl⟩
      refine (Cert.ReferenceIdeal.Attn.fmAt _ _ _ b i n).trans (Eq.trans ?_ (Cert.KernelIdeal.Attn.secondAt m c b i n).symm)
      unfold Cert.KernelIdeal.Attn.mixRow
      exact congrArg₂ (· + ·) (Finset.sum_congr rfl fun k _ => mul_comm _ _) (Finset.sum_congr rfl fun k _ => mul_comm _ _)

/-- The reference runs, leaves its arguments and has no counters. -/
theorem reference_frame : Cert.quiescent_ReferenceIdeal (hReferenceIdeal := Cert.ReferenceIdeal.Gen.facts) :=
  fun m g _ => (θ_run _ _ _).mono (fun r h => ⟨fun c => (h c).2.2, sem_eq_zero_of_no_sems (by decide) r.2⟩) (Cert.ReferenceIdeal.Value.run m g)

/-- The idealized mixture of experts' result is the reference's. -/
theorem algebraic2 : Cert.algebraic_Kernel2Ideal_Reference2Ideal (hKernel2Ideal := Cert.Kernel2Ideal.Gen.facts) (hReference2Ideal := Cert.Reference2Ideal.Gen.facts) := by
  pair_intro
  · run_from Cert.Kernel2Ideal.Value.run m g
  · run_from Cert.Reference2Ideal.Value.run m' g'
    exact Cert.Kernel2Ideal.Moe.result_eq m c

/-- The second reference runs, leaves its arguments and has no counters. -/
theorem reference2_frame : Cert.quiescent_Reference2Ideal (hReference2Ideal := Cert.Reference2Ideal.Gen.facts) :=
  fun m g _ => (θ_run _ _ _).mono (fun r h => ⟨fun c => (h c).2, sem_eq_zero_of_no_sems (by decide) r.2⟩) (Cert.Reference2Ideal.Value.run m g)

/-- The third reference runs, leaves its arguments and has no counters. -/
theorem reference3_frame : Cert.quiescent_Reference3Ideal (hReference3Ideal := Cert.Reference3Ideal.Gen.facts) :=
  fun m g _ => (θ_run _ _ _).mono (fun r h => ⟨fun c => (h c).2.2.2.2.2.2.2.2, sem_eq_zero_of_no_sems (by decide) r.2⟩) (Cert.Reference3Ideal.Value.run m g)

/-- The fourth reference runs, leaves its arguments and has no counters. -/
theorem reference4_frame : Cert.quiescent_Reference4Ideal (hReference4Ideal := Cert.Reference4Ideal.Gen.facts) :=
  fun m g _ => (θ_run _ _ _).mono (fun r h => ⟨fun c => (h c).2.2, sem_eq_zero_of_no_sems (by decide) r.2⟩) (Cert.Reference4Ideal.Value.run m g)

/-- The claims. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite_inputs.Gen.facts,
    fun m g _ => Cert.Kernel.Gen.frame m g,
    fun m g _ => Cert.KernelIdeal.Gen.frame m g,
    fun m g _ => Cert.KernelIdeal.Gen.frame m g,
    reference_frame,
    fun m g _ => reference_frame m g trivial,
    fun m g _ => Cert.Kernel2.Gen.frame m g,
    fun m g _ => Cert.Kernel2Ideal.Gen.frame m g,
    reference2_frame,
    fun m g _ => Cert.Kernel3.Gen.frame m g,
    fun m g _ => Cert.Kernel3Ideal.Gen.frame m g,
    reference3_frame,
    fun m g _ => Cert.Kernel4.Gen.frame m g,
    fun m g _ => Cert.Kernel4Ideal.Gen.frame m g,
    reference4_frame,
    IdealRules.named_const.statement _ _ _ _ _ rfl,
    algebraic,
    trivial,
    algebraic2,
    IdealRules.named_const.statement _ _ _ _ _ rfl,
    Cert.Kernel3Ideal.Ctx.algebraic3,
    trivial,
    Cert.Kernel4Ideal.Merge.algebraic4⟩

end Cert.Proof

end
